-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2, 4] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S1024x512 : Shape := ⟨2, ![1024, 512]⟩
abbrev S960x1024 : Shape := ⟨2, ![960, 1024]⟩
abbrev S2 : Shape := ⟨1, ![2]⟩
abbrev S8x4 : Shape := ⟨2, ![8, 4]⟩
abbrev S1 : Shape := ⟨1, ![1]⟩
abbrev S_ : Shape := ⟨0, ![]⟩
abbrev S1x1 : Shape := ⟨2, ![1, 1]⟩
abbrev S512x256 : Shape := ⟨2, ![512, 256]⟩
abbrev S256x256 : Shape := ⟨2, ![256, 256]⟩
abbrev S128x256 : Shape := ⟨2, ![128, 256]⟩
abbrev S64x256 : Shape := ⟨2, ![64, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .f32⟩
  | .local _ .vmem, ⟨0, _⟩ => ⟨S1024x1024, .f32⟩
  | .local _ .vmem, ⟨1, _⟩ => ⟨S1024x512, .f32⟩
  | .local _ .vmem, ⟨2, _⟩ => ⟨S1024x512, .f32⟩
  | .local _ .vmem, ⟨3, _⟩ => ⟨S1024x1024, .bf16⟩
  | .local _ .vmem, ⟨4, _⟩ => ⟨S960x1024, .bf16⟩
  | .local _ .vmem, ⟨5, _⟩ => ⟨S1024x1024, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_4 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  ![0, v11.toNat]
def k0_dev1 (d0 : Dev nD) : Nat :=
  let c0_i32_13 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_12 : BitVec 32 := 8#32
  let v24 : BitVec 32 := Scalar.muli v19 c8_i32_12
  let v25 : BitVec 32 := Scalar.addi c0_i32_13 v24
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v26 : BitVec 32 := Scalar.muli v5 c4_i32_14
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v28 : BitVec 32 := Scalar.muli v8 c1_i32_15
  let v29 : BitVec 32 := Scalar.addi v27 v28
  v29.toNat
def k0_dev2 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v30 : BitVec 32 := Scalar.muli v2 c8_i32_17
  let v31 : BitVec 32 := Scalar.addi c0_i32_18 v30
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_19 : BitVec 32 := 4#32
  let v32 : BitVec 32 := Scalar.muli v20 c4_i32_19
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v34 : BitVec 32 := Scalar.muli v8 c1_i32_20
  let v35 : BitVec 32 := Scalar.addi v33 v34
  v35.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v36 : BitVec 32 := Scalar.muli v2 c8_i32_22
  let v37 : BitVec 32 := Scalar.addi c0_i32_23 v36
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v38 : BitVec 32 := Scalar.muli v5 c4_i32_24
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.xori v8 c1_i32_9
  let c1_i32_25 : BitVec 32 := 1#32
  let v40 : BitVec 32 := Scalar.muli v21 c1_i32_25
  let v41 : BitVec 32 := Scalar.addi v39 v40
  v41.toNat
def k0_dev4 (d0 : Dev nD) : Nat :=
  let c0_i32_28 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_27 : BitVec 32 := 8#32
  let v42 : BitVec 32 := Scalar.muli v2 c8_i32_27
  let v43 : BitVec 32 := Scalar.addi c0_i32_28 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v44 : BitVec 32 := Scalar.muli v5 c4_i32_29
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v22 : BitVec 32 := Scalar.xori v8 c2_i32_10
  let c1_i32_30 : BitVec 32 := 1#32
  let v46 : BitVec 32 := Scalar.muli v22 c1_i32_30
  let v47 : BitVec 32 := Scalar.addi v45 v46
  v47.toNat
def k0_off2 (d0 : Dev nD) : Fin 2 → Nat :=
  let c0_i32_47 : BitVec 32 := 0#32
  let c1_i32_45 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_45 v2
  let c8_i32_46 : BitVec 32 := 8#32
  let v68 : BitVec 32 := Scalar.muli v67 c8_i32_46
  let v69 : BitVec 32 := Scalar.addi c0_i32_47 v68
  let c64_i32 : BitVec 32 := 64#32
  let v70 : BitVec 32 := Scalar.muli v69 c64_i32
  let c0_i32_58 : BitVec 32 := 0#32
  ![v70.toNat, 0]
def k0_dev5 (d0 : Dev nD) : Nat :=
  let c0_i32_53 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_52 : BitVec 32 := 8#32
  let v71 : BitVec 32 := Scalar.muli v19 c8_i32_52
  let v72 : BitVec 32 := Scalar.addi c0_i32_53 v71
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v73 : BitVec 32 := Scalar.muli v5 c4_i32_54
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v75 : BitVec 32 := Scalar.muli v8 c1_i32_55
  let v76 : BitVec 32 := Scalar.addi v74 v75
  v76.toNat
def k0_off3 (d0 : Dev nD) : Fin 2 → Nat :=
  let c0_i32_63 : BitVec 32 := 0#32
  let c1_i32_61 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v85 : BitVec 32 := Scalar.subi c1_i32_61 v5
  let c8_i32_62 : BitVec 32 := 8#32
  let v86 : BitVec 32 := Scalar.muli v85 c8_i32_62
  let v87 : BitVec 32 := Scalar.addi c0_i32_63 v86
  let c64_i32_64 : BitVec 32 := 64#32
  let v88 : BitVec 32 := Scalar.muli v87 c64_i32_64
  let c256_i32_74 : BitVec 32 := 256#32
  ![v88.toNat, 256]
def k0_dev6 (d0 : Dev nD) : Nat :=
  let c0_i32_70 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_69 : BitVec 32 := 8#32
  let v89 : BitVec 32 := Scalar.muli v2 c8_i32_69
  let v90 : BitVec 32 := Scalar.addi c0_i32_70 v89
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_71 : BitVec 32 := 4#32
  let v91 : BitVec 32 := Scalar.muli v20 c4_i32_71
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v93 : BitVec 32 := Scalar.muli v8 c1_i32_72
  let v94 : BitVec 32 := Scalar.addi v92 v93
  v94.toNat
def k0_off4 (d0 : Dev nD) : Fin 2 → Nat :=
  let c0_i32_79 : BitVec 32 := 0#32
  let c1_i32_77 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let v103 : BitVec 32 := Scalar.subi c1_i32_77 v63
  let c8_i32_78 : BitVec 32 := 8#32
  let v104 : BitVec 32 := Scalar.muli v103 c8_i32_78
  let v105 : BitVec 32 := Scalar.addi c0_i32_79 v104
  let c64_i32_80 : BitVec 32 := 64#32
  let v106 : BitVec 32 := Scalar.muli v105 c64_i32_80
  let c512_i32_91 : BitVec 32 := 512#32
  ![v106.toNat, 512]
def k0_dev7 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v107 : BitVec 32 := Scalar.muli v2 c8_i32_85
  let v108 : BitVec 32 := Scalar.addi c0_i32_86 v107
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v109 : BitVec 32 := Scalar.muli v5 c4_i32_87
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.xori v8 c1_i32_9
  let c1_i32_88 : BitVec 32 := 1#32
  let v111 : BitVec 32 := Scalar.muli v21 c1_i32_88
  let v112 : BitVec 32 := Scalar.addi v110 v111
  v112.toNat
def k0_off5 (d0 : Dev nD) : Fin 2 → Nat :=
  let c0_i32_96 : BitVec 32 := 0#32
  let c1_i32_94 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let v121 : BitVec 32 := Scalar.subi c1_i32_94 v64
  let c8_i32_95 : BitVec 32 := 8#32
  let v122 : BitVec 32 := Scalar.muli v121 c8_i32_95
  let v123 : BitVec 32 := Scalar.addi c0_i32_96 v122
  let c64_i32_97 : BitVec 32 := 64#32
  let v124 : BitVec 32 := Scalar.muli v123 c64_i32_97
  let c768_i32_106 : BitVec 32 := 768#32
  ![v124.toNat, 768]
def k0_dev8 (d0 : Dev nD) : Nat :=
  let c0_i32_102 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_101 : BitVec 32 := 8#32
  let v125 : BitVec 32 := Scalar.muli v2 c8_i32_101
  let v126 : BitVec 32 := Scalar.addi c0_i32_102 v125
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_103 : BitVec 32 := 4#32
  let v127 : BitVec 32 := Scalar.muli v5 c4_i32_103
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v22 : BitVec 32 := Scalar.xori v8 c2_i32_10
  let c1_i32_104 : BitVec 32 := 1#32
  let v129 : BitVec 32 := Scalar.muli v22 c1_i32_104
  let v130 : BitVec 32 := Scalar.addi v128 v129
  v130.toNat
def k0_off6 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let c64_i32_118 : BitVec 32 := 64#32
  let v147 : BitVec 32 := Scalar.muli v66 c64_i32_118
  let v148 : Index := Scalar.indexCast v147
  let c0_119 : Index := 0#32
  ![v148.toNat, 0]
def k0_off7 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let c1_i32_124 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v158 : BitVec 32 := Scalar.subi c1_i32_124 v5
  let c4_i32_125 : BitVec 32 := 4#32
  let v159 : BitVec 32 := Scalar.muli v158 c4_i32_125
  let v160 : BitVec 32 := Scalar.addi v66 v159
  let c64_i32_126 : BitVec 32 := 64#32
  let v161 : BitVec 32 := Scalar.muli v160 c64_i32_126
  let c0_i32_137 : BitVec 32 := 0#32
  ![v161.toNat, 0]
def k0_dev9 (d0 : Dev nD) : Nat :=
  let c0_i32_132 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_131 : BitVec 32 := 8#32
  let v162 : BitVec 32 := Scalar.muli v2 c8_i32_131
  let v163 : BitVec 32 := Scalar.addi c0_i32_132 v162
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_133 : BitVec 32 := 4#32
  let v164 : BitVec 32 := Scalar.muli v20 c4_i32_133
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v166 : BitVec 32 := Scalar.muli v8 c1_i32_134
  let v167 : BitVec 32 := Scalar.addi v165 v166
  v167.toNat
def k0_off8 (d0 : Dev nD) : Fin 2 → Nat :=
  let c0_i32_60 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_59 : BitVec 32 := 8#32
  let v83 : BitVec 32 := Scalar.muli v5 c8_i32_59
  let v84 : BitVec 32 := Scalar.addi c0_i32_60 v83
  let c64_i32_149 : BitVec 32 := 64#32
  let v184 : BitVec 32 := Scalar.muli v84 c64_i32_149
  let v185 : Index := Scalar.indexCast v184
  let c256 : Index := 256#32
  ![v185.toNat, 256]
def k0_off9 (d0 : Dev nD) : Fin 2 → Nat :=
  let c0_i32_60 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_59 : BitVec 32 := 8#32
  let v83 : BitVec 32 := Scalar.muli v5 c8_i32_59
  let v84 : BitVec 32 := Scalar.addi c0_i32_60 v83
  let c1_i32_154 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let v195 : BitVec 32 := Scalar.subi c1_i32_154 v63
  let c4_i32_155 : BitVec 32 := 4#32
  let v196 : BitVec 32 := Scalar.muli v195 c4_i32_155
  let v197 : BitVec 32 := Scalar.addi v84 v196
  let c64_i32_156 : BitVec 32 := 64#32
  let v198 : BitVec 32 := Scalar.muli v197 c64_i32_156
  let c256_i32_167 : BitVec 32 := 256#32
  ![v198.toNat, 256]
def k0_dev10 (d0 : Dev nD) : Nat :=
  let c0_i32_162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_161 : BitVec 32 := 8#32
  let v199 : BitVec 32 := Scalar.muli v2 c8_i32_161
  let v200 : BitVec 32 := Scalar.addi c0_i32_162 v199
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_163 : BitVec 32 := 4#32
  let v201 : BitVec 32 := Scalar.muli v5 c4_i32_163
  let v202 : BitVec 32 := Scalar.addi v200 v201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.xori v8 c1_i32_9
  let c1_i32_164 : BitVec 32 := 1#32
  let v203 : BitVec 32 := Scalar.muli v21 c1_i32_164
  let v204 : BitVec 32 := Scalar.addi v202 v203
  v204.toNat
def k0_off10 (d0 : Dev nD) : Fin 2 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c8_i32_75 : BitVec 32 := 8#32
  let v101 : BitVec 32 := Scalar.muli v63 c8_i32_75
  let v102 : BitVec 32 := Scalar.addi c0_i32_76 v101
  let c64_i32_179 : BitVec 32 := 64#32
  let v221 : BitVec 32 := Scalar.muli v102 c64_i32_179
  let v222 : Index := Scalar.indexCast v221
  let c512 : Index := 512#32
  ![v222.toNat, 512]
def k0_off11 (d0 : Dev nD) : Fin 2 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c8_i32_75 : BitVec 32 := 8#32
  let v101 : BitVec 32 := Scalar.muli v63 c8_i32_75
  let v102 : BitVec 32 := Scalar.addi c0_i32_76 v101
  let c1_i32_184 : BitVec 32 := 1#32
  let c1_i32_42 : BitVec 32 := 1#32
  let v64 : BitVec 32 := Scalar.shrsi v8 c1_i32_42
  let v232 : BitVec 32 := Scalar.subi c1_i32_184 v64
  let c4_i32_185 : BitVec 32 := 4#32
  let v233 : BitVec 32 := Scalar.muli v232 c4_i32_185
  let v234 : BitVec 32 := Scalar.addi v102 v233
  let c64_i32_186 : BitVec 32 := 64#32
  let v235 : BitVec 32 := Scalar.muli v234 c64_i32_186
  let c512_i32_197 : BitVec 32 := 512#32
  ![v235.toNat, 512]
def k0_dev11 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v236 : BitVec 32 := Scalar.muli v2 c8_i32_191
  let v237 : BitVec 32 := Scalar.addi c0_i32_192 v236
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v238 : BitVec 32 := Scalar.muli v5 c4_i32_193
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v22 : BitVec 32 := Scalar.xori v8 c2_i32_10
  let c1_i32_194 : BitVec 32 := 1#32
  let v240 : BitVec 32 := Scalar.muli v22 c1_i32_194
  let v241 : BitVec 32 := Scalar.addi v239 v240
  v241.toNat
def k0_off12 (d0 : Dev nD) : Fin 2 → Nat :=
  let c0_i32_93 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let c8_i32_92 : BitVec 32 := 8#32
  let v119 : BitVec 32 := Scalar.muli v64 c8_i32_92
  let v120 : BitVec 32 := Scalar.addi c0_i32_93 v119
  let c64_i32_209 : BitVec 32 := 64#32
  let v258 : BitVec 32 := Scalar.muli v120 c64_i32_209
  let v259 : Index := Scalar.indexCast v258
  let c768 : Index := 768#32
  ![v259.toNat, 768]
def k0_off13 (d0 : Dev nD) : Fin 2 → Nat :=
  let c0_i32_93 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let c8_i32_92 : BitVec 32 := 8#32
  let v119 : BitVec 32 := Scalar.muli v64 c8_i32_92
  let v120 : BitVec 32 := Scalar.addi c0_i32_93 v119
  let c1_i32_214 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v269 : BitVec 32 := Scalar.subi c1_i32_214 v2
  let c4_i32_215 : BitVec 32 := 4#32
  let v270 : BitVec 32 := Scalar.muli v269 c4_i32_215
  let v271 : BitVec 32 := Scalar.addi v120 v270
  let c64_i32_216 : BitVec 32 := 64#32
  let v272 : BitVec 32 := Scalar.muli v271 c64_i32_216
  let c768_i32_227 : BitVec 32 := 768#32
  ![v272.toNat, 768]
def k0_dev12 (d0 : Dev nD) : Nat :=
  let c0_i32_222 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_221 : BitVec 32 := 8#32
  let v273 : BitVec 32 := Scalar.muli v19 c8_i32_221
  let v274 : BitVec 32 := Scalar.addi c0_i32_222 v273
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_223 : BitVec 32 := 4#32
  let v275 : BitVec 32 := Scalar.muli v5 c4_i32_223
  let v276 : BitVec 32 := Scalar.addi v274 v275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v277 : BitVec 32 := Scalar.muli v8 c1_i32_224
  let v278 : BitVec 32 := Scalar.addi v276 v277
  v278.toNat
def k0_off14 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_123 : BitVec 32 := 4#32
  let v156 : BitVec 32 := Scalar.muli v5 c4_i32_123
  let v157 : BitVec 32 := Scalar.addi v66 v156
  let c64_i32_239 : BitVec 32 := 64#32
  let v295 : BitVec 32 := Scalar.muli v157 c64_i32_239
  let v296 : Index := Scalar.indexCast v295
  let c0_240 : Index := 0#32
  ![v296.toNat, 0]
def k0_off15 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_123 : BitVec 32 := 4#32
  let v156 : BitVec 32 := Scalar.muli v5 c4_i32_123
  let v157 : BitVec 32 := Scalar.addi v66 v156
  let c1_i32_245 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let v306 : BitVec 32 := Scalar.subi c1_i32_245 v63
  let c2_i32_246 : BitVec 32 := 2#32
  let v307 : BitVec 32 := Scalar.muli v306 c2_i32_246
  let v308 : BitVec 32 := Scalar.addi v157 v307
  let c64_i32_247 : BitVec 32 := 64#32
  let v309 : BitVec 32 := Scalar.muli v308 c64_i32_247
  let c0_i32_258 : BitVec 32 := 0#32
  ![v309.toNat, 0]
def k0_dev13 (d0 : Dev nD) : Nat :=
  let c0_i32_253 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_252 : BitVec 32 := 8#32
  let v310 : BitVec 32 := Scalar.muli v2 c8_i32_252
  let v311 : BitVec 32 := Scalar.addi c0_i32_253 v310
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_254 : BitVec 32 := 4#32
  let v312 : BitVec 32 := Scalar.muli v5 c4_i32_254
  let v313 : BitVec 32 := Scalar.addi v311 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.xori v8 c1_i32_9
  let c1_i32_255 : BitVec 32 := 1#32
  let v314 : BitVec 32 := Scalar.muli v21 c1_i32_255
  let v315 : BitVec 32 := Scalar.addi v313 v314
  v315.toNat
def k0_off16 (d0 : Dev nD) : Fin 2 → Nat :=
  let c0_i32_60 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_59 : BitVec 32 := 8#32
  let v83 : BitVec 32 := Scalar.muli v5 c8_i32_59
  let v84 : BitVec 32 := Scalar.addi c0_i32_60 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c4_i32_153 : BitVec 32 := 4#32
  let v193 : BitVec 32 := Scalar.muli v63 c4_i32_153
  let v194 : BitVec 32 := Scalar.addi v84 v193
  let c64_i32_270 : BitVec 32 := 64#32
  let v332 : BitVec 32 := Scalar.muli v194 c64_i32_270
  let v333 : Index := Scalar.indexCast v332
  let c256_271 : Index := 256#32
  ![v333.toNat, 256]
def k0_off17 (d0 : Dev nD) : Fin 2 → Nat :=
  let c0_i32_60 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_59 : BitVec 32 := 8#32
  let v83 : BitVec 32 := Scalar.muli v5 c8_i32_59
  let v84 : BitVec 32 := Scalar.addi c0_i32_60 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c4_i32_153 : BitVec 32 := 4#32
  let v193 : BitVec 32 := Scalar.muli v63 c4_i32_153
  let v194 : BitVec 32 := Scalar.addi v84 v193
  let c1_i32_276 : BitVec 32 := 1#32
  let c1_i32_42 : BitVec 32 := 1#32
  let v64 : BitVec 32 := Scalar.shrsi v8 c1_i32_42
  let v343 : BitVec 32 := Scalar.subi c1_i32_276 v64
  let c2_i32_277 : BitVec 32 := 2#32
  let v344 : BitVec 32 := Scalar.muli v343 c2_i32_277
  let v345 : BitVec 32 := Scalar.addi v194 v344
  let c64_i32_278 : BitVec 32 := 64#32
  let v346 : BitVec 32 := Scalar.muli v345 c64_i32_278
  let c256_i32_289 : BitVec 32 := 256#32
  ![v346.toNat, 256]
def k0_dev14 (d0 : Dev nD) : Nat :=
  let c0_i32_284 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_283 : BitVec 32 := 8#32
  let v347 : BitVec 32 := Scalar.muli v2 c8_i32_283
  let v348 : BitVec 32 := Scalar.addi c0_i32_284 v347
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v349 : BitVec 32 := Scalar.muli v5 c4_i32_285
  let v350 : BitVec 32 := Scalar.addi v348 v349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v22 : BitVec 32 := Scalar.xori v8 c2_i32_10
  let c1_i32_286 : BitVec 32 := 1#32
  let v351 : BitVec 32 := Scalar.muli v22 c1_i32_286
  let v352 : BitVec 32 := Scalar.addi v350 v351
  v352.toNat
def k0_off18 (d0 : Dev nD) : Fin 2 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c8_i32_75 : BitVec 32 := 8#32
  let v101 : BitVec 32 := Scalar.muli v63 c8_i32_75
  let v102 : BitVec 32 := Scalar.addi c0_i32_76 v101
  let c1_i32_42 : BitVec 32 := 1#32
  let v64 : BitVec 32 := Scalar.shrsi v8 c1_i32_42
  let c4_i32_183 : BitVec 32 := 4#32
  let v230 : BitVec 32 := Scalar.muli v64 c4_i32_183
  let v231 : BitVec 32 := Scalar.addi v102 v230
  let c64_i32_301 : BitVec 32 := 64#32
  let v369 : BitVec 32 := Scalar.muli v231 c64_i32_301
  let v370 : Index := Scalar.indexCast v369
  let c512_302 : Index := 512#32
  ![v370.toNat, 512]
def k0_off19 (d0 : Dev nD) : Fin 2 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c8_i32_75 : BitVec 32 := 8#32
  let v101 : BitVec 32 := Scalar.muli v63 c8_i32_75
  let v102 : BitVec 32 := Scalar.addi c0_i32_76 v101
  let c1_i32_42 : BitVec 32 := 1#32
  let v64 : BitVec 32 := Scalar.shrsi v8 c1_i32_42
  let c4_i32_183 : BitVec 32 := 4#32
  let v230 : BitVec 32 := Scalar.muli v64 c4_i32_183
  let v231 : BitVec 32 := Scalar.addi v102 v230
  let c1_i32_307 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v380 : BitVec 32 := Scalar.subi c1_i32_307 v2
  let c2_i32_308 : BitVec 32 := 2#32
  let v381 : BitVec 32 := Scalar.muli v380 c2_i32_308
  let v382 : BitVec 32 := Scalar.addi v231 v381
  let c64_i32_309 : BitVec 32 := 64#32
  let v383 : BitVec 32 := Scalar.muli v382 c64_i32_309
  let c512_i32_320 : BitVec 32 := 512#32
  ![v383.toNat, 512]
def k0_dev15 (d0 : Dev nD) : Nat :=
  let c0_i32_315 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_314 : BitVec 32 := 8#32
  let v384 : BitVec 32 := Scalar.muli v19 c8_i32_314
  let v385 : BitVec 32 := Scalar.addi c0_i32_315 v384
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_316 : BitVec 32 := 4#32
  let v386 : BitVec 32 := Scalar.muli v5 c4_i32_316
  let v387 : BitVec 32 := Scalar.addi v385 v386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v388 : BitVec 32 := Scalar.muli v8 c1_i32_317
  let v389 : BitVec 32 := Scalar.addi v387 v388
  v389.toNat
def k0_off20 (d0 : Dev nD) : Fin 2 → Nat :=
  let c0_i32_93 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let c8_i32_92 : BitVec 32 := 8#32
  let v119 : BitVec 32 := Scalar.muli v64 c8_i32_92
  let v120 : BitVec 32 := Scalar.addi c0_i32_93 v119
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_213 : BitVec 32 := 4#32
  let v267 : BitVec 32 := Scalar.muli v2 c4_i32_213
  let v268 : BitVec 32 := Scalar.addi v120 v267
  let c64_i32_332 : BitVec 32 := 64#32
  let v406 : BitVec 32 := Scalar.muli v268 c64_i32_332
  let v407 : Index := Scalar.indexCast v406
  let c768_333 : Index := 768#32
  ![v407.toNat, 768]
def k0_off21 (d0 : Dev nD) : Fin 2 → Nat :=
  let c0_i32_93 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let c8_i32_92 : BitVec 32 := 8#32
  let v119 : BitVec 32 := Scalar.muli v64 c8_i32_92
  let v120 : BitVec 32 := Scalar.addi c0_i32_93 v119
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_213 : BitVec 32 := 4#32
  let v267 : BitVec 32 := Scalar.muli v2 c4_i32_213
  let v268 : BitVec 32 := Scalar.addi v120 v267
  let c1_i32_338 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v417 : BitVec 32 := Scalar.subi c1_i32_338 v5
  let c2_i32_339 : BitVec 32 := 2#32
  let v418 : BitVec 32 := Scalar.muli v417 c2_i32_339
  let v419 : BitVec 32 := Scalar.addi v268 v418
  let c64_i32_340 : BitVec 32 := 64#32
  let v420 : BitVec 32 := Scalar.muli v419 c64_i32_340
  let c768_i32_351 : BitVec 32 := 768#32
  ![v420.toNat, 768]
def k0_dev16 (d0 : Dev nD) : Nat :=
  let c0_i32_346 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_345 : BitVec 32 := 8#32
  let v421 : BitVec 32 := Scalar.muli v2 c8_i32_345
  let v422 : BitVec 32 := Scalar.addi c0_i32_346 v421
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_347 : BitVec 32 := 4#32
  let v423 : BitVec 32 := Scalar.muli v20 c4_i32_347
  let v424 : BitVec 32 := Scalar.addi v422 v423
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v425 : BitVec 32 := Scalar.muli v8 c1_i32_348
  let v426 : BitVec 32 := Scalar.addi v424 v425
  v426.toNat
def k0_off22 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_123 : BitVec 32 := 4#32
  let v156 : BitVec 32 := Scalar.muli v5 c4_i32_123
  let v157 : BitVec 32 := Scalar.addi v66 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c2_i32_244 : BitVec 32 := 2#32
  let v304 : BitVec 32 := Scalar.muli v63 c2_i32_244
  let v305 : BitVec 32 := Scalar.addi v157 v304
  let c64_i32_363 : BitVec 32 := 64#32
  let v443 : BitVec 32 := Scalar.muli v305 c64_i32_363
  let v444 : Index := Scalar.indexCast v443
  let c0_364 : Index := 0#32
  ![v444.toNat, 0]
def k0_off23 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_123 : BitVec 32 := 4#32
  let v156 : BitVec 32 := Scalar.muli v5 c4_i32_123
  let v157 : BitVec 32 := Scalar.addi v66 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c2_i32_244 : BitVec 32 := 2#32
  let v304 : BitVec 32 := Scalar.muli v63 c2_i32_244
  let v305 : BitVec 32 := Scalar.addi v157 v304
  let c1_i32_369 : BitVec 32 := 1#32
  let c1_i32_42 : BitVec 32 := 1#32
  let v64 : BitVec 32 := Scalar.shrsi v8 c1_i32_42
  let v454 : BitVec 32 := Scalar.subi c1_i32_369 v64
  let c1_i32_370 : BitVec 32 := 1#32
  let v455 : BitVec 32 := Scalar.muli v454 c1_i32_370
  let v456 : BitVec 32 := Scalar.addi v305 v455
  let c64_i32_371 : BitVec 32 := 64#32
  let v457 : BitVec 32 := Scalar.muli v456 c64_i32_371
  let c0_i32_381 : BitVec 32 := 0#32
  ![v457.toNat, 0]
def k0_dev17 (d0 : Dev nD) : Nat :=
  let c0_i32_377 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_376 : BitVec 32 := 8#32
  let v458 : BitVec 32 := Scalar.muli v2 c8_i32_376
  let v459 : BitVec 32 := Scalar.addi c0_i32_377 v458
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_378 : BitVec 32 := 4#32
  let v460 : BitVec 32 := Scalar.muli v5 c4_i32_378
  let v461 : BitVec 32 := Scalar.addi v459 v460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v22 : BitVec 32 := Scalar.xori v8 c2_i32_10
  let c1_i32_379 : BitVec 32 := 1#32
  let v462 : BitVec 32 := Scalar.muli v22 c1_i32_379
  let v463 : BitVec 32 := Scalar.addi v461 v462
  v463.toNat
def k0_off24 (d0 : Dev nD) : Fin 2 → Nat :=
  let c0_i32_60 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_59 : BitVec 32 := 8#32
  let v83 : BitVec 32 := Scalar.muli v5 c8_i32_59
  let v84 : BitVec 32 := Scalar.addi c0_i32_60 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c4_i32_153 : BitVec 32 := 4#32
  let v193 : BitVec 32 := Scalar.muli v63 c4_i32_153
  let v194 : BitVec 32 := Scalar.addi v84 v193
  let c1_i32_42 : BitVec 32 := 1#32
  let v64 : BitVec 32 := Scalar.shrsi v8 c1_i32_42
  let c2_i32_275 : BitVec 32 := 2#32
  let v341 : BitVec 32 := Scalar.muli v64 c2_i32_275
  let v342 : BitVec 32 := Scalar.addi v194 v341
  let c64_i32_393 : BitVec 32 := 64#32
  let v480 : BitVec 32 := Scalar.muli v342 c64_i32_393
  let v481 : Index := Scalar.indexCast v480
  let c256_394 : Index := 256#32
  ![v481.toNat, 256]
def k0_off25 (d0 : Dev nD) : Fin 2 → Nat :=
  let c0_i32_60 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_59 : BitVec 32 := 8#32
  let v83 : BitVec 32 := Scalar.muli v5 c8_i32_59
  let v84 : BitVec 32 := Scalar.addi c0_i32_60 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c4_i32_153 : BitVec 32 := 4#32
  let v193 : BitVec 32 := Scalar.muli v63 c4_i32_153
  let v194 : BitVec 32 := Scalar.addi v84 v193
  let c1_i32_42 : BitVec 32 := 1#32
  let v64 : BitVec 32 := Scalar.shrsi v8 c1_i32_42
  let c2_i32_275 : BitVec 32 := 2#32
  let v341 : BitVec 32 := Scalar.muli v64 c2_i32_275
  let v342 : BitVec 32 := Scalar.addi v194 v341
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v491 : BitVec 32 := Scalar.subi c1_i32_399 v2
  let c1_i32_400 : BitVec 32 := 1#32
  let v492 : BitVec 32 := Scalar.muli v491 c1_i32_400
  let v493 : BitVec 32 := Scalar.addi v342 v492
  let c64_i32_401 : BitVec 32 := 64#32
  let v494 : BitVec 32 := Scalar.muli v493 c64_i32_401
  let c256_i32_412 : BitVec 32 := 256#32
  ![v494.toNat, 256]
def k0_dev18 (d0 : Dev nD) : Nat :=
  let c0_i32_407 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_406 : BitVec 32 := 8#32
  let v495 : BitVec 32 := Scalar.muli v19 c8_i32_406
  let v496 : BitVec 32 := Scalar.addi c0_i32_407 v495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_408 : BitVec 32 := 4#32
  let v497 : BitVec 32 := Scalar.muli v5 c4_i32_408
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_409 : BitVec 32 := 1#32
  let v499 : BitVec 32 := Scalar.muli v8 c1_i32_409
  let v500 : BitVec 32 := Scalar.addi v498 v499
  v500.toNat
def k0_off26 (d0 : Dev nD) : Fin 2 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c8_i32_75 : BitVec 32 := 8#32
  let v101 : BitVec 32 := Scalar.muli v63 c8_i32_75
  let v102 : BitVec 32 := Scalar.addi c0_i32_76 v101
  let c1_i32_42 : BitVec 32 := 1#32
  let v64 : BitVec 32 := Scalar.shrsi v8 c1_i32_42
  let c4_i32_183 : BitVec 32 := 4#32
  let v230 : BitVec 32 := Scalar.muli v64 c4_i32_183
  let v231 : BitVec 32 := Scalar.addi v102 v230
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_306 : BitVec 32 := 2#32
  let v378 : BitVec 32 := Scalar.muli v2 c2_i32_306
  let v379 : BitVec 32 := Scalar.addi v231 v378
  let c64_i32_424 : BitVec 32 := 64#32
  let v517 : BitVec 32 := Scalar.muli v379 c64_i32_424
  let v518 : Index := Scalar.indexCast v517
  let c512_425 : Index := 512#32
  ![v518.toNat, 512]
def k0_off27 (d0 : Dev nD) : Fin 2 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c8_i32_75 : BitVec 32 := 8#32
  let v101 : BitVec 32 := Scalar.muli v63 c8_i32_75
  let v102 : BitVec 32 := Scalar.addi c0_i32_76 v101
  let c1_i32_42 : BitVec 32 := 1#32
  let v64 : BitVec 32 := Scalar.shrsi v8 c1_i32_42
  let c4_i32_183 : BitVec 32 := 4#32
  let v230 : BitVec 32 := Scalar.muli v64 c4_i32_183
  let v231 : BitVec 32 := Scalar.addi v102 v230
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_306 : BitVec 32 := 2#32
  let v378 : BitVec 32 := Scalar.muli v2 c2_i32_306
  let v379 : BitVec 32 := Scalar.addi v231 v378
  let c1_i32_430 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v528 : BitVec 32 := Scalar.subi c1_i32_430 v5
  let c1_i32_431 : BitVec 32 := 1#32
  let v529 : BitVec 32 := Scalar.muli v528 c1_i32_431
  let v530 : BitVec 32 := Scalar.addi v379 v529
  let c64_i32_432 : BitVec 32 := 64#32
  let v531 : BitVec 32 := Scalar.muli v530 c64_i32_432
  let c512_i32_443 : BitVec 32 := 512#32
  ![v531.toNat, 512]
def k0_dev19 (d0 : Dev nD) : Nat :=
  let c0_i32_438 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_437 : BitVec 32 := 8#32
  let v532 : BitVec 32 := Scalar.muli v2 c8_i32_437
  let v533 : BitVec 32 := Scalar.addi c0_i32_438 v532
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_439 : BitVec 32 := 4#32
  let v534 : BitVec 32 := Scalar.muli v20 c4_i32_439
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_440 : BitVec 32 := 1#32
  let v536 : BitVec 32 := Scalar.muli v8 c1_i32_440
  let v537 : BitVec 32 := Scalar.addi v535 v536
  v537.toNat
def k0_off28 (d0 : Dev nD) : Fin 2 → Nat :=
  let c0_i32_93 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let c8_i32_92 : BitVec 32 := 8#32
  let v119 : BitVec 32 := Scalar.muli v64 c8_i32_92
  let v120 : BitVec 32 := Scalar.addi c0_i32_93 v119
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_213 : BitVec 32 := 4#32
  let v267 : BitVec 32 := Scalar.muli v2 c4_i32_213
  let v268 : BitVec 32 := Scalar.addi v120 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_337 : BitVec 32 := 2#32
  let v415 : BitVec 32 := Scalar.muli v5 c2_i32_337
  let v416 : BitVec 32 := Scalar.addi v268 v415
  let c64_i32_455 : BitVec 32 := 64#32
  let v554 : BitVec 32 := Scalar.muli v416 c64_i32_455
  let v555 : Index := Scalar.indexCast v554
  let c768_456 : Index := 768#32
  ![v555.toNat, 768]
def k0_off29 (d0 : Dev nD) : Fin 2 → Nat :=
  let c0_i32_93 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let c8_i32_92 : BitVec 32 := 8#32
  let v119 : BitVec 32 := Scalar.muli v64 c8_i32_92
  let v120 : BitVec 32 := Scalar.addi c0_i32_93 v119
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_213 : BitVec 32 := 4#32
  let v267 : BitVec 32 := Scalar.muli v2 c4_i32_213
  let v268 : BitVec 32 := Scalar.addi v120 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_337 : BitVec 32 := 2#32
  let v415 : BitVec 32 := Scalar.muli v5 c2_i32_337
  let v416 : BitVec 32 := Scalar.addi v268 v415
  let c1_i32_461 : BitVec 32 := 1#32
  let c1_i32_41 : BitVec 32 := 1#32
  let v63 : BitVec 32 := Scalar.andi v8 c1_i32_41
  let v565 : BitVec 32 := Scalar.subi c1_i32_461 v63
  let c1_i32_462 : BitVec 32 := 1#32
  let v566 : BitVec 32 := Scalar.muli v565 c1_i32_462
  let v567 : BitVec 32 := Scalar.addi v416 v566
  let c64_i32_463 : BitVec 32 := 64#32
  let v568 : BitVec 32 := Scalar.muli v567 c64_i32_463
  let c768_i32_474 : BitVec 32 := 768#32
  ![v568.toNat, 768]
def k0_dev20 (d0 : Dev nD) : Nat :=
  let c0_i32_469 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_468 : BitVec 32 := 8#32
  let v569 : BitVec 32 := Scalar.muli v2 c8_i32_468
  let v570 : BitVec 32 := Scalar.addi c0_i32_469 v569
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_470 : BitVec 32 := 4#32
  let v571 : BitVec 32 := Scalar.muli v5 c4_i32_470
  let v572 : BitVec 32 := Scalar.addi v570 v571
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.xori v8 c1_i32_9
  let c1_i32_471 : BitVec 32 := 1#32
  let v573 : BitVec 32 := Scalar.muli v21 c1_i32_471
  let v574 : BitVec 32 := Scalar.addi v572 v573
  v574.toNat
def k0_off30 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_123 : BitVec 32 := 4#32
  let v156 : BitVec 32 := Scalar.muli v5 c4_i32_123
  let v157 : BitVec 32 := Scalar.addi v66 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c2_i32_244 : BitVec 32 := 2#32
  let v304 : BitVec 32 := Scalar.muli v63 c2_i32_244
  let v305 : BitVec 32 := Scalar.addi v157 v304
  let c1_i32_42 : BitVec 32 := 1#32
  let v64 : BitVec 32 := Scalar.shrsi v8 c1_i32_42
  let c1_i32_368 : BitVec 32 := 1#32
  let v452 : BitVec 32 := Scalar.muli v64 c1_i32_368
  let v453 : BitVec 32 := Scalar.addi v305 v452
  let c64_i32_486 : BitVec 32 := 64#32
  let v591 : BitVec 32 := Scalar.muli v453 c64_i32_486
  let v592 : Index := Scalar.indexCast v591
  let c0_487 : Index := 0#32
  ![v592.toNat, 0]
def k0_off31 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_123 : BitVec 32 := 4#32
  let v156 : BitVec 32 := Scalar.muli v5 c4_i32_123
  let v157 : BitVec 32 := Scalar.addi v66 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c2_i32_244 : BitVec 32 := 2#32
  let v304 : BitVec 32 := Scalar.muli v63 c2_i32_244
  let v305 : BitVec 32 := Scalar.addi v157 v304
  let c1_i32_42 : BitVec 32 := 1#32
  let v64 : BitVec 32 := Scalar.shrsi v8 c1_i32_42
  let c1_i32_368 : BitVec 32 := 1#32
  let v452 : BitVec 32 := Scalar.muli v64 c1_i32_368
  let v453 : BitVec 32 := Scalar.addi v305 v452
  let c64_i32_495 : BitVec 32 := 64#32
  let v609 : BitVec 32 := Scalar.muli v453 c64_i32_495
  let c0_i32_504 : BitVec 32 := 0#32
  ![v609.toNat, 0]
def k0_dev21 (d0 : Dev nD) : Nat :=
  let c0_i32_501 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_500 : BitVec 32 := 8#32
  let v610 : BitVec 32 := Scalar.muli v2 c8_i32_500
  let v611 : BitVec 32 := Scalar.addi c0_i32_501 v610
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_502 : BitVec 32 := 4#32
  let v612 : BitVec 32 := Scalar.muli v5 c4_i32_502
  let v613 : BitVec 32 := Scalar.addi v611 v612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v22 : BitVec 32 := Scalar.xori v8 c2_i32_10
  let c1_i32_503 : BitVec 32 := 1#32
  let v614 : BitVec 32 := Scalar.muli v22 c1_i32_503
  let v615 : BitVec 32 := Scalar.addi v613 v614
  v615.toNat
def k0_off32 (d0 : Dev nD) : Fin 2 → Nat :=
  let c0_i32_60 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_59 : BitVec 32 := 8#32
  let v83 : BitVec 32 := Scalar.muli v5 c8_i32_59
  let v84 : BitVec 32 := Scalar.addi c0_i32_60 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c4_i32_153 : BitVec 32 := 4#32
  let v193 : BitVec 32 := Scalar.muli v63 c4_i32_153
  let v194 : BitVec 32 := Scalar.addi v84 v193
  let c1_i32_42 : BitVec 32 := 1#32
  let v64 : BitVec 32 := Scalar.shrsi v8 c1_i32_42
  let c2_i32_275 : BitVec 32 := 2#32
  let v341 : BitVec 32 := Scalar.muli v64 c2_i32_275
  let v342 : BitVec 32 := Scalar.addi v194 v341
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_398 : BitVec 32 := 1#32
  let v489 : BitVec 32 := Scalar.muli v2 c1_i32_398
  let v490 : BitVec 32 := Scalar.addi v342 v489
  let c64_i32_517 : BitVec 32 := 64#32
  let v632 : BitVec 32 := Scalar.muli v490 c64_i32_517
  let v633 : Index := Scalar.indexCast v632
  let c256_518 : Index := 256#32
  ![v633.toNat, 256]
def k0_off33 (d0 : Dev nD) : Fin 2 → Nat :=
  let c0_i32_60 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_59 : BitVec 32 := 8#32
  let v83 : BitVec 32 := Scalar.muli v5 c8_i32_59
  let v84 : BitVec 32 := Scalar.addi c0_i32_60 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c4_i32_153 : BitVec 32 := 4#32
  let v193 : BitVec 32 := Scalar.muli v63 c4_i32_153
  let v194 : BitVec 32 := Scalar.addi v84 v193
  let c1_i32_42 : BitVec 32 := 1#32
  let v64 : BitVec 32 := Scalar.shrsi v8 c1_i32_42
  let c2_i32_275 : BitVec 32 := 2#32
  let v341 : BitVec 32 := Scalar.muli v64 c2_i32_275
  let v342 : BitVec 32 := Scalar.addi v194 v341
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_398 : BitVec 32 := 1#32
  let v489 : BitVec 32 := Scalar.muli v2 c1_i32_398
  let v490 : BitVec 32 := Scalar.addi v342 v489
  let c64_i32_527 : BitVec 32 := 64#32
  let v650 : BitVec 32 := Scalar.muli v490 c64_i32_527
  let c256_i32_536 : BitVec 32 := 256#32
  ![v650.toNat, 256]
def k0_dev22 (d0 : Dev nD) : Nat :=
  let c0_i32_533 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_532 : BitVec 32 := 8#32
  let v651 : BitVec 32 := Scalar.muli v19 c8_i32_532
  let v652 : BitVec 32 := Scalar.addi c0_i32_533 v651
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_534 : BitVec 32 := 4#32
  let v653 : BitVec 32 := Scalar.muli v5 c4_i32_534
  let v654 : BitVec 32 := Scalar.addi v652 v653
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v655 : BitVec 32 := Scalar.muli v8 c1_i32_535
  let v656 : BitVec 32 := Scalar.addi v654 v655
  v656.toNat
def k0_off34 (d0 : Dev nD) : Fin 2 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c8_i32_75 : BitVec 32 := 8#32
  let v101 : BitVec 32 := Scalar.muli v63 c8_i32_75
  let v102 : BitVec 32 := Scalar.addi c0_i32_76 v101
  let c1_i32_42 : BitVec 32 := 1#32
  let v64 : BitVec 32 := Scalar.shrsi v8 c1_i32_42
  let c4_i32_183 : BitVec 32 := 4#32
  let v230 : BitVec 32 := Scalar.muli v64 c4_i32_183
  let v231 : BitVec 32 := Scalar.addi v102 v230
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_306 : BitVec 32 := 2#32
  let v378 : BitVec 32 := Scalar.muli v2 c2_i32_306
  let v379 : BitVec 32 := Scalar.addi v231 v378
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_429 : BitVec 32 := 1#32
  let v526 : BitVec 32 := Scalar.muli v5 c1_i32_429
  let v527 : BitVec 32 := Scalar.addi v379 v526
  let c64_i32_549 : BitVec 32 := 64#32
  let v673 : BitVec 32 := Scalar.muli v527 c64_i32_549
  let v674 : Index := Scalar.indexCast v673
  let c512_550 : Index := 512#32
  ![v674.toNat, 512]
def k0_off35 (d0 : Dev nD) : Fin 2 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c8_i32_75 : BitVec 32 := 8#32
  let v101 : BitVec 32 := Scalar.muli v63 c8_i32_75
  let v102 : BitVec 32 := Scalar.addi c0_i32_76 v101
  let c1_i32_42 : BitVec 32 := 1#32
  let v64 : BitVec 32 := Scalar.shrsi v8 c1_i32_42
  let c4_i32_183 : BitVec 32 := 4#32
  let v230 : BitVec 32 := Scalar.muli v64 c4_i32_183
  let v231 : BitVec 32 := Scalar.addi v102 v230
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_306 : BitVec 32 := 2#32
  let v378 : BitVec 32 := Scalar.muli v2 c2_i32_306
  let v379 : BitVec 32 := Scalar.addi v231 v378
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_429 : BitVec 32 := 1#32
  let v526 : BitVec 32 := Scalar.muli v5 c1_i32_429
  let v527 : BitVec 32 := Scalar.addi v379 v526
  let c64_i32_559 : BitVec 32 := 64#32
  let v691 : BitVec 32 := Scalar.muli v527 c64_i32_559
  let c512_i32_568 : BitVec 32 := 512#32
  ![v691.toNat, 512]
def k0_dev23 (d0 : Dev nD) : Nat :=
  let c0_i32_565 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_564 : BitVec 32 := 8#32
  let v692 : BitVec 32 := Scalar.muli v2 c8_i32_564
  let v693 : BitVec 32 := Scalar.addi c0_i32_565 v692
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_566 : BitVec 32 := 4#32
  let v694 : BitVec 32 := Scalar.muli v20 c4_i32_566
  let v695 : BitVec 32 := Scalar.addi v693 v694
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v696 : BitVec 32 := Scalar.muli v8 c1_i32_567
  let v697 : BitVec 32 := Scalar.addi v695 v696
  v697.toNat
def k0_off36 (d0 : Dev nD) : Fin 2 → Nat :=
  let c0_i32_93 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let c8_i32_92 : BitVec 32 := 8#32
  let v119 : BitVec 32 := Scalar.muli v64 c8_i32_92
  let v120 : BitVec 32 := Scalar.addi c0_i32_93 v119
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_213 : BitVec 32 := 4#32
  let v267 : BitVec 32 := Scalar.muli v2 c4_i32_213
  let v268 : BitVec 32 := Scalar.addi v120 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_337 : BitVec 32 := 2#32
  let v415 : BitVec 32 := Scalar.muli v5 c2_i32_337
  let v416 : BitVec 32 := Scalar.addi v268 v415
  let c1_i32_41 : BitVec 32 := 1#32
  let v63 : BitVec 32 := Scalar.andi v8 c1_i32_41
  let c1_i32_460 : BitVec 32 := 1#32
  let v563 : BitVec 32 := Scalar.muli v63 c1_i32_460
  let v564 : BitVec 32 := Scalar.addi v416 v563
  let c64_i32_581 : BitVec 32 := 64#32
  let v714 : BitVec 32 := Scalar.muli v564 c64_i32_581
  let v715 : Index := Scalar.indexCast v714
  let c768_582 : Index := 768#32
  ![v715.toNat, 768]
def k0_off37 (d0 : Dev nD) : Fin 2 → Nat :=
  let c0_i32_93 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let c8_i32_92 : BitVec 32 := 8#32
  let v119 : BitVec 32 := Scalar.muli v64 c8_i32_92
  let v120 : BitVec 32 := Scalar.addi c0_i32_93 v119
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_213 : BitVec 32 := 4#32
  let v267 : BitVec 32 := Scalar.muli v2 c4_i32_213
  let v268 : BitVec 32 := Scalar.addi v120 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_337 : BitVec 32 := 2#32
  let v415 : BitVec 32 := Scalar.muli v5 c2_i32_337
  let v416 : BitVec 32 := Scalar.addi v268 v415
  let c1_i32_41 : BitVec 32 := 1#32
  let v63 : BitVec 32 := Scalar.andi v8 c1_i32_41
  let c1_i32_460 : BitVec 32 := 1#32
  let v563 : BitVec 32 := Scalar.muli v63 c1_i32_460
  let v564 : BitVec 32 := Scalar.addi v416 v563
  let c64_i32_591 : BitVec 32 := 64#32
  let v732 : BitVec 32 := Scalar.muli v564 c64_i32_591
  let c768_i32_600 : BitVec 32 := 768#32
  ![v732.toNat, 768]
def k0_dev24 (d0 : Dev nD) : Nat :=
  let c0_i32_597 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_596 : BitVec 32 := 8#32
  let v733 : BitVec 32 := Scalar.muli v2 c8_i32_596
  let v734 : BitVec 32 := Scalar.addi c0_i32_597 v733
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_598 : BitVec 32 := 4#32
  let v735 : BitVec 32 := Scalar.muli v5 c4_i32_598
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.xori v8 c1_i32_9
  let c1_i32_599 : BitVec 32 := 1#32
  let v737 : BitVec 32 := Scalar.muli v21 c1_i32_599
  let v738 : BitVec 32 := Scalar.addi v736 v737
  v738.toNat
def k0_off38 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_123 : BitVec 32 := 4#32
  let v156 : BitVec 32 := Scalar.muli v5 c4_i32_123
  let v157 : BitVec 32 := Scalar.addi v66 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c2_i32_244 : BitVec 32 := 2#32
  let v304 : BitVec 32 := Scalar.muli v63 c2_i32_244
  let v305 : BitVec 32 := Scalar.addi v157 v304
  let c1_i32_42 : BitVec 32 := 1#32
  let v64 : BitVec 32 := Scalar.shrsi v8 c1_i32_42
  let c1_i32_368 : BitVec 32 := 1#32
  let v452 : BitVec 32 := Scalar.muli v64 c1_i32_368
  let v453 : BitVec 32 := Scalar.addi v305 v452
  let c1_i32_612 : BitVec 32 := 1#32
  let v755 : BitVec 32 := Scalar.muli v64 c1_i32_612
  let v756 : BitVec 32 := Scalar.subi v453 v755
  let c64_i32_614 : BitVec 32 := 64#32
  let v758 : BitVec 32 := Scalar.muli v756 c64_i32_614
  let c0_i32_622 : BitVec 32 := 0#32
  ![v758.toNat, 0]
def k0_dev25 (d0 : Dev nD) : Nat :=
  let c0_i32_619 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_618 : BitVec 32 := 8#32
  let v759 : BitVec 32 := Scalar.muli v2 c8_i32_618
  let v760 : BitVec 32 := Scalar.addi c0_i32_619 v759
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_620 : BitVec 32 := 4#32
  let v761 : BitVec 32 := Scalar.muli v5 c4_i32_620
  let v762 : BitVec 32 := Scalar.addi v760 v761
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.xori v8 c1_i32_9
  let c1_i32_621 : BitVec 32 := 1#32
  let v763 : BitVec 32 := Scalar.muli v21 c1_i32_621
  let v764 : BitVec 32 := Scalar.addi v762 v763
  v764.toNat
def k0_off39 (d0 : Dev nD) : Fin 2 → Nat :=
  let c0_i32_60 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_59 : BitVec 32 := 8#32
  let v83 : BitVec 32 := Scalar.muli v5 c8_i32_59
  let v84 : BitVec 32 := Scalar.addi c0_i32_60 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c4_i32_153 : BitVec 32 := 4#32
  let v193 : BitVec 32 := Scalar.muli v63 c4_i32_153
  let v194 : BitVec 32 := Scalar.addi v84 v193
  let c1_i32_42 : BitVec 32 := 1#32
  let v64 : BitVec 32 := Scalar.shrsi v8 c1_i32_42
  let c2_i32_275 : BitVec 32 := 2#32
  let v341 : BitVec 32 := Scalar.muli v64 c2_i32_275
  let v342 : BitVec 32 := Scalar.addi v194 v341
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_398 : BitVec 32 := 1#32
  let v489 : BitVec 32 := Scalar.muli v2 c1_i32_398
  let v490 : BitVec 32 := Scalar.addi v342 v489
  let c1_i32_634 : BitVec 32 := 1#32
  let v781 : BitVec 32 := Scalar.muli v2 c1_i32_634
  let v782 : BitVec 32 := Scalar.subi v490 v781
  let c64_i32_636 : BitVec 32 := 64#32
  let v784 : BitVec 32 := Scalar.muli v782 c64_i32_636
  let c256_i32_645 : BitVec 32 := 256#32
  ![v784.toNat, 256]
def k0_dev26 (d0 : Dev nD) : Nat :=
  let c0_i32_642 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_641 : BitVec 32 := 8#32
  let v785 : BitVec 32 := Scalar.muli v2 c8_i32_641
  let v786 : BitVec 32 := Scalar.addi c0_i32_642 v785
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_643 : BitVec 32 := 4#32
  let v787 : BitVec 32 := Scalar.muli v5 c4_i32_643
  let v788 : BitVec 32 := Scalar.addi v786 v787
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v22 : BitVec 32 := Scalar.xori v8 c2_i32_10
  let c1_i32_644 : BitVec 32 := 1#32
  let v789 : BitVec 32 := Scalar.muli v22 c1_i32_644
  let v790 : BitVec 32 := Scalar.addi v788 v789
  v790.toNat
def k0_off40 (d0 : Dev nD) : Fin 2 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c8_i32_75 : BitVec 32 := 8#32
  let v101 : BitVec 32 := Scalar.muli v63 c8_i32_75
  let v102 : BitVec 32 := Scalar.addi c0_i32_76 v101
  let c1_i32_42 : BitVec 32 := 1#32
  let v64 : BitVec 32 := Scalar.shrsi v8 c1_i32_42
  let c4_i32_183 : BitVec 32 := 4#32
  let v230 : BitVec 32 := Scalar.muli v64 c4_i32_183
  let v231 : BitVec 32 := Scalar.addi v102 v230
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_306 : BitVec 32 := 2#32
  let v378 : BitVec 32 := Scalar.muli v2 c2_i32_306
  let v379 : BitVec 32 := Scalar.addi v231 v378
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_429 : BitVec 32 := 1#32
  let v526 : BitVec 32 := Scalar.muli v5 c1_i32_429
  let v527 : BitVec 32 := Scalar.addi v379 v526
  let c1_i32_657 : BitVec 32 := 1#32
  let v807 : BitVec 32 := Scalar.muli v5 c1_i32_657
  let v808 : BitVec 32 := Scalar.subi v527 v807
  let c64_i32_659 : BitVec 32 := 64#32
  let v810 : BitVec 32 := Scalar.muli v808 c64_i32_659
  let c512_i32_668 : BitVec 32 := 512#32
  ![v810.toNat, 512]
def k0_dev27 (d0 : Dev nD) : Nat :=
  let c0_i32_665 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_664 : BitVec 32 := 8#32
  let v811 : BitVec 32 := Scalar.muli v19 c8_i32_664
  let v812 : BitVec 32 := Scalar.addi c0_i32_665 v811
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_666 : BitVec 32 := 4#32
  let v813 : BitVec 32 := Scalar.muli v5 c4_i32_666
  let v814 : BitVec 32 := Scalar.addi v812 v813
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_667 : BitVec 32 := 1#32
  let v815 : BitVec 32 := Scalar.muli v8 c1_i32_667
  let v816 : BitVec 32 := Scalar.addi v814 v815
  v816.toNat
def k0_off41 (d0 : Dev nD) : Fin 2 → Nat :=
  let c0_i32_93 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let c8_i32_92 : BitVec 32 := 8#32
  let v119 : BitVec 32 := Scalar.muli v64 c8_i32_92
  let v120 : BitVec 32 := Scalar.addi c0_i32_93 v119
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_213 : BitVec 32 := 4#32
  let v267 : BitVec 32 := Scalar.muli v2 c4_i32_213
  let v268 : BitVec 32 := Scalar.addi v120 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_337 : BitVec 32 := 2#32
  let v415 : BitVec 32 := Scalar.muli v5 c2_i32_337
  let v416 : BitVec 32 := Scalar.addi v268 v415
  let c1_i32_41 : BitVec 32 := 1#32
  let v63 : BitVec 32 := Scalar.andi v8 c1_i32_41
  let c1_i32_460 : BitVec 32 := 1#32
  let v563 : BitVec 32 := Scalar.muli v63 c1_i32_460
  let v564 : BitVec 32 := Scalar.addi v416 v563
  let c1_i32_680 : BitVec 32 := 1#32
  let v833 : BitVec 32 := Scalar.muli v63 c1_i32_680
  let v834 : BitVec 32 := Scalar.subi v564 v833
  let c64_i32_682 : BitVec 32 := 64#32
  let v836 : BitVec 32 := Scalar.muli v834 c64_i32_682
  let c768_i32_691 : BitVec 32 := 768#32
  ![v836.toNat, 768]
def k0_dev28 (d0 : Dev nD) : Nat :=
  let c0_i32_688 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_687 : BitVec 32 := 8#32
  let v837 : BitVec 32 := Scalar.muli v2 c8_i32_687
  let v838 : BitVec 32 := Scalar.addi c0_i32_688 v837
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_689 : BitVec 32 := 4#32
  let v839 : BitVec 32 := Scalar.muli v20 c4_i32_689
  let v840 : BitVec 32 := Scalar.addi v838 v839
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_690 : BitVec 32 := 1#32
  let v841 : BitVec 32 := Scalar.muli v8 c1_i32_690
  let v842 : BitVec 32 := Scalar.addi v840 v841
  v842.toNat
def k0_off42 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_123 : BitVec 32 := 4#32
  let v156 : BitVec 32 := Scalar.muli v5 c4_i32_123
  let v157 : BitVec 32 := Scalar.addi v66 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c2_i32_244 : BitVec 32 := 2#32
  let v304 : BitVec 32 := Scalar.muli v63 c2_i32_244
  let v305 : BitVec 32 := Scalar.addi v157 v304
  let c1_i32_42 : BitVec 32 := 1#32
  let v64 : BitVec 32 := Scalar.shrsi v8 c1_i32_42
  let c1_i32_368 : BitVec 32 := 1#32
  let v452 : BitVec 32 := Scalar.muli v64 c1_i32_368
  let v453 : BitVec 32 := Scalar.addi v305 v452
  let c1_i32_612 : BitVec 32 := 1#32
  let v755 : BitVec 32 := Scalar.muli v64 c1_i32_612
  let v756 : BitVec 32 := Scalar.subi v453 v755
  let c2_i32_703 : BitVec 32 := 2#32
  let v859 : BitVec 32 := Scalar.muli v63 c2_i32_703
  let v860 : BitVec 32 := Scalar.subi v756 v859
  let c64_i32_705 : BitVec 32 := 64#32
  let v862 : BitVec 32 := Scalar.muli v860 c64_i32_705
  let c0_i32_713 : BitVec 32 := 0#32
  ![v862.toNat, 0]
def k0_dev29 (d0 : Dev nD) : Nat :=
  let c0_i32_710 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_709 : BitVec 32 := 8#32
  let v863 : BitVec 32 := Scalar.muli v2 c8_i32_709
  let v864 : BitVec 32 := Scalar.addi c0_i32_710 v863
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_711 : BitVec 32 := 4#32
  let v865 : BitVec 32 := Scalar.muli v20 c4_i32_711
  let v866 : BitVec 32 := Scalar.addi v864 v865
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_712 : BitVec 32 := 1#32
  let v867 : BitVec 32 := Scalar.muli v8 c1_i32_712
  let v868 : BitVec 32 := Scalar.addi v866 v867
  v868.toNat
def k0_off43 (d0 : Dev nD) : Fin 2 → Nat :=
  let c0_i32_60 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_59 : BitVec 32 := 8#32
  let v83 : BitVec 32 := Scalar.muli v5 c8_i32_59
  let v84 : BitVec 32 := Scalar.addi c0_i32_60 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c4_i32_153 : BitVec 32 := 4#32
  let v193 : BitVec 32 := Scalar.muli v63 c4_i32_153
  let v194 : BitVec 32 := Scalar.addi v84 v193
  let c1_i32_42 : BitVec 32 := 1#32
  let v64 : BitVec 32 := Scalar.shrsi v8 c1_i32_42
  let c2_i32_275 : BitVec 32 := 2#32
  let v341 : BitVec 32 := Scalar.muli v64 c2_i32_275
  let v342 : BitVec 32 := Scalar.addi v194 v341
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_398 : BitVec 32 := 1#32
  let v489 : BitVec 32 := Scalar.muli v2 c1_i32_398
  let v490 : BitVec 32 := Scalar.addi v342 v489
  let c1_i32_634 : BitVec 32 := 1#32
  let v781 : BitVec 32 := Scalar.muli v2 c1_i32_634
  let v782 : BitVec 32 := Scalar.subi v490 v781
  let c2_i32_725 : BitVec 32 := 2#32
  let v885 : BitVec 32 := Scalar.muli v64 c2_i32_725
  let v886 : BitVec 32 := Scalar.subi v782 v885
  let c64_i32_727 : BitVec 32 := 64#32
  let v888 : BitVec 32 := Scalar.muli v886 c64_i32_727
  let c256_i32_736 : BitVec 32 := 256#32
  ![v888.toNat, 256]
def k0_dev30 (d0 : Dev nD) : Nat :=
  let c0_i32_733 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_732 : BitVec 32 := 8#32
  let v889 : BitVec 32 := Scalar.muli v2 c8_i32_732
  let v890 : BitVec 32 := Scalar.addi c0_i32_733 v889
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_734 : BitVec 32 := 4#32
  let v891 : BitVec 32 := Scalar.muli v5 c4_i32_734
  let v892 : BitVec 32 := Scalar.addi v890 v891
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.xori v8 c1_i32_9
  let c1_i32_735 : BitVec 32 := 1#32
  let v893 : BitVec 32 := Scalar.muli v21 c1_i32_735
  let v894 : BitVec 32 := Scalar.addi v892 v893
  v894.toNat
def k0_off44 (d0 : Dev nD) : Fin 2 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c8_i32_75 : BitVec 32 := 8#32
  let v101 : BitVec 32 := Scalar.muli v63 c8_i32_75
  let v102 : BitVec 32 := Scalar.addi c0_i32_76 v101
  let c1_i32_42 : BitVec 32 := 1#32
  let v64 : BitVec 32 := Scalar.shrsi v8 c1_i32_42
  let c4_i32_183 : BitVec 32 := 4#32
  let v230 : BitVec 32 := Scalar.muli v64 c4_i32_183
  let v231 : BitVec 32 := Scalar.addi v102 v230
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_306 : BitVec 32 := 2#32
  let v378 : BitVec 32 := Scalar.muli v2 c2_i32_306
  let v379 : BitVec 32 := Scalar.addi v231 v378
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_429 : BitVec 32 := 1#32
  let v526 : BitVec 32 := Scalar.muli v5 c1_i32_429
  let v527 : BitVec 32 := Scalar.addi v379 v526
  let c1_i32_657 : BitVec 32 := 1#32
  let v807 : BitVec 32 := Scalar.muli v5 c1_i32_657
  let v808 : BitVec 32 := Scalar.subi v527 v807
  let c2_i32_748 : BitVec 32 := 2#32
  let v911 : BitVec 32 := Scalar.muli v2 c2_i32_748
  let v912 : BitVec 32 := Scalar.subi v808 v911
  let c64_i32_750 : BitVec 32 := 64#32
  let v914 : BitVec 32 := Scalar.muli v912 c64_i32_750
  let c512_i32_759 : BitVec 32 := 512#32
  ![v914.toNat, 512]
def k0_dev31 (d0 : Dev nD) : Nat :=
  let c0_i32_756 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_755 : BitVec 32 := 8#32
  let v915 : BitVec 32 := Scalar.muli v2 c8_i32_755
  let v916 : BitVec 32 := Scalar.addi c0_i32_756 v915
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_757 : BitVec 32 := 4#32
  let v917 : BitVec 32 := Scalar.muli v5 c4_i32_757
  let v918 : BitVec 32 := Scalar.addi v916 v917
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v22 : BitVec 32 := Scalar.xori v8 c2_i32_10
  let c1_i32_758 : BitVec 32 := 1#32
  let v919 : BitVec 32 := Scalar.muli v22 c1_i32_758
  let v920 : BitVec 32 := Scalar.addi v918 v919
  v920.toNat
def k0_off45 (d0 : Dev nD) : Fin 2 → Nat :=
  let c0_i32_93 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let c8_i32_92 : BitVec 32 := 8#32
  let v119 : BitVec 32 := Scalar.muli v64 c8_i32_92
  let v120 : BitVec 32 := Scalar.addi c0_i32_93 v119
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_213 : BitVec 32 := 4#32
  let v267 : BitVec 32 := Scalar.muli v2 c4_i32_213
  let v268 : BitVec 32 := Scalar.addi v120 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_337 : BitVec 32 := 2#32
  let v415 : BitVec 32 := Scalar.muli v5 c2_i32_337
  let v416 : BitVec 32 := Scalar.addi v268 v415
  let c1_i32_41 : BitVec 32 := 1#32
  let v63 : BitVec 32 := Scalar.andi v8 c1_i32_41
  let c1_i32_460 : BitVec 32 := 1#32
  let v563 : BitVec 32 := Scalar.muli v63 c1_i32_460
  let v564 : BitVec 32 := Scalar.addi v416 v563
  let c1_i32_680 : BitVec 32 := 1#32
  let v833 : BitVec 32 := Scalar.muli v63 c1_i32_680
  let v834 : BitVec 32 := Scalar.subi v564 v833
  let c2_i32_771 : BitVec 32 := 2#32
  let v937 : BitVec 32 := Scalar.muli v5 c2_i32_771
  let v938 : BitVec 32 := Scalar.subi v834 v937
  let c64_i32_773 : BitVec 32 := 64#32
  let v940 : BitVec 32 := Scalar.muli v938 c64_i32_773
  let c768_i32_782 : BitVec 32 := 768#32
  ![v940.toNat, 768]
def k0_dev32 (d0 : Dev nD) : Nat :=
  let c0_i32_779 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_778 : BitVec 32 := 8#32
  let v941 : BitVec 32 := Scalar.muli v19 c8_i32_778
  let v942 : BitVec 32 := Scalar.addi c0_i32_779 v941
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_780 : BitVec 32 := 4#32
  let v943 : BitVec 32 := Scalar.muli v5 c4_i32_780
  let v944 : BitVec 32 := Scalar.addi v942 v943
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_781 : BitVec 32 := 1#32
  let v945 : BitVec 32 := Scalar.muli v8 c1_i32_781
  let v946 : BitVec 32 := Scalar.addi v944 v945
  v946.toNat
def k0_off46 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_123 : BitVec 32 := 4#32
  let v156 : BitVec 32 := Scalar.muli v5 c4_i32_123
  let v157 : BitVec 32 := Scalar.addi v66 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c2_i32_244 : BitVec 32 := 2#32
  let v304 : BitVec 32 := Scalar.muli v63 c2_i32_244
  let v305 : BitVec 32 := Scalar.addi v157 v304
  let c1_i32_42 : BitVec 32 := 1#32
  let v64 : BitVec 32 := Scalar.shrsi v8 c1_i32_42
  let c1_i32_368 : BitVec 32 := 1#32
  let v452 : BitVec 32 := Scalar.muli v64 c1_i32_368
  let v453 : BitVec 32 := Scalar.addi v305 v452
  let c1_i32_612 : BitVec 32 := 1#32
  let v755 : BitVec 32 := Scalar.muli v64 c1_i32_612
  let v756 : BitVec 32 := Scalar.subi v453 v755
  let c2_i32_703 : BitVec 32 := 2#32
  let v859 : BitVec 32 := Scalar.muli v63 c2_i32_703
  let v860 : BitVec 32 := Scalar.subi v756 v859
  let c4_i32_794 : BitVec 32 := 4#32
  let v963 : BitVec 32 := Scalar.muli v5 c4_i32_794
  let v964 : BitVec 32 := Scalar.subi v860 v963
  let c64_i32_796 : BitVec 32 := 64#32
  let v966 : BitVec 32 := Scalar.muli v964 c64_i32_796
  let c0_i32_804 : BitVec 32 := 0#32
  ![v966.toNat, 0]
def k0_dev33 (d0 : Dev nD) : Nat :=
  let c0_i32_801 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_800 : BitVec 32 := 8#32
  let v967 : BitVec 32 := Scalar.muli v19 c8_i32_800
  let v968 : BitVec 32 := Scalar.addi c0_i32_801 v967
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_802 : BitVec 32 := 4#32
  let v969 : BitVec 32 := Scalar.muli v5 c4_i32_802
  let v970 : BitVec 32 := Scalar.addi v968 v969
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_803 : BitVec 32 := 1#32
  let v971 : BitVec 32 := Scalar.muli v8 c1_i32_803
  let v972 : BitVec 32 := Scalar.addi v970 v971
  v972.toNat
def k0_off47 (d0 : Dev nD) : Fin 2 → Nat :=
  let c0_i32_60 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_59 : BitVec 32 := 8#32
  let v83 : BitVec 32 := Scalar.muli v5 c8_i32_59
  let v84 : BitVec 32 := Scalar.addi c0_i32_60 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c4_i32_153 : BitVec 32 := 4#32
  let v193 : BitVec 32 := Scalar.muli v63 c4_i32_153
  let v194 : BitVec 32 := Scalar.addi v84 v193
  let c1_i32_42 : BitVec 32 := 1#32
  let v64 : BitVec 32 := Scalar.shrsi v8 c1_i32_42
  let c2_i32_275 : BitVec 32 := 2#32
  let v341 : BitVec 32 := Scalar.muli v64 c2_i32_275
  let v342 : BitVec 32 := Scalar.addi v194 v341
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_398 : BitVec 32 := 1#32
  let v489 : BitVec 32 := Scalar.muli v2 c1_i32_398
  let v490 : BitVec 32 := Scalar.addi v342 v489
  let c1_i32_634 : BitVec 32 := 1#32
  let v781 : BitVec 32 := Scalar.muli v2 c1_i32_634
  let v782 : BitVec 32 := Scalar.subi v490 v781
  let c2_i32_725 : BitVec 32 := 2#32
  let v885 : BitVec 32 := Scalar.muli v64 c2_i32_725
  let v886 : BitVec 32 := Scalar.subi v782 v885
  let c4_i32_816 : BitVec 32 := 4#32
  let v989 : BitVec 32 := Scalar.muli v63 c4_i32_816
  let v990 : BitVec 32 := Scalar.subi v886 v989
  let c64_i32_818 : BitVec 32 := 64#32
  let v992 : BitVec 32 := Scalar.muli v990 c64_i32_818
  let c256_i32_827 : BitVec 32 := 256#32
  ![v992.toNat, 256]
def k0_dev34 (d0 : Dev nD) : Nat :=
  let c0_i32_824 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_823 : BitVec 32 := 8#32
  let v993 : BitVec 32 := Scalar.muli v2 c8_i32_823
  let v994 : BitVec 32 := Scalar.addi c0_i32_824 v993
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_825 : BitVec 32 := 4#32
  let v995 : BitVec 32 := Scalar.muli v20 c4_i32_825
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_826 : BitVec 32 := 1#32
  let v997 : BitVec 32 := Scalar.muli v8 c1_i32_826
  let v998 : BitVec 32 := Scalar.addi v996 v997
  v998.toNat
def k0_off48 (d0 : Dev nD) : Fin 2 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.andi v8 c1_i32_41
  let c8_i32_75 : BitVec 32 := 8#32
  let v101 : BitVec 32 := Scalar.muli v63 c8_i32_75
  let v102 : BitVec 32 := Scalar.addi c0_i32_76 v101
  let c1_i32_42 : BitVec 32 := 1#32
  let v64 : BitVec 32 := Scalar.shrsi v8 c1_i32_42
  let c4_i32_183 : BitVec 32 := 4#32
  let v230 : BitVec 32 := Scalar.muli v64 c4_i32_183
  let v231 : BitVec 32 := Scalar.addi v102 v230
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_306 : BitVec 32 := 2#32
  let v378 : BitVec 32 := Scalar.muli v2 c2_i32_306
  let v379 : BitVec 32 := Scalar.addi v231 v378
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_429 : BitVec 32 := 1#32
  let v526 : BitVec 32 := Scalar.muli v5 c1_i32_429
  let v527 : BitVec 32 := Scalar.addi v379 v526
  let c1_i32_657 : BitVec 32 := 1#32
  let v807 : BitVec 32 := Scalar.muli v5 c1_i32_657
  let v808 : BitVec 32 := Scalar.subi v527 v807
  let c2_i32_748 : BitVec 32 := 2#32
  let v911 : BitVec 32 := Scalar.muli v2 c2_i32_748
  let v912 : BitVec 32 := Scalar.subi v808 v911
  let c4_i32_839 : BitVec 32 := 4#32
  let v1015 : BitVec 32 := Scalar.muli v64 c4_i32_839
  let v1016 : BitVec 32 := Scalar.subi v912 v1015
  let c64_i32_841 : BitVec 32 := 64#32
  let v1018 : BitVec 32 := Scalar.muli v1016 c64_i32_841
  let c512_i32_850 : BitVec 32 := 512#32
  ![v1018.toNat, 512]
def k0_dev35 (d0 : Dev nD) : Nat :=
  let c0_i32_847 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_846 : BitVec 32 := 8#32
  let v1019 : BitVec 32 := Scalar.muli v2 c8_i32_846
  let v1020 : BitVec 32 := Scalar.addi c0_i32_847 v1019
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_848 : BitVec 32 := 4#32
  let v1021 : BitVec 32 := Scalar.muli v5 c4_i32_848
  let v1022 : BitVec 32 := Scalar.addi v1020 v1021
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.xori v8 c1_i32_9
  let c1_i32_849 : BitVec 32 := 1#32
  let v1023 : BitVec 32 := Scalar.muli v21 c1_i32_849
  let v1024 : BitVec 32 := Scalar.addi v1022 v1023
  v1024.toNat
def k0_off49 (d0 : Dev nD) : Fin 2 → Nat :=
  let c0_i32_93 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.shrsi v8 c1_i32_42
  let c8_i32_92 : BitVec 32 := 8#32
  let v119 : BitVec 32 := Scalar.muli v64 c8_i32_92
  let v120 : BitVec 32 := Scalar.addi c0_i32_93 v119
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_213 : BitVec 32 := 4#32
  let v267 : BitVec 32 := Scalar.muli v2 c4_i32_213
  let v268 : BitVec 32 := Scalar.addi v120 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_337 : BitVec 32 := 2#32
  let v415 : BitVec 32 := Scalar.muli v5 c2_i32_337
  let v416 : BitVec 32 := Scalar.addi v268 v415
  let c1_i32_41 : BitVec 32 := 1#32
  let v63 : BitVec 32 := Scalar.andi v8 c1_i32_41
  let c1_i32_460 : BitVec 32 := 1#32
  let v563 : BitVec 32 := Scalar.muli v63 c1_i32_460
  let v564 : BitVec 32 := Scalar.addi v416 v563
  let c1_i32_680 : BitVec 32 := 1#32
  let v833 : BitVec 32 := Scalar.muli v63 c1_i32_680
  let v834 : BitVec 32 := Scalar.subi v564 v833
  let c2_i32_771 : BitVec 32 := 2#32
  let v937 : BitVec 32 := Scalar.muli v5 c2_i32_771
  let v938 : BitVec 32 := Scalar.subi v834 v937
  let c4_i32_862 : BitVec 32 := 4#32
  let v1041 : BitVec 32 := Scalar.muli v2 c4_i32_862
  let v1042 : BitVec 32 := Scalar.subi v938 v1041
  let c64_i32_864 : BitVec 32 := 64#32
  let v1044 : BitVec 32 := Scalar.muli v1042 c64_i32_864
  let c768_i32_873 : BitVec 32 := 768#32
  ![v1044.toNat, 768]
def k0_dev36 (d0 : Dev nD) : Nat :=
  let c0_i32_870 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_869 : BitVec 32 := 8#32
  let v1045 : BitVec 32 := Scalar.muli v2 c8_i32_869
  let v1046 : BitVec 32 := Scalar.addi c0_i32_870 v1045
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_871 : BitVec 32 := 4#32
  let v1047 : BitVec 32 := Scalar.muli v5 c4_i32_871
  let v1048 : BitVec 32 := Scalar.addi v1046 v1047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v22 : BitVec 32 := Scalar.xori v8 c2_i32_10
  let c1_i32_872 : BitVec 32 := 1#32
  let v1049 : BitVec 32 := Scalar.muli v22 c1_i32_872
  let v1050 : BitVec 32 := Scalar.addi v1048 v1049
  v1050.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Mesh.lean ====
/-
# The mesh: partners, and the rows every transfer moves

The sixteen devices of the 2×2×4 mesh exchange along four involutions: flip `x`, flip `y`, flip the low bit of
`z`, flip the high bit of `z` (`prt b`, `b = 0 … 3`). The result is cut in four blocks of 256 columns, `j = 0 … 3`,
and each column block is reduced and gathered along the four involutions in its own cyclic order: step `s` of
column block `j` uses involution `(s + j) % 4` (`mk j s`).

Rows are counted in chunks of 64. Before reducing step `s` a device holds, of column block `j`, the `16 / 2 ^ s`
chunks from `lo s j c`; it sends the `8 / 2 ^ s` of them from `sl s j c` and keeps the others, which start at
`lo (s + 1) j c`. The gathering steps undo this.

The thirty-two transfers of a device are numbered `i = 4 t + j` in the order they are sent: `t < 4` reduces
(`s = t`), `t ≥ 4` gathers (`s = 7 - t`).
-/
module

public import proofs.«01_k».proof.Proof.Gen.KernelIdeal

@[expose] public section

set_option maxRecDepth 16384

namespace Cert.KernelIdeal.AR

open Cert.KernelIdeal Cert.KernelIdeal.Gen
open Idealize.ShloMosaic

/-- The coordinate of device `c` that involution `b` flips. -/
def bit (b : ℕ) (c : Dev nD) : ℕ :=
  if b = 0 then c.val / 8 % 2 else if b = 1 then c.val / 4 % 2 else if b = 2 then c.val % 2 else c.val / 2 % 2

/-- The weight of that coordinate in the device's number. -/
def wt (b : ℕ) : ℕ := if b = 0 then 8 else if b = 1 then 4 else if b = 2 then 1 else 2

/-- The device across involution `b`. -/
def prt (b : ℕ) (c : Dev nD) : Dev nD := ⟨(c.val + wt b - 2 * wt b * bit b c) % nD, Nat.mod_lt _ (by decide)⟩

/-- The involution step `s` of column block `j` uses. -/
def mk (j s : ℕ) : ℕ := (s + j) % 4

/-- The number of chunks step `s` moves. -/
def hl (s : ℕ) : ℕ := 8 / 2 ^ s

/-- The first chunk held of column block `j` before step `s`. -/
def lo : ℕ → ℕ → Dev nD → ℕ
  | 0, _, _ => 0
  | s + 1, j, c => lo s j c + bit (mk j s) c * hl s

/-- The first chunk sent at step `s`. -/
def sl (s j : ℕ) (c : Dev nD) : ℕ := lo s j c + (1 - bit (mk j s) c) * hl s

/-- The first chunk of the landing buffer that step `s` lands at. -/
def ro (s : ℕ) : ℕ := if s = 0 then 0 else if s = 1 then 8 else if s = 2 then 12 else 14

/-- Transfer `i`'s step, its column block, its involution and its partner. -/
def st (i : Fin 32) : ℕ := if i.val / 4 < 4 then i.val / 4 else 7 - i.val / 4
def cb (i : Fin 32) : ℕ := i.val % 4
def inv (i : Fin 32) : ℕ := mk (cb i) (st i)
def pk (i : Fin 32) (c : Dev nD) : Dev nD := prt (inv i) c

/-- The first chunk transfer `i` sends. -/
def sLo (i : Fin 32) (c : Dev nD) : ℕ := if i.val < 16 then sl (st i) (cb i) c else lo (st i + 1) (cb i) c

/-- The first chunk transfer `i` lands at on device `c`. -/
def dLo (i : Fin 32) (c : Dev nD) : ℕ := if i.val < 16 then ro (st i) else sl (st i) (cb i) c

/-- The device whose last held chunk of column block `j` is chunk `r`. -/
def owner (j r : ℕ) : Dev nD :=
  ⟨((List.range nD).foldl (fun a d => if h : d < nD then (if lo 4 j ⟨d, h⟩ = r then d else a) else a) 0) % nD, Nat.mod_lt _ (by decide)⟩

theorem bit_le (b : ℕ) (c : Dev nD) : bit b c ≤ 1 := by
  unfold bit; split_ifs <;> omega

theorem mk_lt (j s : ℕ) : mk j s < 4 := Nat.mod_lt _ (by decide)

theorem prt_prt_fin : ∀ (b : Fin 4) (c : Dev nD), prt b.val (prt b.val c) = c := by decide +kernel
theorem prt_prt (b : ℕ) (hb : b < 4) (c : Dev nD) : prt b (prt b c) = c := prt_prt_fin ⟨b, hb⟩ c
theorem pk_pk (i : Fin 32) (c : Dev nD) : pk i (pk i c) = c := prt_prt _ (mk_lt _ _) c
theorem st_lt (i : Fin 32) : st i < 4 := by unfold st; split_ifs <;> omega
theorem cb_lt (i : Fin 32) : cb i < 4 := Nat.mod_lt _ (by decide)

/-- What a device holds before step `s` is what it keeps and what it sends. -/
theorem split_cases (s j : ℕ) (c : Dev nD) :
    (lo (s + 1) j c = lo s j c ∧ sl s j c = lo s j c + hl s) ∨ (lo (s + 1) j c = lo s j c + hl s ∧ sl s j c = lo s j c) := by
  have h := bit_le (mk j s) c
  unfold sl; rw [lo]
  rcases (show bit (mk j s) c = 0 ∨ bit (mk j s) c = 1 by omega) with h | h <;> rw [h] <;> simp

/-- The partner sends what this device keeps, -/
theorem sl_prt_fin : ∀ (s j : Fin 4) (c : Dev nD), sl s.val j.val (prt (mk j.val s.val) c) = lo (s.val + 1) j.val c := by decide +kernel
/-- and keeps what this device sends. -/
theorem lo_prt_fin : ∀ (s j : Fin 4) (c : Dev nD), lo (s.val + 1) j.val (prt (mk j.val s.val) c) = sl s.val j.val c := by decide +kernel
theorem lo_le_fin : ∀ (s : Fin 5) (j : Fin 4) (c : Dev nD), lo s.val j.val c + 16 / 2 ^ s.val ≤ 16 := by decide +kernel
theorem owner_lo_fin : ∀ (j : Fin 4) (c : Dev nD), owner j.val (lo 4 j.val c) = c := by decide +kernel
theorem lo_owner_fin : ∀ (j : Fin 4) (r : Fin 16), lo 4 j.val (owner j.val r.val) = r.val := by decide +kernel

theorem sl_prt (s j : ℕ) (hs : s < 4) (hj : j < 4) (c : Dev nD) : sl s j (prt (mk j s) c) = lo (s + 1) j c := sl_prt_fin ⟨s, hs⟩ ⟨j, hj⟩ c
theorem lo_prt (s j : ℕ) (hs : s < 4) (hj : j < 4) (c : Dev nD) : lo (s + 1) j (prt (mk j s) c) = sl s j c := lo_prt_fin ⟨s, hs⟩ ⟨j, hj⟩ c
theorem lo_le (s j : ℕ) (hs : s < 5) (hj : j < 4) (c : Dev nD) : lo s j c + 16 / 2 ^ s ≤ 16 := lo_le_fin ⟨s, hs⟩ ⟨j, hj⟩ c
theorem owner_lo (j : ℕ) (hj : j < 4) (c : Dev nD) : owner j (lo 4 j c) = c := owner_lo_fin ⟨j, hj⟩ c
theorem lo_owner (j r : ℕ) (hj : j < 4) (hr : r < 16) : lo 4 j (owner j r) = r := lo_owner_fin ⟨j, hj⟩ ⟨r, hr⟩

/-- Sent chunks lie in the buffer, as do landed ones. -/
theorem sLo_le : ∀ (i : Fin 32) (c : Dev nD), sLo i c + hl (st i) ≤ 16 := by decide +kernel
theorem dLo_le : ∀ (i : Fin 32) (c : Dev nD), dLo i c + hl (st i) ≤ if i.val < 16 then 15 else 16 := by decide +kernel
theorem hl_pos : ∀ i : Fin 32, 0 < hl (st i) := by decide +kernel

/-- A gathering transfer lands on the partner at the rows it is sent from. -/
theorem dLo_pk : ∀ (i : Fin 32) (c : Dev nD), 16 ≤ i.val → dLo i (pk i c) = sLo i c := by decide +kernel

/-- The kernel's `device_id` chains of its four signals. -/
theorem dev1_eq (c : Dev nD) : (⟨k0_dev1 c, k0_dev1_lt c⟩ : Dev nD) = prt 0 c := by revert c; decide +kernel
theorem dev2_eq (c : Dev nD) : (⟨k0_dev2 c, k0_dev2_lt c⟩ : Dev nD) = prt 1 c := by revert c; decide +kernel
theorem dev3_eq (c : Dev nD) : (⟨k0_dev3 c, k0_dev3_lt c⟩ : Dev nD) = prt 2 c := by revert c; decide +kernel
theorem dev4_eq (c : Dev nD) : (⟨k0_dev4 c, k0_dev4_lt c⟩ : Dev nD) = prt 3 c := by revert c; decide +kernel

end Cert.KernelIdeal.AR
-- ==== Proof.KernelIdeal.Region.lean ====
/-
# Regions of the buffers and what they hold

The transfers, loads and stores of the reduction all act on a band of rows of one column block of a buffer with 1024
columns: `Reg l n j` is the `n` chunks of 64 rows from chunk `l`, columns `256 j … 256 j + 255`. Here: the rectangles
of the program as regions, what a load reads and a store writes there, and the contents in terms of the devices'
arguments.
-/
module

public import proofs.«01_k».proof.Proof.KernelIdeal.Mesh
public import proofs.«01_k».proof.Proof.Gen.KernelIdeal.Skeleton
public import Idealize.ShloMosaic.Lib.Pipeline.Value

@[expose] public section

set_option maxRecDepth 16384

noncomputable section

namespace Cert.KernelIdeal.AR

open Cert.KernelIdeal Cert.KernelIdeal.Gen
open Idealize.ShloMosaic Idealize.ShloMosaic.TcCoe

variable {F : FTy → Type} [FloatOps F]

/-- The shape of a buffer of `R` rows and 1024 columns. -/
abbrev Sh (R : ℕ) : Shape := ⟨2, ![R, 1024]⟩

/-- The element at row `r`, column `k` (taken modulo the buffer's sizes, so that it is one for any numbers). -/
def ix (R : ℕ) [NeZero R] (r k : ℕ) : (Sh R).Idx
  | 0 => ⟨r % R, Nat.mod_lt _ (Nat.pos_of_ne_zero (NeZero.ne R))⟩
  | 1 => ⟨k % 1024, Nat.mod_lt _ (by decide)⟩

theorem ix_row (R : ℕ) [NeZero R] (r k : ℕ) (h : r < R) : (ix R r k 0).val = r := Nat.mod_eq_of_lt h
theorem ix_col (R : ℕ) [NeZero R] (r k : ℕ) (h : k < 1024) : (ix R r k 1).val = k := Nat.mod_eq_of_lt h
theorem row_lt {R : ℕ} (x : (Sh R).Idx) : (x 0).val < R := (x 0).isLt
theorem col_lt {R : ℕ} (x : (Sh R).Idx) : (x 1).val < 1024 := (x 1).isLt

theorem idx_ext {R : ℕ} {x y : (Sh R).Idx} (h0 : (x 0).val = (y 0).val) (h1 : (x 1).val = (y 1).val) : x = y := by
  funext a
  match a with
  | 0 => exact Fin.ext h0
  | 1 => exact Fin.ext h1

theorem eq_ix {R : ℕ} [NeZero R] (x : (Sh R).Idx) (r k : ℕ) (h0 : (x 0).val = r) (h1 : (x 1).val = k) : x = ix R r k :=
  idx_ext (by rw [ix_row R r k (by rw [← h0]; exact row_lt x), h0]) (by rw [ix_col R r k (by rw [← h1]; exact col_lt x), h1])

/-- `n` chunks of rows from chunk `l`, of column block `j`. -/
def Reg {R : ℕ} (l n j : ℕ) : Finset (Sh R).Idx :=
  Finset.univ.filter fun x => (64 * l ≤ (x 0).val ∧ (x 0).val < 64 * (l + n)) ∧ 256 * j ≤ (x 1).val ∧ (x 1).val < 256 * (j + 1)

theorem mem_Reg {R l n j : ℕ} {x : (Sh R).Idx} :
    x ∈ (Reg l n j : Finset (Sh R).Idx) ↔ (64 * l ≤ (x 0).val ∧ (x 0).val < 64 * (l + n)) ∧ 256 * j ≤ (x 1).val ∧ (x 1).val < 256 * (j + 1) := by
  unfold Reg; rw [Finset.mem_filter]; exact and_iff_right (Finset.mem_univ _)

/-- A rectangle of the program is a region. -/
theorem rect_set {R l n j : ℕ} {off sz : Fin 2 → ℕ} (hoff : off = ![64 * l, 256 * j]) (hsz : sz = ![64 * n, 256])
    (inb : ∀ a, off a + sz a ≤ (Sh R).size a) : (Rect.unit (s := Sh R) off sz inb).set = Reg l n j := by
  subst hoff hsz
  ext x
  rw [Rect.mem_set_unit, mem_Reg, Fin.forall_fin_two]
  show ((64 * l ≤ (x 0).val ∧ (x 0).val < 64 * l + 64 * n) ∧ 256 * j ≤ (x 1).val ∧ (x 1).val < 256 * j + 256) ↔ _
  rw [Nat.mul_add, Nat.mul_add]

/-- A rectangle's element. -/
theorem rect_emb {R l j : ℕ} [NeZero R] {off sz : Fin 2 → ℕ} (hoff : off = ![64 * l, 256 * j])
    (inb : ∀ a, off a + sz a ≤ (Sh R).size a) (y : (Rect.unit (s := Sh R) off sz inb).shape.Idx) :
    (Rect.unit (s := Sh R) off sz inb).emb y = ix R (64 * l + (y 0).val) (256 * j + (y 1).val) := by
  subst hoff
  refine eq_ix _ _ _ ?_ ?_
  · rw [Rect.emb_apply]; show 64 * l + 1 * (y 0).val = _; rw [Nat.one_mul]
  · rw [Rect.emb_apply]; show 256 * j + 1 * (y 1).val = _; rw [Nat.one_mul]

/-- What is read of contents `f` at a region, as a vector of the sizes `sz`. -/
def sec {α : Type} {R : ℕ} [NeZero R] (sz : Fin 2 → ℕ) (l j : ℕ) (f : (Sh R).Idx → α) : (⟨2, sz⟩ : Shape).Idx → α :=
  fun y => f (ix R (64 * l + (y 0).val) (256 * j + (y 1).val))

/-! ## The buffers -/

abbrev aM : Memref sig .tc .vmem S1024x512 .f32 := Memref.whole cc0_scratch0
abbrev bM : Memref sig .tc .vmem S1024x512 .f32 := Memref.whole cc0_scratch1
abbrev cM : Memref sig .tc .vmem S1024x1024 .bf16 := Memref.whole cc0_scratch2
abbrev rM : Memref sig .tc .vmem S960x1024 .bf16 := Memref.whole cc0_scratch3
abbrev gM : Memref sig .tc .vmem S1024x1024 .bf16 := Memref.whole cc0_scratch4
abbrev oM : Memref sig .tc .vmem S1024x1024 .f32 := Memref.whole cc0_stg0_0

section Access
variable {l n j : ℕ} {off sz : Fin 2 → ℕ} (hoff : off = ![64 * l, 256 * j])

include hoff in
theorem read_c (inb) (f : S1024x1024.Idx → Elt F .bf16) :
    (cM.view.slice (Rect.unit (s := S1024x1024) off sz inb)).read (Elt F) f = sec sz l j f :=
  funext fun y => congrArg f (rect_emb hoff inb y)
include hoff in
theorem read_g (inb) (f : S1024x1024.Idx → Elt F .bf16) :
    (gM.view.slice (Rect.unit (s := S1024x1024) off sz inb)).read (Elt F) f = sec sz l j f :=
  funext fun y => congrArg f (rect_emb hoff inb y)
include hoff in
theorem load_c (inb) (f : S1024x1024.Idx → Elt F .bf16) :
    cM.view.readAt (Elt F) (Rect.unit (s := S1024x1024) off sz inb).toLoadRect f = sec sz l j f :=
  funext fun y => congrArg f (rect_emb hoff inb y)
include hoff in
theorem load_g (inb) (f : S1024x1024.Idx → Elt F .bf16) :
    gM.view.readAt (Elt F) (Rect.unit (s := S1024x1024) off sz inb).toLoadRect f = sec sz l j f :=
  funext fun y => congrArg f (rect_emb hoff inb y)
include hoff in
theorem load_r (inb) (f : S960x1024.Idx → Elt F .bf16) :
    rM.view.readAt (Elt F) (Rect.unit (s := S960x1024) off sz inb).toLoadRect f = sec sz l j f :=
  funext fun y => congrArg f (rect_emb hoff inb y)

variable (hsz : sz = ![64 * n, 256])

include hoff hsz in
theorem set_c (inb) : (cM.view.slice (Rect.unit (s := S1024x1024) off sz inb)).set = (Reg l n j : Finset (Sh 1024).Idx) := by
  rw [View.set_slice_whole]; exact rect_set hoff hsz inb
include hoff hsz in
theorem set_g (inb) : (gM.view.slice (Rect.unit (s := S1024x1024) off sz inb)).set = (Reg l n j : Finset (Sh 1024).Idx) := by
  rw [View.set_slice_whole]; exact rect_set hoff hsz inb
include hoff hsz in
theorem set_r (inb) : (rM.view.slice (Rect.unit (s := S960x1024) off sz inb)).set = (Reg l n j : Finset (Sh 960).Idx) := by
  rw [View.set_slice_whole]; exact rect_set hoff hsz inb
include hoff hsz in
theorem set_o (inb) : (oM.view.slice (Rect.unit (s := S1024x1024) off sz inb)).set = (Reg l n j : Finset (Sh 1024).Idx) := by
  rw [View.set_slice_whole]; exact rect_set hoff hsz inb

/-- In a region an element is one of the rectangle's. -/
theorem Reg_exists {R : ℕ} [NeZero R] {x : (Sh R).Idx} (hx : x ∈ (Reg l n j : Finset (Sh R).Idx)) :
    ∃ y0 y1 : ℕ, y0 < 64 * n ∧ y1 < 256 ∧ (x 0).val = 64 * l + y0 ∧ (x 1).val = 256 * j + y1 := by
  obtain ⟨⟨h1, h2⟩, h3, h4⟩ := mem_Reg.mp hx
  refine ⟨(x 0).val - 64 * l, (x 1).val - 256 * j, ?_, ?_, ?_, ?_⟩ <;> omega

include hoff hsz in
theorem write_c (inb) (f : S1024x1024.Idx → Elt F .bf16) (w : (⟨2, sz⟩ : Shape).Idx → Elt F .bf16) (G : S1024x1024.Idx → Elt F .bf16)
    (hw : w = sec sz l j G) : ∀ x ∈ (Reg l n j : Finset (Sh 1024).Idx),
      (cM.view.slice (Rect.unit (s := S1024x1024) off sz inb)).write (Elt F) f w Finset.univ x = G x := by
  intro x hx
  rw [← rect_set hoff hsz inb, ← Rect.map_emb_univ] at hx
  obtain ⟨y, -, rfl⟩ := Finset.mem_map.mp hx
  refine (View.write_emb_of_mem (v := cM.view.slice (Rect.unit (s := S1024x1024) off sz inb)) (Val := Elt F) f w (x := y) (Finset.mem_univ _)).trans ?_
  subst hw; exact (congrArg G (rect_emb hoff inb y)).symm
include hoff hsz in
theorem write_g (inb) (f : S1024x1024.Idx → Elt F .bf16) (w : (⟨2, sz⟩ : Shape).Idx → Elt F .bf16) (G : S1024x1024.Idx → Elt F .bf16)
    (hw : w = sec sz l j G) : ∀ x ∈ (Reg l n j : Finset (Sh 1024).Idx),
      (gM.view.slice (Rect.unit (s := S1024x1024) off sz inb)).write (Elt F) f w Finset.univ x = G x := by
  intro x hx
  rw [← rect_set hoff hsz inb, ← Rect.map_emb_univ] at hx
  obtain ⟨y, -, rfl⟩ := Finset.mem_map.mp hx
  refine (View.write_emb_of_mem (v := gM.view.slice (Rect.unit (s := S1024x1024) off sz inb)) (Val := Elt F) f w (x := y) (Finset.mem_univ _)).trans ?_
  subst hw; exact (congrArg G (rect_emb hoff inb y)).symm
include hoff hsz in
theorem write_o (inb) (f : S1024x1024.Idx → Elt F .f32) (w : (⟨2, sz⟩ : Shape).Idx → Elt F .f32) (G : S1024x1024.Idx → Elt F .f32)
    (hw : w = sec sz l j G) : ∀ x ∈ (Reg l n j : Finset (Sh 1024).Idx),
      (oM.view.slice (Rect.unit (s := S1024x1024) off sz inb)).write (Elt F) f w Finset.univ x = G x := by
  intro x hx
  rw [← rect_set hoff hsz inb, ← Rect.map_emb_univ] at hx
  obtain ⟨y, -, rfl⟩ := Finset.mem_map.mp hx
  refine (View.write_emb_of_mem (v := oM.view.slice (Rect.unit (s := S1024x1024) off sz inb)) (Val := Elt F) f w (x := y) (Finset.mem_univ _)).trans ?_
  subst hw; exact (congrArg G (rect_emb hoff inb y)).symm
include hoff hsz in
/-- Off its region a store into the result leaves it. -/
theorem write_o_off (inb) (f : S1024x1024.Idx → Elt F .f32) (w : (⟨2, sz⟩ : Shape).Idx → Elt F .f32) :
    ∀ x ∉ (Reg l n j : Finset (Sh 1024).Idx),
      (oM.view.slice (Rect.unit (s := S1024x1024) off sz inb)).write (Elt F) f w Finset.univ x = f x := by
  intro x hx
  refine View.write_of_not_mem (v := oM.view.slice (Rect.unit (s := S1024x1024) off sz inb)) (Val := Elt F) f w Finset.univ ?_
  rw [View.setOn_univ, set_o hoff hsz]; exact hx
include hoff hsz in
theorem write_r (inb) (f : S960x1024.Idx → Elt F .bf16) (w : (⟨2, sz⟩ : Shape).Idx → Elt F .bf16) (G : S960x1024.Idx → Elt F .bf16)
    (hw : w = sec sz l j G) : ∀ x ∈ (Reg l n j : Finset (Sh 960).Idx),
      (rM.view.slice (Rect.unit (s := S960x1024) off sz inb)).write (Elt F) f w Finset.univ x = G x := by
  intro x hx
  rw [← rect_set hoff hsz inb, ← Rect.map_emb_univ] at hx
  obtain ⟨y, -, rfl⟩ := Finset.mem_map.mp hx
  refine (View.write_emb_of_mem (v := rM.view.slice (Rect.unit (s := S960x1024) off sz inb)) (Val := Elt F) f w (x := y) (Finset.mem_univ _)).trans ?_
  subst hw; exact (congrArg G (rect_emb hoff inb y)).symm

end Access

/-! ## The contents -/

variable (m : (ℓ : Loc nD τ sig) → Buf (Elt F) ℓ)

/-- The slab of columns of its arguments device `c` works on. -/
def aSlab (c : Dev nD) : S1024x512.Idx → Elt F .f32 :=
  ((Memref.whole main_arg0 : Memref sig .tc .hbm S1024x4096 .f32).view.slice (Rect.unit (s := S1024x4096) (k0_off1 c) S1024x512.size (k0_off1_inb c))).read (Elt F)
    (m ((c : Thread nD τ).loc main_arg0))
def bSlab (c : Dev nD) : S1024x512.Idx → Elt F .f32 :=
  ((Memref.whole main_arg1 : Memref sig .tc .hbm S1024x4096 .f32).view.slice (Rect.unit (s := S1024x4096) (k0_off1 c) S1024x512.size (k0_off1_inb c))).read (Elt F)
    (m ((c : Thread nD τ).loc main_arg1))

/-- Device `c`'s partial product. -/
def part (c : Dev nD) : FVec F S1024x1024 .bf16 := k0_pay1 (aSlab m c) (bSlab m c)

/-- What device `c` has accumulated of column block `j` before step `s`, as a value at every element (the program
    holds it at the chunks from `lo s j c`). -/
def acc (j : ℕ) : ℕ → Dev nD → FVec F S1024x1024 .bf16
  | 0, c => part m c
  | s + 1, c => addf (acc j s c) (acc j s (prt (mk j s) c))

/-- What transfer `i < 16` lands on device `c`: the partner's accumulated values at the rows this device keeps. -/
def land (i : Fin 32) (c : Dev nD) : S960x1024.Idx → Elt F .bf16 := fun x =>
  acc m (cb i) (st i) (pk i c) (ix 1024 ((x 0).val - 64 * ro (st i) + 64 * lo (st i + 1) (cb i) c) (x 1).val)

/-- The reduced matrix: at each element the accumulated value of the device whose last chunk it is in. -/
def red : S1024x1024.Idx → Elt F .bf16 := fun x =>
  acc m ((x 1).val / 256) 4 (owner ((x 1).val / 256) ((x 0).val / 64)) x

/-- The result. -/
def outV : S1024x1024.Idx → Elt F .f32 := extf .f32 (red m : FVec F S1024x1024 .bf16) bitsLt_bf16_f32

theorem red_own (c : Dev nD) (j : ℕ) (hj : j < 4) : ∀ x ∈ (Reg (lo 4 j c) 1 j : Finset (Sh 1024).Idx), red m x = acc m j 4 c x := by
  intro x hx
  obtain ⟨⟨h1, h2⟩, h3, h4⟩ := mem_Reg.mp hx
  have e1 : (x 1).val / 256 = j := by omega
  have e0 : (x 0).val / 64 = lo 4 j c := by omega
  show acc m ((x 1).val / 256) 4 (owner ((x 1).val / 256) ((x 0).val / 64)) x = _
  rw [e1, e0, owner_lo j hj]

theorem st_of_lt : ∀ i : Fin 32, i.val < 16 → st i = i.val / 4 := fun i h => if_pos (by omega)

/-- A reducing transfer lands the partner's source region as `land` says. -/
theorem sec_land (sz : Fin 2 → ℕ) (n : ℕ) (hsz : sz = ![64 * n, 256]) (i : Fin 32) (c : Dev nD) (hi : i.val < 16) (hn : n = hl (st i)) :
    sec sz (ro (st i)) (cb i) (land m i c) = sec sz (sLo i (pk i c)) (cb i) (acc m (cb i) (st i) (pk i c)) := by
  subst hsz
  funext y
  have hy0 : (y 0).val < 64 * n := (y 0).isLt
  have hy1 : (y 1).val < 256 := (y 1).isLt
  have hd := dLo_le i c
  unfold dLo at hd; rw [if_pos hi, if_pos hi] at hd
  have hc := cb_lt i
  have hs : sLo i (pk i c) = lo (st i + 1) (cb i) c := by
    unfold sLo; rw [if_pos hi]; exact sl_prt _ _ (st_lt i) hc c
  show acc m _ _ _ _ = acc m _ _ _ _
  rw [hs]
  congr 1
  rw [ix_row 960 _ _ (by subst hn; omega), ix_col 960 _ _ (by omega)]
  congr 1; omega

/-- One reducing step. -/
theorem sec_acc (sz : Fin 2 → ℕ) (n : ℕ) (hsz : sz = ![64 * n, 256]) (i : Fin 32) (c : Dev nD) (hi : i.val < 16) (hn : n = hl (st i)) :
    (addf (sec sz (lo (st i + 1) (cb i) c) (cb i) (acc m (cb i) (st i) c) : FVec F ⟨2, sz⟩ .bf16) (sec sz (ro (st i)) (cb i) (land m i c)))
      = sec sz (lo (st i + 1) (cb i) c) (cb i) (acc m (cb i) (st i + 1) c) := by
  rw [sec_land m sz n hsz i c hi hn]
  have hs : sLo i (pk i c) = lo (st i + 1) (cb i) c := by
    unfold sLo; rw [if_pos hi]; exact sl_prt _ _ (st_lt i) (cb_lt i) c
  rw [hs]; rfl

end Cert.KernelIdeal.AR

end
-- ==== Proof.KernelIdeal.Protocol.lean ====
/-
# The protocol of the exchange

Every device signals its four neighbours once and waits for four signals; a device's signal to its neighbour across
axis `b` hands over the landing regions of the transfers that neighbour will send it across `b`. A transfer's send cell
hands back the source, its receive cell the landing region with what was sent. One round; the contents are part of the
payloads. Levels: the barrier at 1, the receive cell of transfer `4 t + j` at `t + 2`, the rest at 0.
-/
module

public import proofs.«01_k».proof.Proof.KernelIdeal.Region
public import proofs.«01_k».proof.Proof.Gen.KernelIdeal.Launch
public import proofs.«01_k».proof.Proof.Gen.KernelIdeal.Points
public import Idealize.ShloMosaic.Lib.Pipeline.Launch
public import Idealize.ShloMosaic.Lib.Rounds
public import Idealize.ShloMosaic.Lib.Transfers
public import Idealize.ShloMosaic.Lib.Tactic

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.RefSig (tileCredit tileCredit_pos)
open Idealize.ShloMosaic.Transfers (shareDrop shareTokN shareTok)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

inductive Role where
  | bar | inp (k : Fin 2) | send (i : Fin 32) | recv (i : Fin 32) | other
  deriving DecidableEq

/-- What a semaphore is for. -/
def role : SemLoc sig → Role
  | .reg _ => .bar
  | .dma q => if q.val = 0 then .other else if q.val = 1 then .inp 0 else if q.val = 2 then .inp 1
    else if h : q.val < 35 then .send ⟨(q.val - 3) % 32, Nat.mod_lt _ (by decide)⟩ else .recv ⟨(q.val - 35) % 32, Nat.mod_lt _ (by decide)⟩

abbrev barS : Sem sig := (SemArray.scalar (sig.barrier 0 rfl) : Sems sig S_).sem
def inS (k : Fin 2) : DmaSem sig := (⟨k.val + 1, by have := k.isLt; omega⟩ : Fin 67)
def sndS (i : Fin 32) : DmaSem sig := (⟨i.val + 3, by have := i.isLt; omega⟩ : Fin 67)
def rcvS (i : Fin 32) : DmaSem sig := (⟨i.val + 35, by have := i.isLt; omega⟩ : Fin 67)

/-- The cells' semaphores: the barrier, then the 66 DMA semaphores of the kernel. -/
def csem (k : Fin 67) : SemLoc sig := if k.val = 0 then .reg barS else .dma (k : Fin 67)

abbrev kcell (ck : Dev nD × Fin 67) : GSem nD τ sig := ((ck.1 : Thread nD τ), csem ck.2)
abbrev barC (c : Dev nD) : GSem nD τ sig := ((c : Thread nD τ), .reg barS)
abbrev inC (k : Fin 2) (c : Dev nD) : GSem nD τ sig := ((c : Thread nD τ), .dma (inS k))
abbrev sndC (i : Fin 32) (c : Dev nD) : GSem nD τ sig := ((c : Thread nD τ), .dma (sndS i))
abbrev rcvC (i : Fin 32) (c : Dev nD) : GSem nD τ sig := ((c : Thread nD τ), .dma (rcvS i))

theorem role_bar : role (.reg barS) = .bar := rfl
theorem role_in : ∀ k : Fin 2, role (.dma (inS k)) = .inp k := by decide
theorem role_snd : ∀ i : Fin 32, role (.dma (sndS i)) = .send i := by decide +kernel
theorem role_rcv : ∀ i : Fin 32, role (.dma (rcvS i)) = .recv i := by decide +kernel

def kIn (k : Fin 2) : Fin 67 := inS k
def kSnd (i : Fin 32) : Fin 67 := sndS i
def kRcv (i : Fin 32) : Fin 67 := rcvS i
theorem csem_in : ∀ k : Fin 2, csem (kIn k) = .dma (inS k) := by decide
theorem csem_snd : ∀ i : Fin 32, csem (kSnd i) = .dma (sndS i) := by decide +kernel
theorem csem_rcv : ∀ i : Fin 32, csem (kRcv i) = .dma (rcvS i) := by decide +kernel
theorem csem_bar : csem 0 = .reg barS := rfl

/-- The credit of an input copy, and of transfer `i`. -/
def Nin : ℕ := tileCredit S1024x512 .f32
def Ntr (i : Fin 32) : ℕ := tileCredit ⟨2, ![64 * hl (st i), 256]⟩ .bf16
theorem Nin_pos : 0 < Nin := tileCredit_pos _ _ (by decide)
theorem Ntr_pos : ∀ i : Fin 32, 0 < Ntr i := fun i => tileCredit_pos _ _ (Shape.numel_pos fun a => by
  have := hl_pos i
  match a with
  | 0 => show 0 < 64 * hl (st i); omega
  | 1 => show 0 < 256; omega)

/-! ## Regions of memory as assertions -/

abbrev aPts (c : Dev nD) (f : S1024x512.Idx → Elt F .f32) : sProp 𝕄 := aM.view.loc (c : Thread nD τ) ↦{fullShare} f
abbrev bPts (c : Dev nD) (f : S1024x512.Idx → Elt F .f32) : sProp 𝕄 := bM.view.loc (c : Thread nD τ) ↦{fullShare} f
abbrev cPts (c : Dev nD) (S : Finset (Sh 1024).Idx) (q : PosShare TreeShare) (f : S1024x1024.Idx → Elt F .bf16) : sProp 𝕄 := cM.view.loc (c : Thread nD τ) ↦[S]{q} f
abbrev rPts (c : Dev nD) (S : Finset (Sh 960).Idx) (q : PosShare TreeShare) (f : S960x1024.Idx → Elt F .bf16) : sProp 𝕄 := rM.view.loc (c : Thread nD τ) ↦[S]{q} f
abbrev gPts (c : Dev nD) (S : Finset (Sh 1024).Idx) (q : PosShare TreeShare) (f : S1024x1024.Idx → Elt F .bf16) : sProp 𝕄 := gM.view.loc (c : Thread nD τ) ↦[S]{q} f
abbrev oPts (c : Dev nD) (f : S1024x1024.Idx → Elt F .f32) : sProp 𝕄 := oM.view.loc (c : Thread nD τ) ↦{fullShare} f

/-- The region transfer `i` lands in on device `c`, holding anything. -/
def dstAny (i : Fin 32) (c : Dev nD) : sProp 𝕄 :=
  if i.val < 16 then iprop(∃ f, rPts (F := F) c (Reg (dLo i c) (hl (st i)) (cb i)) fullShare f)
  else iprop(∃ f, gPts (F := F) c (Reg (dLo i c) (hl (st i)) (cb i)) fullShare f)

variable (m : (ℓ : Loc nD τ sig) → Buf (Elt F) ℓ)

/-- The region of the arguments an input copy reads. -/
def argSet (c : Dev nD) : Finset S1024x4096.Idx := (Rect.unit (s := S1024x4096) (k0_off1 c) S1024x512.size (k0_off1_inb c)).set

def inPay (k : Fin 2) (c : Dev nD) : sProp 𝕄 :=
  if k = 0 then iprop(aPts c (aSlab m c) ∗ ((c : Thread nD τ).loc main_arg0 ↦[argSet c]{fullShare} m ((c : Thread nD τ).loc main_arg0)))
  else iprop(bPts c (bSlab m c) ∗ ((c : Thread nD τ).loc main_arg1 ↦[argSet c]{fullShare} m ((c : Thread nD τ).loc main_arg1)))

/-- The source of transfer `i` on device `c`, as lent. -/
def srcPay (i : Fin 32) (c : Dev nD) : sProp 𝕄 :=
  if i.val < 16 then cPts c (Reg (sLo i c) (hl (st i)) (cb i)) fullShare (acc m (cb i) (st i) c)
  else gPts c (Reg (sLo i c) (hl (st i)) (cb i)) (shareTokN fullShare (i.val / 4 - 4)) (red m)

/-- What transfer `i` has landed on device `c`. -/
def dstPay (i : Fin 32) (c : Dev nD) : sProp 𝕄 :=
  if i.val < 16 then rPts c (Reg (dLo i c) (hl (st i)) (cb i)) fullShare (land m i c)
  else gPts c (Reg (dLo i c) (hl (st i)) (cb i)) fullShare (red m)

/-- The transfers across axis `b`. -/
def across (b : Fin 4) : Finset (Fin 32) := Finset.univ.filter fun i => inv i = b.val

/-- What the signal of device `c`'s neighbour across `b` hands `c`: that neighbour's landing regions across `b`. -/
def barPay (b : Fin 4) (c : Dev nD) : sProp 𝕄 := bigSep (across b) fun i => dstAny (F := F) i (prt b.val c)

def pay (r : Role) (c : Dev nD) (d : Fin 4) : sProp 𝕄 :=
  match r with
  | .bar => barPay (F := F) d c
  | .inp k => inPay m k c
  | .send i => srcPay m i c
  | .recv i => dstPay m i c
  | .other => iprop(emp)

def amt : Role → ℕ
  | .bar => 1
  | .inp _ => Nin
  | .send i => Ntr i
  | .recv i => Ntr i
  | .other => 1

def dut : Role → Finset (Fin 4)
  | .bar => Finset.univ
  | .other => ∅
  | _ => {0}

omit [FloatOps F] in
instance dstAny_storable (i : Fin 32) (c : Dev nD) : BI.Storable (upEmb : UEmb _ 𝕄) (dstAny (F := F) i c) := by
  unfold dstAny; split <;> infer_instance
instance dstPay_storable (i : Fin 32) (c : Dev nD) : BI.Storable (upEmb : UEmb _ 𝕄) (dstPay (F := F) m i c) := by
  unfold dstPay; split <;> infer_instance
instance srcPay_storable (i : Fin 32) (c : Dev nD) : BI.Storable (upEmb : UEmb _ 𝕄) (srcPay (F := F) m i c) := by
  unfold srcPay; split <;> infer_instance
instance inPay_storable (k : Fin 2) (c : Dev nD) : BI.Storable (upEmb : UEmb _ 𝕄) (inPay (F := F) m k c) := by
  unfold inPay; split <;> infer_instance
omit [FloatOps F] in
instance barPay_storable (b : Fin 4) (c : Dev nD) : BI.Storable (upEmb : UEmb _ 𝕄) (barPay (F := F) b c) := by
  unfold barPay; infer_instance

/-- One round, round 0. -/
def Rd : Rounds.Schedule (GSem nD τ sig) (Fin 4) 𝕄 where
  duties g r := if r = 0 ∧ g.1.2 = .tc then dut (role g.2) else ∅
  unitless _ := False
  amount g _ _ := amt (role g.2)
  payload g _ d := pay m (role g.2) g.1.1 d
  amount_pos g _ _ _ := by
    show 0 < amt (role g.2)
    cases role g.2 with
    | bar => exact Nat.one_pos
    | other => exact Nat.one_pos
    | inp k => exact Nin_pos
    | send i => exact Ntr_pos i
    | recv i => exact Ntr_pos i

instance Rd_storable (g : GSem nD τ sig) (r : ℕ) (d : Fin 4) : BI.Storable (upEmb : UEmb _ 𝕄) ((Rd (F := F) m).payload g r d) := by
  show BI.Storable upEmb (pay m (role g.2) g.1.1 d)
  cases role g.2 <;> (unfold pay; infer_instance)

section Sched
variable (c : Dev nD) (sm : SemLoc sig)

theorem duties_eq : (Rd (F := F) m).duties ((c : Thread nD τ), sm) 0 = dut (role sm) := by
  dsimp only [Rd]; exact if_pos ⟨rfl, rfl⟩
theorem duties_later (g : GSem nD τ sig) : ∀ r, 1 ≤ r → (Rd (F := F) m).duties g r = ∅ := fun r hr => by
  dsimp only [Rd]; exact if_neg fun h => by omega
theorem amount_eq (r : ℕ) (d : Fin 4) : (Rd (F := F) m).amount ((c : Thread nD τ), sm) r d = amt (role sm) := rfl
theorem payload_eq (r : ℕ) (d : Fin 4) : (Rd (F := F) m).payload ((c : Thread nD τ), sm) r d = pay m (role sm) c d := rfl

/-- A DMA cell's round: one duty. -/
theorem expect_one (h : dut (role sm) = {0}) : (Rd (F := F) m).expect ((c : Thread nD τ), sm) 0 = amt (role sm) := by
  unfold Schedule.expect Schedule.amountOf; rw [duties_eq, h, Finset.sum_singleton, amount_eq]
theorem rest_one (h : dut (role sm) = {0}) :
    bigSep ((Rd (F := F) m).duties ((c : Thread nD τ), sm) 0 \ ∅) (fun d => (Rd (F := F) m).payload ((c : Thread nD τ), sm) 0 d) = pay m (role sm) c 0 := by
  rw [Finset.sdiff_empty, duties_eq, h, bigSep_singleton, payload_eq]
theorem expect_bar : (Rd (F := F) m).expect (barC c) 0 = 4 := by
  unfold Schedule.expect Schedule.amountOf
  rw [duties_eq, Finset.sum_congr rfl fun d _ => amount_eq m c _ 0 d]; rfl
theorem rest_bar : bigSep ((Rd (F := F) m).duties (barC c) 0 \ ∅) (fun d => (Rd (F := F) m).payload (barC c) 0 d)
    = bigSep Finset.univ fun b : Fin 4 => barPay (F := F) b c := by
  rw [Finset.sdiff_empty, duties_eq]; rfl

end Sched

/-! ## What is owed, and the levels -/

/-- What device `c` owes its neighbours' receive cells when it has sent `n` transfers. -/
def owed (c : Dev nD) (n : ℕ) : CellTallies nD τ sig Unit :=
  ∑ i ∈ Finset.univ.filter (fun i : Fin 32 => n ≤ i.val), tallyAt (rcvC i (pk i c)) () (Ntr i)

theorem ge_succ (i : Fin 32) : (Finset.univ.filter fun k : Fin 32 => i.val ≤ k.val) = insert i (Finset.univ.filter fun k : Fin 32 => i.val + 1 ≤ k.val) := by
  ext k; rw [Finset.mem_insert, Finset.mem_filter, Finset.mem_filter, Fin.ext_iff]
  simp only [Finset.mem_univ, true_and]; omega
theorem not_mem_ge (i : Fin 32) : i ∉ (Finset.univ.filter fun k : Fin 32 => i.val + 1 ≤ k.val) := by
  rw [Finset.mem_filter]; omega
theorem lt_succ (i : Fin 32) : (Finset.univ.filter fun k : Fin 32 => k.val < i.val + 1) = insert i (Finset.univ.filter fun k : Fin 32 => k.val < i.val) := by
  ext k; rw [Finset.mem_insert, Finset.mem_filter, Finset.mem_filter, Fin.ext_iff]
  simp only [Finset.mem_univ, true_and]; omega
theorem not_mem_lt (i : Fin 32) : i ∉ (Finset.univ.filter fun k : Fin 32 => k.val < i.val) := by
  rw [Finset.mem_filter]; omega

theorem owed_succ (c : Dev nD) (i : Fin 32) : owed c i.val = owed c (i.val + 1) + tallyAt (rcvC i (pk i c)) () (Ntr i) := by
  unfold owed; rw [ge_succ, Finset.sum_insert (not_mem_ge i), add_comm]
theorem owed_end (c : Dev nD) : owed c 32 = 0 := by
  unfold owed; rw [Finset.filter_false_of_mem (fun i _ => by have := i.isLt; omega), Finset.sum_empty]

theorem owed_pos {c : Dev nD} {n : ℕ} {g : GSem nD τ sig} {u : Unit} (h : 0 < owed c n g u) : ∃ i : Fin 32, n ≤ i.val ∧ g = rcvC i (pk i c) := by
  unfold owed at h
  rw [Finset.sum_apply, Finsupp.finset_sum_apply] at h
  obtain ⟨i, hi, hne⟩ := Finset.exists_ne_zero_of_sum_ne_zero (Nat.pos_iff_ne_zero.mp h)
  refine ⟨i, (Finset.mem_filter.mp hi).2, ?_⟩
  rw [tallyAt_apply] at hne
  by_contra hg
  exact hne (if_neg fun h' => hg h'.1)

/-- What it owes from the start: its neighbours' barriers too, the first signalled last. -/
def owed₀ (c : Dev nD) : CellTallies nD τ sig Unit :=
  owed c 0 + tallyAt (barC (prt 3 c)) () 1 + tallyAt (barC (prt 2 c)) () 1 + tallyAt (barC (prt 1 c)) () 1 + tallyAt (barC (prt 0 c)) () 1

def L (g : GSem nD τ sig) : Finset Unit := if g.1.2 = .tc then {()} else ∅
def lvR : Role → ℕ
  | .bar => 1
  | .recv i => i.val / 4 + 2
  | _ => 0
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

theorem owed₀_pos {c : Dev nD} {g : GSem nD τ sig} {u : Unit} (h : 0 < owed₀ c g u) : ∃ (d : Dev nD) (sm : SemLoc sig), g = ((d : Thread nD τ), sm) ∧ 0 < lv g u := by
  unfold owed₀ at h
  rw [Pi.add_apply, Finsupp.add_apply, Pi.add_apply, Finsupp.add_apply, Pi.add_apply, Finsupp.add_apply, Pi.add_apply, Finsupp.add_apply,
    tallyAt_apply, tallyAt_apply, tallyAt_apply, tallyAt_apply] at h
  by_cases h0 : 0 < owed c 0 g u
  · obtain ⟨i, -, rfl⟩ := owed_pos h0
    refine ⟨_, _, rfl, ?_⟩
    show 0 < lvR (role _); rw [role_rcv]; exact Nat.succ_pos _
  · by_contra hn
    have hb : ∀ d : Dev nD, ¬ (g = barC d ∧ u = ()) := fun d hg => hn ⟨d, .reg barS, hg.1, by rw [hg.1]; exact Nat.one_pos⟩
    rw [if_neg (hb _), if_neg (hb _), if_neg (hb _), if_neg (hb _)] at h
    omega

/-- A wait on cell `sm` while everything owed lies above it. -/
theorem mayWait (c : Dev nD) (sm : SemLoc sig) (O : CellTallies nD τ sig Unit)
    (h : ∀ g u, 0 < O g u → (∃ (d : Dev nD) (s : SemLoc sig), g = ((d : Thread nD τ), s)) ∧ lvR (role sm) < lv g u) :
    (levAts L lv : sProp 𝕄) ⊢ MayWait (c : Thread nD τ) sm () O :=
  MayOwe.of_cut (L := L) (lev := lv) (lvR (role sm)) (fun p hp => by rw [Finset.mem_singleton.mp hp, L_tc]; exact Finset.mem_singleton_self _)
    (fun g u hg => by obtain ⟨⟨d, s, rfl⟩, -⟩ := h g u hg; rw [L_tc]; exact Finset.mem_singleton_self _)
    (fun p hp => by rw [Finset.mem_singleton.mp hp]; exact Nat.le_refl _)
    (fun g u hg => (h g u hg).2)

/-- While the transfers from `n` on are owed, a wait on a cell below all their levels. -/
theorem mayWait_owed (c : Dev nD) (sm : SemLoc sig) (n : ℕ) (h : ∀ i : Fin 32, n ≤ i.val → lvR (role sm) < i.val / 4 + 2) :
    (levAts L lv : sProp 𝕄) ⊢ MayWait (c : Thread nD τ) sm () (owed c n) :=
  mayWait c sm _ fun g u hg => by
    obtain ⟨i, hi, rfl⟩ := owed_pos hg
    refine ⟨⟨_, _, rfl⟩, ?_⟩
    show _ < lvR (role _); rw [role_rcv]; exact h i hi

/-- A wait on the pipeline's own semaphore. -/
theorem mayWait_stage (c : Dev nD) (q : DmaSem sig) (hq : role (.dma q) = .other) (O : CellTallies nD τ sig Unit) (hO : O = owed₀ c ∨ O = 0) :
    (levAts L lv : sProp 𝕄) ⊢ MayWait (c : Thread nD τ) (.dma q) () O := by
  rcases hO with rfl | rfl
  · refine mayWait c _ _ fun g u hg => ?_
    obtain ⟨d, s, hg', hl⟩ := owed₀_pos hg
    exact ⟨⟨d, s, hg'⟩, by rw [hq]; exact hl⟩
  · rw [MayWait_zero]; iintro -; iempintro

/-! ## The cells' records -/

/-- Every cell's invariant, under the names `K` the launch allocates them at, and that every cell has reached round 0. -/
def recs (K : Dev nD × Fin 67 → ℕ) : sProp 𝕄 :=
  bigSep Finset.univ fun ck : Dev nD × Fin 67 => iprop(cellInv ER (Rd m) (K ck) (kcell ck) ∗ reached ER (kcell ck) 0)

instance recs_persistent (K : Dev nD × Fin 67 → ℕ) : BI.Persistent (recs m K) := by unfold recs; infer_instance

section Recs
variable (K : Dev nD × Fin 67 → ℕ)

theorem recs_inv (c : Dev nD) (k : Fin 67) (sm : SemLoc sig) (h : csem k = sm) :
    recs m K ⊢ cellInv ER (Rd m) (K (c, k)) ((c : Thread nD τ), sm) := by
  subst h; unfold recs; iintro H
  ihave H1 := (show (bigSep Finset.univ fun ck : Dev nD × Fin 67 => iprop(cellInv ER (Rd m) (K ck) (kcell ck) ∗ reached ER (kcell ck) 0))
    ⊢ iprop(cellInv ER (Rd m) (K (c, k)) (kcell (c, k)) ∗ reached ER (kcell (c, k)) 0) from BI.bigSep_elim (Finset.mem_univ (c, k))) $$ H
  icases H1 with ⟨H, -⟩; iexact H
theorem recs_reached (c : Dev nD) (k : Fin 67) (sm : SemLoc sig) (h : csem k = sm) :
    recs m K ⊢ reached ER ((c : Thread nD τ), sm) 0 := by
  subst h; unfold recs; iintro H
  ihave H1 := (show (bigSep Finset.univ fun ck : Dev nD × Fin 67 => iprop(cellInv ER (Rd m) (K ck) (kcell ck) ∗ reached ER (kcell ck) 0))
    ⊢ iprop(cellInv ER (Rd m) (K (c, k)) (kcell (c, k)) ∗ reached ER (kcell (c, k)) 0) from BI.bigSep_elim (Finset.mem_univ (c, k))) $$ H
  icases H1 with ⟨-, H⟩; iexact H

end Recs

end Cert.KernelIdeal.AR

end
-- ==== Proof.KernelIdeal.State.lean ====
/-
# What a device holds between two operations

After the barrier and the partial product, a device's state is six numbers: transfers started, transfers waited for,
chunks accumulated, own chunks stored into the gathering buffer, result columns stored, and send cells waited for. `St`
is what the device holds at those numbers. Here: `St`, and how its parts change.
-/
module

public import proofs.«01_k».proof.Proof.KernelIdeal.Protocol

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

/-! ## Nested regions of a column block -/

/-- The chunks device `c` still works on in column block `j` before reducing step `s`. -/
def kreg (s j : ℕ) (c : Dev nD) : Finset (Sh 1024).Idx := Reg (lo s j c) (16 / 2 ^ s) j
/-- The other half of a step. -/
def sreg (s j : ℕ) (c : Dev nD) : Finset (Sh 1024).Idx := Reg (sl s j c) (hl s) j

theorem half (s : ℕ) (hs : s < 4) : 16 / 2 ^ s = 2 * hl s ∧ 16 / 2 ^ (s + 1) = hl s := by
  match s, hs with
  | 0, _ | 1, _ | 2, _ | 3, _ => decide

theorem kreg_union (s j : ℕ) (c : Dev nD) (hs : s < 4) : kreg s j c = kreg (s + 1) j c ∪ sreg s j c := by
  obtain ⟨h1, h2⟩ := half s hs
  unfold kreg sreg; rw [h1, h2]
  ext x; rw [Finset.mem_union, mem_Reg, mem_Reg, mem_Reg]
  rcases split_cases s j c with ⟨e1, e2⟩ | ⟨e1, e2⟩ <;> rw [e1, e2] <;> omega

theorem kreg_disj (s j : ℕ) (c : Dev nD) (hs : s < 4) : Disjoint (kreg (s + 1) j c) (sreg s j c) := by
  obtain ⟨h1, h2⟩ := half s hs
  unfold kreg sreg; rw [h2]
  rw [Finset.disjoint_left]; intro x; rw [mem_Reg, mem_Reg]
  rcases split_cases s j c with ⟨e1, e2⟩ | ⟨e1, e2⟩ <;> rw [e1, e2] <;> omega

/-- What is gathered of a column block after `u` landings. -/
def greg (u j : ℕ) (c : Dev nD) : Finset (Sh 1024).Idx := kreg (4 - u) j c

theorem greg_succ (u j : ℕ) (c : Dev nD) (hu : u < 4) : greg (u + 1) j c = greg u j c ∪ sreg (3 - u) j c := by
  unfold greg
  rw [show 4 - (u + 1) = 3 - u by omega, show 4 - u = (3 - u) + 1 by omega]
  exact kreg_union _ _ _ (by omega)
theorem greg_disj (u j : ℕ) (c : Dev nD) (hu : u < 4) : Disjoint (greg u j c) (sreg (3 - u) j c) := by
  unfold greg; rw [show 4 - u = (3 - u) + 1 by omega]; exact kreg_disj _ _ _ (by omega)
theorem greg_mono (j : ℕ) (c : Dev nD) : ∀ (v u : ℕ), u ≤ v → v ≤ 4 → greg u j c ⊆ greg v j c
  | 0, u, h, _ => by rw [Nat.le_zero.mp h]
  | v + 1, u, h, h4 => by
    rcases Nat.lt_or_ge v u with hl | hl
    · rw [show u = v + 1 by omega]
    · rw [greg_succ v j c (by omega)]
      exact (greg_mono j c v u hl (by omega)).trans Finset.subset_union_left

/-! ## The counters, by column block -/

/-- Reducing transfers started for column block `j` out of `n`. -/
def sd (j n : ℕ) : ℕ := min 4 ((n + 3 - j) / 4)
/-- Chunks accumulated for it out of `n`. -/
def ac (j n : ℕ) : ℕ := (n + 3 - j) / 4
/-- Gathering transfers for it out of `n` transfers. -/
def ag (j n : ℕ) : ℕ := (n - 16 + 3 - j) / 4

def cbF (i : Fin 32) : Fin 4 := ⟨cb i, cb_lt i⟩

theorem sd_at : ∀ i : Fin 32, i.val < 16 → sd (cb i) i.val = st i ∧ sd (cb i) (i.val + 1) = st i + 1 := by decide +kernel
theorem sd_off : ∀ (i : Fin 32) (j : Fin 4), (16 ≤ i.val ∨ j ≠ cbF i) → sd j.val (i.val + 1) = sd j.val i.val := by decide +kernel
theorem ac_at : ∀ i : Fin 32, i.val < 16 → ac (cb i) i.val = st i ∧ ac (cb i) (i.val + 1) = st i + 1 := by decide +kernel
theorem ac_off : ∀ (i : Fin 32) (j : Fin 4), j ≠ cbF i → ac j.val (i.val + 1) = ac j.val i.val := by decide +kernel
theorem ag_at : ∀ i : Fin 32, 16 ≤ i.val → ag (cb i) i.val = i.val / 4 - 4 ∧ ag (cb i) (i.val + 1) = i.val / 4 - 4 + 1 ∧ i.val / 4 - 4 < 4 ∧ st i = 3 - (i.val / 4 - 4) := by
  decide +kernel
theorem ag_off : ∀ (i : Fin 32) (j : Fin 4), (i.val < 16 ∨ j ≠ cbF i) → ag j.val (i.val + 1) = ag j.val i.val := by decide +kernel

/-- A gathering transfer's source is what is gathered so far. -/
theorem src_greg (i : Fin 32) (c : Dev nD) (h : 16 ≤ i.val) : (Reg (sLo i c) (hl (st i)) (cb i) : Finset (Sh 1024).Idx) = greg (i.val / 4 - 4) (cb i) c := by
  obtain ⟨-, -, h1, h2⟩ := ag_at i h
  unfold greg kreg sLo; rw [if_neg (by omega), (show 4 - (i.val / 4 - 4) = st i + 1 by omega), (half (st i) (st_lt i)).2]
theorem dst_sreg (i : Fin 32) (c : Dev nD) (h : 16 ≤ i.val) : (Reg (dLo i c) (hl (st i)) (cb i) : Finset (Sh 1024).Idx) = sreg (3 - (i.val / 4 - 4)) (cb i) c := by
  obtain ⟨-, -, h1, h2⟩ := ag_at i h
  unfold sreg dLo; rw [if_neg (by omega), ← h2]
theorem src_sreg (i : Fin 32) (c : Dev nD) (h : i.val < 16) : (Reg (sLo i c) (hl (st i)) (cb i) : Finset (Sh 1024).Idx) = sreg (st i) (cb i) c := by
  unfold sreg sLo; rw [if_pos h]

/-! ## The state -/

variable (m : (ℓ : Loc nD τ sig) → Buf (Elt F) ℓ) (K : Dev nD × Fin 67 → ℕ) (c : Dev nD)

def unsent (i : Fin 32) : sProp 𝕄 :=
  iprop(dutyTok ER (sndC i c) 0 0 ∗ dutyTok ER (rcvC i (pk i c)) 0 0 ∗ dstAny (F := F) i (pk i c) ∗ atPos ER (sndC i c) 0 ∅ 0)
def unrecv (i : Fin 32) : sProp 𝕄 := iprop(atPos ER (rcvC i c) 0 ∅ 0 ∗ cred (tallyAt (rcvC i c) () (Ntr i)))
def recvd (i : Fin 32) : sProp 𝕄 := iprop(semVal (rcvC i c) 0 ∗ if i.val < 16 then dstPay m i c else iprop(emp))
def sent (i : Fin 32) : sProp 𝕄 := iprop(atPos ER (sndC i c) 0 ∅ 0 ∗ cred (tallyAt (sndC i c) () (Ntr i)))
def drained (i : Fin 32) : sProp 𝕄 := iprop(semVal (sndC i c) 0 ∗ srcPay m i c)

def accSt (s a : ℕ) (j : Fin 4) : sProp 𝕄 := cPts c (kreg s j.val c) fullShare (acc m j.val a c)

/-- The gathering buffer's column block `j`: own chunk stored or not, `u` landings, `k` transfers started. -/
def agSt (own : Prop) [Decidable own] (u k : ℕ) (j : Fin 4) : sProp 𝕄 :=
  if own then
    iprop(gPts c (greg u j.val c) (shareDrop fullShare 4) (red m)
      ∗ bigSep Finset.univ fun v : Fin 4 => gPts c (if v.val < k then greg u j.val c \ greg v.val j.val c else greg u j.val c) (shareTokN fullShare v.val) (red m))
  else iprop(∃ f, gPts (F := F) c (greg 0 j.val c) fullShare f)

def outSt (no : ℕ) : sProp 𝕄 := iprop(∃ f, ⌜∀ x : (Sh 1024).Idx, (x 1).val < 256 * no → f x = outV m x⌝ ∗ oPts c f)

/-- Indices from `n` on; below `n`; from `a` on and below `b`. -/
def ge (n : ℕ) : Finset (Fin 32) := Finset.univ.filter fun i => n ≤ i.val
def lt (n : ℕ) : Finset (Fin 32) := Finset.univ.filter fun i => i.val < n
def btw (a b : ℕ) : Finset (Fin 32) := Finset.univ.filter fun i => a ≤ i.val ∧ i.val < b

/-- The state: `ns` transfers started, `nr` waited for, `na` chunks accumulated, `ng` own chunks stored for gathering,
    `no` columns of the result stored, `nd` send cells waited for. -/
def St (ns nr na ng no nd : ℕ) : sProp 𝕄 :=
  iprop(recs m K ∗ levAts L lv ∗ (∃ W, owes (c : Thread nD τ) (owed c ns) W)
    ∗ bigSep (ge ns) (unsent c) ∗ bigSep (ge nr) (unrecv c) ∗ bigSep (lt nr) (recvd m c)
    ∗ bigSep (btw nd ns) (sent c) ∗ bigSep (lt nd) (drained m c)
    ∗ bigSep Finset.univ (fun j : Fin 4 => accSt m c (sd j.val ns) (ac j.val na) j)
    ∗ bigSep Finset.univ (fun j : Fin 4 => agSt m c (j.val < ng) (ag j.val nr) (ag j.val ns) j)
    ∗ outSt m c no)

/-! ## Taking one index out -/

section Sets
theorem ge_take (i : Fin 32) (Φ : Fin 32 → sProp 𝕄) : bigSep (ge i.val) Φ = iprop(Φ i ∗ bigSep (ge (i.val + 1)) Φ) := by
  unfold ge; rw [ge_succ i, BI.bigSep_insert (not_mem_ge i)]; rfl
theorem lt_put (i : Fin 32) (Φ : Fin 32 → sProp 𝕄) : bigSep (lt (i.val + 1)) Φ = iprop(Φ i ∗ bigSep (lt i.val) Φ) := by
  unfold lt; rw [lt_succ i, BI.bigSep_insert (not_mem_lt i)]; rfl
theorem btw_put (i : Fin 32) (a : ℕ) (h : a ≤ i.val) (Φ : Fin 32 → sProp 𝕄) : bigSep (btw a (i.val + 1)) Φ = iprop(Φ i ∗ bigSep (btw a i.val) Φ) := by
  have hset : btw a (i.val + 1) = insert i (btw a i.val) := by
    unfold btw; ext k; rw [Finset.mem_insert, Finset.mem_filter, Finset.mem_filter, Fin.ext_iff]
    simp only [Finset.mem_univ, true_and]; omega
  rw [hset, BI.bigSep_insert (by unfold btw; rw [Finset.mem_filter]; omega)]; rfl
theorem btw_take (i : Fin 32) (b : ℕ) (h : i.val < b) (Φ : Fin 32 → sProp 𝕄) : bigSep (btw i.val b) Φ = iprop(Φ i ∗ bigSep (btw (i.val + 1) b) Φ) := by
  have hset : btw i.val b = insert i (btw (i.val + 1) b) := by
    unfold btw; ext k; rw [Finset.mem_insert, Finset.mem_filter, Finset.mem_filter, Fin.ext_iff]
    simp only [Finset.mem_univ, true_and]; omega
  rw [hset, BI.bigSep_insert (by unfold btw; rw [Finset.mem_filter]; omega)]; rfl
theorem lt_at (i : Fin 32) (n : ℕ) (h : i.val < n) (Φ : Fin 32 → sProp 𝕄) : bigSep (lt n) Φ = iprop(Φ i ∗ bigSep ((lt n).erase i) Φ) := by
  rw [BI.bigSep_erase (i := i) (by unfold lt; rw [Finset.mem_filter]; exact ⟨Finset.mem_univ _, h⟩)]; rfl
theorem bs_mono {I : Type} {T : Finset I} {Φ Ψ : I → sProp 𝕄} (h : ∀ i ∈ T, Φ i ⊢ Ψ i) : bigSep T Φ ⊢ bigSep T Ψ := BI.bigSep_mono h

/-- One of four changes, giving `X` up or taking it in. -/
theorem four_at (j : Fin 4) (Φ : Fin 4 → sProp 𝕄) : bigSep Finset.univ Φ = iprop(Φ j ∗ bigSep (Finset.univ.erase j) Φ) := by
  rw [BI.bigSep_erase (i := j) (Finset.mem_univ _)]; rfl
theorem four_give (j : Fin 4) {X : sProp 𝕄} {Φ Ψ : Fin 4 → sProp 𝕄} (h : ∀ j', j' ≠ j → Φ j' = Ψ j') (hj : Φ j ⊢ iprop(X ∗ Ψ j)) :
    bigSep Finset.univ Φ ⊢ iprop(X ∗ bigSep Finset.univ Ψ) := by
  rw [four_at j Φ, four_at j Ψ, show bigSep (Finset.univ.erase j) Φ = bigSep (Finset.univ.erase j) Ψ from
    BI.bigSep_congr fun j' hj' => h j' (Finset.ne_of_mem_erase hj')]
  iintro ⟨H, Hr⟩
  ihave H := hj $$ H
  icases H with ⟨HX, H⟩
  isplitl [HX]; · iexact HX
  isplitl [H]; · iexact H
  iexact Hr
theorem four_take (j : Fin 4) {X : sProp 𝕄} {Φ Ψ : Fin 4 → sProp 𝕄} (h : ∀ j', j' ≠ j → Φ j' = Ψ j') (hj : iprop(X ∗ Φ j) ⊢ Ψ j) :
    iprop(X ∗ bigSep Finset.univ Φ) ⊢ bigSep Finset.univ Ψ := by
  rw [four_at j Φ, four_at j Ψ, show bigSep (Finset.univ.erase j) Φ = bigSep (Finset.univ.erase j) Ψ from
    BI.bigSep_congr fun j' hj' => h j' (Finset.ne_of_mem_erase hj')]
  iintro ⟨HX, H, Hr⟩
  ihave H := hj $$ [HX H]
  · isplitl [HX]; · iexact HX
    iexact H
  isplitl [H]; · iexact H
  iexact Hr

end Sets

/-! ## How the parts change -/

/-- A reducing transfer takes its half of the accumulated chunks out. -/
theorem acc_send (i : Fin 32) (hi : i.val < 16) (na : ℕ) (hna : ac (cb i) na = st i) :
    bigSep Finset.univ (fun j : Fin 4 => accSt m c (sd j.val i.val) (ac j.val na) j)
      ⊢ iprop(srcPay m i c ∗ bigSep Finset.univ (fun j : Fin 4 => accSt m c (sd j.val (i.val + 1)) (ac j.val na) j)) := by
  refine four_give (cbF i) (fun j hj => by rw [sd_off i j (.inr hj)]) ?_
  unfold srcPay; rw [if_pos hi, src_sreg i c hi]
  unfold accSt
  rw [show sd (cbF i).val i.val = st i from (sd_at i hi).1, show sd (cbF i).val (i.val + 1) = st i + 1 from (sd_at i hi).2,
    show ac (cbF i).val na = st i from hna, kreg_union (st i) _ c (st_lt i)]
  exact ((pointsTo_union (kreg_disj (st i) (cb i) c (st_lt i))).1).trans sep_comm.1

/-- A gathering transfer takes its share of what is gathered. -/
theorem ag_send (i : Fin 32) (hi : 16 ≤ i.val) (ng nr : ℕ) (hng : cb i < ng) (hnr : ag (cb i) nr = i.val / 4 - 4) :
    bigSep Finset.univ (fun j : Fin 4 => agSt m c (j.val < ng) (ag j.val nr) (ag j.val i.val) j)
      ⊢ iprop(srcPay m i c ∗ bigSep Finset.univ (fun j : Fin 4 => agSt m c (j.val < ng) (ag j.val nr) (ag j.val (i.val + 1)) j)) := by
  obtain ⟨h1, h2, h3, -⟩ := ag_at i hi
  refine four_give (cbF i) (fun j hj => by rw [ag_off i j (.inr hj)]) ?_
  unfold srcPay; rw [if_neg (by omega), src_greg i c hi]
  unfold agSt; rw [if_pos (show (cbF i).val < ng from hng), if_pos (show (cbF i).val < ng from hng),
    show ag (cbF i).val nr = i.val / 4 - 4 from hnr, show ag (cbF i).val i.val = i.val / 4 - 4 from h1, show ag (cbF i).val (i.val + 1) = i.val / 4 - 4 + 1 from h2]
  show _ ⊢ iprop(gPts c (greg (i.val / 4 - 4) (cbF i).val c) _ _ ∗ _)
  generalize i.val / 4 - 4 = u at h3 ⊢
  generalize (cbF i).val = j
  iintro ⟨Hd, Ht⟩
  ihave H := (four_give (X := gPts c (greg u j c) (shareTokN fullShare u) (red m)) ⟨u, h3⟩
    (Φ := fun v : Fin 4 => gPts c (if v.val < u then greg u j c \ greg v.val j c else greg u j c) (shareTokN fullShare v.val) (red m))
    (Ψ := fun v : Fin 4 => gPts c (if v.val < u + 1 then greg u j c \ greg v.val j c else greg u j c) (shareTokN fullShare v.val) (red m))
    (fun v hv => by
      have : v.val ≠ u := fun h => hv (Fin.ext h)
      by_cases hvu : v.val < u
      · rw [if_pos hvu, if_pos (by omega)]
      · rw [if_neg hvu, if_neg (by omega)])
    (by
      rw [if_neg (Nat.lt_irrefl u), if_pos (Nat.lt_succ_self u), Finset.sdiff_self]
      iintro H
      isplitl [H]; · iexact H
      iapply (Entails.of_eq (pointsTo_empty (ℓ := gM.view.loc (c : Thread nD τ)) (q := shareTokN fullShare u) (f := red m)).symm)
      iempintro)) $$ Ht
  icases H with ⟨Hu, Ht⟩
  isplitl [Hu]; · iexact Hu
  isplitl [Hd]; · iexact Hd
  iexact Ht

/-- A gathering landing joins what is gathered. -/
theorem ag_recv (i : Fin 32) (hi : 16 ≤ i.val) (ng ns : ℕ) (hng : cb i < ng) (hns : ag (cb i) ns ≤ i.val / 4 - 4 + 1) :
    iprop(dstPay m i c ∗ bigSep Finset.univ (fun j : Fin 4 => agSt m c (j.val < ng) (ag j.val i.val) (ag j.val ns) j))
      ⊢ bigSep Finset.univ (fun j : Fin 4 => agSt m c (j.val < ng) (ag j.val (i.val + 1)) (ag j.val ns) j) := by
  obtain ⟨h1, h2, h3, -⟩ := ag_at i hi
  refine four_take (cbF i) (fun j hj => by rw [ag_off i j (.inr hj)]) ?_
  unfold dstPay; rw [if_neg (by omega), dst_sreg i c hi]
  unfold agSt; rw [if_pos (show (cbF i).val < ng from hng), if_pos (show (cbF i).val < ng from hng),
    show ag (cbF i).val i.val = i.val / 4 - 4 from h1, show ag (cbF i).val (i.val + 1) = i.val / 4 - 4 + 1 from h2]
  have hk : ag (cbF i).val ns ≤ i.val / 4 - 4 + 1 := hns
  generalize ag (cbF i).val ns = k at hk ⊢
  show iprop(gPts c (sreg (3 - (i.val / 4 - 4)) (cbF i).val c) _ _ ∗ _) ⊢ _
  generalize i.val / 4 - 4 = u at h3 hk ⊢
  generalize (cbF i).val = j
  have hdis := greg_disj u j c h3
  iintro ⟨Hl, Hd, Ht⟩
  ihave Hl := (pointsTo_toks (ℓ := gM.view.loc (c : Thread nD τ)) fullShare 4).1 $$ Hl
  icases Hl with ⟨Hld, Hlt⟩
  isplitl [Hld Hd]
  · rw [greg_succ u j c h3]
    iapply (pointsTo_union hdis).2
    isplitl [Hd]; · iexact Hd
    iexact Hld
  · ihave H := (show iprop((bigSep Finset.univ fun v : Fin 4 => gPts c (if v.val < k then greg u j c \ greg v.val j c else greg u j c) (shareTokN fullShare v.val) (red m))
        ∗ (bigSep Finset.univ fun v : Fin 4 => gPts c (sreg (3 - u) j c) (shareTok fullShare 4 v) (red m)))
        ⊢ bigSep Finset.univ fun v : Fin 4 => iprop((gPts c (if v.val < k then greg u j c \ greg v.val j c else greg u j c) (shareTokN fullShare v.val) (red m))
          ∗ gPts c (sreg (3 - u) j c) (shareTok fullShare 4 v) (red m)) from Entails.of_eq (BI.bigSep_sep Finset.univ _ _).symm) $$ [Ht Hlt]
    · isplitl [Ht]; · iexact Ht
      iexact Hlt
    iapply (bs_mono (T := Finset.univ) (Φ := fun v : Fin 4 => iprop((gPts c (if v.val < k then greg u j c \ greg v.val j c else greg u j c) (shareTokN fullShare v.val) (red m))
      ∗ gPts c (sreg (3 - u) j c) (shareTok fullShare 4 v) (red m)))
      (Ψ := fun v : Fin 4 => gPts c (if v.val < k then greg (u + 1) j c \ greg v.val j c else greg (u + 1) j c) (shareTokN fullShare v.val) (red m)) fun v _ => by
      have hset : (if v.val < k then greg (u + 1) j c \ greg v.val j c else greg (u + 1) j c)
          = (if v.val < k then greg u j c \ greg v.val j c else greg u j c) ∪ sreg (3 - u) j c := by
        rw [greg_succ u j c h3]
        by_cases hv : v.val < k
        · rw [if_pos hv, if_pos hv, Finset.union_sdiff_distrib, Finset.sdiff_eq_self_of_disjoint (s := sreg (3 - u) j c)]
          exact (Finset.disjoint_of_subset_left (greg_mono j c u v.val (by omega) (by omega)) hdis).symm
        · rw [if_neg hv, if_neg hv]
      have hd2 : Disjoint (if v.val < k then greg u j c \ greg v.val j c else greg u j c) (sreg (3 - u) j c) := by
        split_ifs
        · exact Finset.disjoint_of_subset_left Finset.sdiff_subset hdis
        · exact hdis
      rw [hset]
      exact (pointsTo_union hd2).2) $$ H

/-- The own chunk's store makes the column block gathered so far. -/
theorem ag_own (j : Fin 4) : (gPts c (greg 0 j.val c) fullShare (red m) : sProp 𝕄) ⊢ agSt m c True 0 0 j := by
  unfold agSt; rw [if_pos trivial]
  refine ((pointsTo_toks (ℓ := gM.view.loc (c : Thread nD τ)) fullShare 4).1).trans (sep_mono_right (BI.bigSep_mono fun v _ => ?_))
  rw [if_neg (Nat.not_lt_zero _)]
  exact .refl _

end Cert.KernelIdeal.AR

end
-- ==== Proof.KernelIdeal.Steps.lean ====
/-
# One operation of the exchange, from state to state

Each operation the program makes after its partial product changes the state `St` in one of eight ways: a reducing or a
gathering transfer starts, one is waited for, a source comes back, a load, and a store into the accumulator, the
gathering buffer or the result.
-/
module

public import proofs.«01_k».proof.Proof.KernelIdeal.State

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

abbrev 𝒱₀ : Variants := Variants.none

/-- Device `c` runs `p` to `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Fin 67 → ℕ) (c : Dev nD)

section Send
variable (i : Fin 32) {off off' sz : Fin 2 → ℕ} {d : Dev nD} {sS sR : DmaSem sig}

/-- A reducing transfer, with what it takes and gives. -/
theorem wp_rs {α : Type} {Q : α → sProp 𝕄} {k : PUnit → Prog (TpuEff nD τ sig (Elt F) Λ₀ .tc) α} {inb : ∀ a, off a + sz a ≤ S1024x1024.size a} {inb' : ∀ a, off' a + sz a ≤ S960x1024.size a}
    {hsc : (rM.slice (Rect.unit (s := S960x1024) off' sz inb') (fun _ => rfl) : Memref sig (Dev.tc d : Thread nD τ).2.kind .vmem ⟨2, sz⟩ .bf16).view.ref.isScScratch = false}
    {hsrc : (cM.slice (Rect.unit (s := S1024x1024) off sz inb) (fun _ => rfl)).view.WordExact}
    {hdst : (rM.slice (Rect.unit (s := S960x1024) off' sz inb') (fun _ => rfl)).view.WordExact}
    {hsem : DmaTarget.Typed .vmem (.dma sR) (.remote (Dev.tc d : Thread nD τ) (rM.slice (Rect.unit (s := S960x1024) off' sz inb') (fun _ => rfl)) (.dma sS) hsc)}
    (hi : i.val < 16) (hd : d = pk i c) (hS : sS = sndS i) (hR : sR = rcvS i)
    (hoff : off = ![64 * sLo i c, 256 * cb i]) (hoff' : off' = ![64 * ro (st i), 256 * cb i]) (hsz : sz = ![64 * hl (st i), 256]) (W : Waits sig Unit) :
    iprop(recs m K ∗ srcPay m i c ∗ dstAny (F := F) i (pk i c) ∗ owes (c : Thread nD τ) (owed c i.val) W
        ∗ dutyTok ER (sndC i c) 0 0 ∗ dutyTok ER (rcvC i (pk i c)) 0 0)
      ⊢ iprop(((cred (tallyAt (sndC i c) () (Ntr i)) ∗ owes (c : Thread nD τ) (owed c (i.val + 1)) W) -∗ run c (k ⟨⟩) Q)
          -∗ run c (.op (.enqueueDma (cM.slice (Rect.unit (s := S1024x1024) off sz inb) (fun _ => rfl))
            (.remote (Dev.tc d : Thread nD τ) (rM.slice (Rect.unit (s := S960x1024) off' sz inb') (fun _ => rfl)) (.dma sS) hsc) (.dma sR) hsrc hdst hsem) k) Q) := by
  subst hd hS hR
  have hdl : ∀ e, dLo i e = ro (st i) := fun e => by unfold dLo; rw [if_pos hi]
  unfold dstAny
  rw [if_pos hi, hdl]
  iintro ⟨#Hr, Hs, ⟨%fd, Hd⟩, HO, Ht1, Ht2⟩ Hk
  have hsetc := set_c hoff hsz inb
  have hsetr := set_r hoff' hsz inb'
  have hd1 : (0 : Fin 4) ∈ (Rd (F := F) m).duties (sndC i c) 0 := by rw [duties_eq, role_snd]; exact Finset.mem_singleton_self _
  have hd2 : (0 : Fin 4) ∈ (Rd (F := F) m).duties (rcvC i (pk i c)) 0 := by rw [duties_eq, role_rcv]; exact Finset.mem_singleton_self _
  have hk1 : (Rd (F := F) m).amount (sndC i c) 0 0 = Ntr i := by rw [amount_eq, role_snd]; rfl
  have hk2 : (Rd (F := F) m).amount (rcvC i (pk i c)) 0 0 = Ntr i := by rw [amount_eq, role_rcv]; rfl
  have hN : (rM.slice (Rect.unit (s := S960x1024) off' sz inb') (fun _ => rfl)).view.amount (.dma (rcvS i)) = Ntr i := by subst hsz; rfl
  have hp1 : (cPts c (cM.slice (Rect.unit (s := S1024x1024) off sz inb) (fun _ => rfl)).view.set fullShare (acc m (cb i) (st i) c) : sProp 𝕄)
      ⊢ (Rd (F := F) m).payload (sndC i c) 0 0 := by
    rw [payload_eq, role_snd]; show _ ⊢ srcPay m i c
    unfold srcPay; rw [if_pos hi]
    exact Entails.of_eq (congrArg (fun T => cPts c T fullShare (acc m (cb i) (st i) c)) hsetc)
  have hp2 : (rPts (pk i c) (rM.slice (Rect.unit (s := S960x1024) off' sz inb') (fun _ => rfl)).view.set fullShare
        ((rM.slice (Rect.unit (s := S960x1024) off' sz inb') (fun _ => rfl)).view.write (Elt F) fd
          ((cM.slice (Rect.unit (s := S1024x1024) off sz inb) (fun _ => rfl)).view.read (Elt F) (acc m (cb i) (st i) c)) Finset.univ) : sProp 𝕄)
      ⊢ (Rd (F := F) m).payload (rcvC i (pk i c)) 0 0 := by
    rw [payload_eq, role_rcv]; show _ ⊢ dstPay m i (pk i c)
    unfold dstPay; rw [if_pos hi, hdl]
    refine (Entails.of_eq (congrArg (fun T => rPts (pk i c) T fullShare _) hsetr)).trans (Entails.of_eq ?_)
    refine pointsTo_congr (write_r hoff' hsz inb' fd _ (land m i (pk i c)) ?_)
    refine (read_c hoff inb _).trans ?_
    rw [sec_land m sz (hl (st i)) hsz i (pk i c) hi rfl, pk_pk]
  iapply (Rounds.wp_send_pointsTo 𝒱₀ ER (Rd m) (c : Thread nD τ) none (κ₁ := K (c, kSnd i)) (κ₂ := K (pk i c, kRcv i))
    (c' := ((pk i c : Dev nD) : Thread nD τ)) (src := cM.slice (Rect.unit (s := S1024x1024) off sz inb) (fun _ => rfl)) (dst := rM.slice (Rect.unit (s := S960x1024) off' sz inb') (fun _ => rfl))
    (r₁ := 0) (r₂ := 0) (d₁ := 0) (d₂ := 0) (q := fullShare) (fs := acc m (cb i) (st i) c) (fd := fd)
    hd1 hd2 () () (Ntr i) hN hk1 hk2 (owed c (i.val + 1)) (owed_succ c i) (W := W) hp1 hp2) $$ [Hs Hd HO Ht1 Ht2]
  · isplitr; · iapply (recs_inv m K c (kSnd i) _ (csem_snd i)); iexact Hr
    isplitr; · iapply (recs_inv m K (pk i c) (kRcv i) _ (csem_rcv i)); iexact Hr
    isplitl [Hs]
    · ihave Hs := (Entails.of_eq (show srcPay m i c = _ from if_pos hi)) $$ Hs
      ihave H' := (Entails.of_eq (congrArg (fun T => cPts c T fullShare (acc m (cb i) (st i) c)) hsetc.symm)) $$ Hs
      iexact H'
    isplitl [Hd]
    · ihave H' := (Entails.of_eq (congrArg (fun T => rPts (pk i c) T fullShare fd) hsetr.symm)) $$ Hd
      iexact H'
    isplitl [HO]; · iexact HO
    isplitl [Ht1]; · iexact Ht1
    isplitr; · iapply (recs_reached m K c (kSnd i) _ (csem_snd i)); iexact Hr
    isplitl [Ht2]; · iexact Ht2
    iapply (recs_reached m K (pk i c) (kRcv i) _ (csem_rcv i)); iexact Hr
  iexact Hk

/-- A gathering transfer, with what it takes and gives. -/
theorem wp_ag {α : Type} {Q : α → sProp 𝕄} {k : PUnit → Prog (TpuEff nD τ sig (Elt F) Λ₀ .tc) α} {inb inb' : ∀ a, off a + sz a ≤ S1024x1024.size a}
    {hsc : (gM.slice (Rect.unit (s := S1024x1024) off sz inb') (fun _ => rfl) : Memref sig (Dev.tc d : Thread nD τ).2.kind .vmem ⟨2, sz⟩ .bf16).view.ref.isScScratch = false}
    {hsrc : (gM.slice (Rect.unit (s := S1024x1024) off sz inb) (fun _ => rfl)).view.WordExact}
    {hdst : (gM.slice (Rect.unit (s := S1024x1024) off sz inb') (fun _ => rfl)).view.WordExact}
    {hsem : DmaTarget.Typed .vmem (.dma sR) (.remote (Dev.tc d : Thread nD τ) (gM.slice (Rect.unit (s := S1024x1024) off sz inb') (fun _ => rfl)) (.dma sS) hsc)}
    (hi : 16 ≤ i.val) (hd : d = pk i c) (hS : sS = sndS i) (hR : sR = rcvS i)
    (hoff : off = ![64 * sLo i c, 256 * cb i]) (hsz : sz = ![64 * hl (st i), 256]) (W : Waits sig Unit) :
    iprop(recs m K ∗ srcPay m i c ∗ dstAny (F := F) i (pk i c) ∗ owes (c : Thread nD τ) (owed c i.val) W
        ∗ dutyTok ER (sndC i c) 0 0 ∗ dutyTok ER (rcvC i (pk i c)) 0 0)
      ⊢ iprop(((cred (tallyAt (sndC i c) () (Ntr i)) ∗ owes (c : Thread nD τ) (owed c (i.val + 1)) W) -∗ run c (k ⟨⟩) Q)
          -∗ run c (.op (.enqueueDma (gM.slice (Rect.unit (s := S1024x1024) off sz inb) (fun _ => rfl))
            (.remote (Dev.tc d : Thread nD τ) (gM.slice (Rect.unit (s := S1024x1024) off sz inb') (fun _ => rfl)) (.dma sS) hsc) (.dma sR) hsrc hdst hsem) k) Q) := by
  subst hd hS hR
  have hn : ¬ i.val < 16 := by omega
  have hdl := dLo_pk i c hi
  unfold dstAny
  rw [if_neg hn, hdl]
  iintro ⟨#Hr, Hs, ⟨%fd, Hd⟩, HO, Ht1, Ht2⟩ Hk
  have hset := set_g hoff hsz inb
  have hd1 : (0 : Fin 4) ∈ (Rd (F := F) m).duties (sndC i c) 0 := by rw [duties_eq, role_snd]; exact Finset.mem_singleton_self _
  have hd2 : (0 : Fin 4) ∈ (Rd (F := F) m).duties (rcvC i (pk i c)) 0 := by rw [duties_eq, role_rcv]; exact Finset.mem_singleton_self _
  have hk1 : (Rd (F := F) m).amount (sndC i c) 0 0 = Ntr i := by rw [amount_eq, role_snd]; rfl
  have hk2 : (Rd (F := F) m).amount (rcvC i (pk i c)) 0 0 = Ntr i := by rw [amount_eq, role_rcv]; rfl
  have hN : (gM.slice (Rect.unit (s := S1024x1024) off sz inb') (fun _ => rfl)).view.amount (.dma (rcvS i)) = Ntr i := by subst hsz; rfl
  have hp1 : (gPts c (gM.slice (Rect.unit (s := S1024x1024) off sz inb) (fun _ => rfl)).view.set (shareTokN fullShare (i.val / 4 - 4)) (red m) : sProp 𝕄)
      ⊢ (Rd (F := F) m).payload (sndC i c) 0 0 := by
    rw [payload_eq, role_snd]; show _ ⊢ srcPay m i c
    unfold srcPay; rw [if_neg hn]
    exact Entails.of_eq (congrArg (fun T => gPts c T (shareTokN fullShare (i.val / 4 - 4)) (red m)) hset)
  have hp2 : (gPts (pk i c) (gM.slice (Rect.unit (s := S1024x1024) off sz inb') (fun _ => rfl)).view.set fullShare
        ((gM.slice (Rect.unit (s := S1024x1024) off sz inb') (fun _ => rfl)).view.write (Elt F) fd
          ((gM.slice (Rect.unit (s := S1024x1024) off sz inb) (fun _ => rfl)).view.read (Elt F) (red m)) Finset.univ) : sProp 𝕄)
      ⊢ (Rd (F := F) m).payload (rcvC i (pk i c)) 0 0 := by
    rw [payload_eq, role_rcv]; show _ ⊢ dstPay m i (pk i c)
    unfold dstPay; rw [if_neg hn, hdl]
    refine (Entails.of_eq (congrArg (fun T => gPts (pk i c) T fullShare _) hset)).trans (Entails.of_eq ?_)
    exact pointsTo_congr (write_g hoff hsz inb' fd _ (red m) (read_g hoff inb _))
  iapply (Rounds.wp_send_pointsTo 𝒱₀ ER (Rd m) (c : Thread nD τ) none (κ₁ := K (c, kSnd i)) (κ₂ := K (pk i c, kRcv i))
    (c' := ((pk i c : Dev nD) : Thread nD τ)) (src := gM.slice (Rect.unit (s := S1024x1024) off sz inb) (fun _ => rfl)) (dst := gM.slice (Rect.unit (s := S1024x1024) off sz inb') (fun _ => rfl))
    (r₁ := 0) (r₂ := 0) (d₁ := 0) (d₂ := 0) (q := shareTokN fullShare (i.val / 4 - 4)) (fs := red m) (fd := fd)
    hd1 hd2 () () (Ntr i) hN hk1 hk2 (owed c (i.val + 1)) (owed_succ c i) (W := W) hp1 hp2) $$ [Hs Hd HO Ht1 Ht2]
  · isplitr; · iapply (recs_inv m K c (kSnd i) _ (csem_snd i)); iexact Hr
    isplitr; · iapply (recs_inv m K (pk i c) (kRcv i) _ (csem_rcv i)); iexact Hr
    isplitl [Hs]
    · ihave Hs := (Entails.of_eq (show srcPay m i c = _ from if_neg hn)) $$ Hs
      ihave H' := (Entails.of_eq (congrArg (fun T => gPts c T (shareTokN fullShare (i.val / 4 - 4)) (red m)) hset.symm)) $$ Hs
      iexact H'
    isplitl [Hd]
    · ihave H' := (Entails.of_eq (congrArg (fun T => gPts (pk i c) T fullShare fd) hset.symm)) $$ Hd
      iexact H'
    isplitl [HO]; · iexact HO
    isplitl [Ht1]; · iexact Ht1
    isplitr; · iapply (recs_reached m K c (kSnd i) _ (csem_snd i)); iexact Hr
    isplitl [Ht2]; · iexact Ht2
    iapply (recs_reached m K (pk i c) (kRcv i) _ (csem_rcv i)); iexact Hr
  iexact Hk

variable {ns ns' nr nr' na na' ng ng' no no' nd nd' : ℕ}

/-- A reducing transfer starts. -/
theorem send_rs {α : Type} {Q : α → sProp 𝕄} {k : PUnit → Prog (TpuEff nD τ sig (Elt F) Λ₀ .tc) α} {inb : ∀ a, off a + sz a ≤ S1024x1024.size a} {inb' : ∀ a, off' a + sz a ≤ S960x1024.size a}
    {hsc : (rM.slice (Rect.unit (s := S960x1024) off' sz inb') (fun _ => rfl) : Memref sig (Dev.tc d : Thread nD τ).2.kind .vmem ⟨2, sz⟩ .bf16).view.ref.isScScratch = false}
    {hsrc : (cM.slice (Rect.unit (s := S1024x1024) off sz inb) (fun _ => rfl)).view.WordExact}
    {hdst : (rM.slice (Rect.unit (s := S960x1024) off' sz inb') (fun _ => rfl)).view.WordExact}
    {hsem : DmaTarget.Typed .vmem (.dma sR) (.remote (Dev.tc d : Thread nD τ) (rM.slice (Rect.unit (s := S960x1024) off' sz inb') (fun _ => rfl)) (.dma sS) hsc)}
    (hns : i.val = ns) (hns' : ns + 1 = ns') (hi : i.val < 16) (hnd : nd ≤ ns) (hna : ac (cb i) na = st i)
    (hd : d = pk i c) (hS : sS = sndS i) (hR : sR = rcvS i)
    (hoff : off = ![64 * sLo i c, 256 * cb i]) (hoff' : off' = ![64 * ro (st i), 256 * cb i]) (hsz : sz = ![64 * hl (st i), 256]) :
    St m K c ns nr na ng no nd ⊢ iprop((St m K c ns' nr na ng no nd -∗ run c (k ⟨⟩) Q)
          -∗ run c (.op (.enqueueDma (cM.slice (Rect.unit (s := S1024x1024) off sz inb) (fun _ => rfl))
            (.remote (Dev.tc d : Thread nD τ) (rM.slice (Rect.unit (s := S960x1024) off' sz inb') (fun _ => rfl)) (.dma sS) hsc) (.dma sR) hsrc hdst hsem) k) Q) := by
  subst hns' hns
  unfold St
  rw [ge_take i, btw_put i nd hnd]
  iintro ⟨#Hr, #Hl, ⟨%W, HO⟩, ⟨Hu, HU⟩, HR, HRd, HS, HD, HA, HG, HOut⟩ Hk
  ihave Hu := (show unsent c i ⊢ iprop(dutyTok ER (sndC i c) 0 0 ∗ dutyTok ER (rcvC i (pk i c)) 0 0 ∗ dstAny (F := F) i (pk i c) ∗ atPos ER (sndC i c) 0 ∅ 0) from BI.Entails.refl _) $$ Hu
  icases Hu with ⟨Ht1, Ht2, Hd, Hat⟩
  ihave HA := (acc_send m c i hi na hna) $$ HA
  icases HA with ⟨Hs, HA⟩
  iapply (wp_rs m K c i hi hd hS hR hoff hoff' hsz W) $$ [Hs Hd HO Ht1 Ht2]
  · isplitr; · iexact Hr
    isplitl [Hs]; · iexact Hs
    isplitl [Hd]; · iexact Hd
    isplitl [HO]; · iexact HO
    isplitl [Ht1]; · iexact Ht1
    iexact Ht2
  iintro ⟨Hc, HO⟩
  iapply Hk
  isplitr; · iexact Hr
  isplitr; · iexact Hl
  isplitl [HO]; · iexists W; iexact HO
  isplitl [HU]; · iexact HU
  isplitl [HR]; · iexact HR
  isplitl [HRd]; · iexact HRd
  isplitl [Hat Hc HS]
  · isplitr [HS]
    · unfold sent
      isplitl [Hat]; · iexact Hat
      iexact Hc
    iexact HS
  isplitl [HD]; · iexact HD
  isplitl [HA]; · iexact HA
  isplitl [HG]
  · ihave H' := (bs_mono fun j _ => (Entails.of_eq (by rw [ag_off i j (.inl hi)]) : agSt m c (j.val < ng) (ag j.val nr) (ag j.val i.val) j ⊢ agSt m c (j.val < ng) (ag j.val nr) (ag j.val (i.val + 1)) j)) $$ HG
    iexact H'
  iexact HOut

/-- A gathering transfer starts. -/
theorem send_ag {α : Type} {Q : α → sProp 𝕄} {k : PUnit → Prog (TpuEff nD τ sig (Elt F) Λ₀ .tc) α} {inb inb' : ∀ a, off a + sz a ≤ S1024x1024.size a}
    {hsc : (gM.slice (Rect.unit (s := S1024x1024) off sz inb') (fun _ => rfl) : Memref sig (Dev.tc d : Thread nD τ).2.kind .vmem ⟨2, sz⟩ .bf16).view.ref.isScScratch = false}
    {hsrc : (gM.slice (Rect.unit (s := S1024x1024) off sz inb) (fun _ => rfl)).view.WordExact}
    {hdst : (gM.slice (Rect.unit (s := S1024x1024) off sz inb') (fun _ => rfl)).view.WordExact}
    {hsem : DmaTarget.Typed .vmem (.dma sR) (.remote (Dev.tc d : Thread nD τ) (gM.slice (Rect.unit (s := S1024x1024) off sz inb') (fun _ => rfl)) (.dma sS) hsc)}
    (hns : i.val = ns) (hns' : ns + 1 = ns') (hi : 16 ≤ i.val) (hnd : nd ≤ ns) (hng : cb i < ng) (hnr : ag (cb i) nr = i.val / 4 - 4)
    (hd : d = pk i c) (hS : sS = sndS i) (hR : sR = rcvS i)
    (hoff : off = ![64 * sLo i c, 256 * cb i]) (hsz : sz = ![64 * hl (st i), 256]) :
    St m K c ns nr na ng no nd ⊢ iprop((St m K c ns' nr na ng no nd -∗ run c (k ⟨⟩) Q)
          -∗ run c (.op (.enqueueDma (gM.slice (Rect.unit (s := S1024x1024) off sz inb) (fun _ => rfl))
            (.remote (Dev.tc d : Thread nD τ) (gM.slice (Rect.unit (s := S1024x1024) off sz inb') (fun _ => rfl)) (.dma sS) hsc) (.dma sR) hsrc hdst hsem) k) Q) := by
  subst hns' hns
  unfold St
  rw [ge_take i, btw_put i nd hnd]
  iintro ⟨#Hr, #Hl, ⟨%W, HO⟩, ⟨Hu, HU⟩, HR, HRd, HS, HD, HA, HG, HOut⟩ Hk
  ihave Hu := (show unsent c i ⊢ iprop(dutyTok ER (sndC i c) 0 0 ∗ dutyTok ER (rcvC i (pk i c)) 0 0 ∗ dstAny (F := F) i (pk i c) ∗ atPos ER (sndC i c) 0 ∅ 0) from BI.Entails.refl _) $$ Hu
  icases Hu with ⟨Ht1, Ht2, Hd, Hat⟩
  ihave HG := (ag_send m c i hi ng nr hng hnr) $$ HG
  icases HG with ⟨Hs, HG⟩
  iapply (wp_ag m K c i hi hd hS hR hoff hsz W) $$ [Hs Hd HO Ht1 Ht2]
  · isplitr; · iexact Hr
    isplitl [Hs]; · iexact Hs
    isplitl [Hd]; · iexact Hd
    isplitl [HO]; · iexact HO
    isplitl [Ht1]; · iexact Ht1
    iexact Ht2
  iintro ⟨Hc, HO⟩
  iapply Hk
  isplitr; · iexact Hr
  isplitr; · iexact Hl
  isplitl [HO]; · iexists W; iexact HO
  isplitl [HU]; · iexact HU
  isplitl [HR]; · iexact HR
  isplitl [HRd]; · iexact HRd
  isplitl [Hat Hc HS]
  · isplitr [HS]
    · unfold sent
      isplitl [Hat]; · iexact Hat
      iexact Hc
    iexact HS
  isplitl [HD]; · iexact HD
  isplitl [HA]
  · ihave H' := (bs_mono fun j _ => (Entails.of_eq (by rw [sd_off i j (.inl hi)]) : accSt m c (sd j.val i.val) (ac j.val na) j ⊢ accSt m c (sd j.val (i.val + 1)) (ac j.val na) j)) $$ HA
    iexact H'
  isplitl [HG]; · iexact HG
  iexact HOut

end Send

end Cert.KernelIdeal.AR

end
-- ==== Proof.KernelIdeal.Steps2.lean ====
/-
# Waits, loads and stores, from state to state
-/
module

public import proofs.«01_k».proof.Proof.KernelIdeal.Steps

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

variable {ns ns' nr nr' na na' ng ng' no no' nd nd' : ℕ}

/-- A transfer's landing is waited for. -/
theorem recv_step {α : Type} {Q : α → sProp 𝕄} {k : PUnit → Prog (TpuEff nD τ sig (Elt F) Λ₀ .tc) α} (i : Fin 32)
    {q : DmaSem sig} {sp sp' : Space} {s s' : Shape} {e e' : EltTy} {κ' : Kind} {src : Memref sig .tc sp' s' e'} {dst : Memref sig κ' sp s e}
    {hsrc : src.view.WordExact} {hdst : dst.view.WordExact}
    (hnr : i.val = nr) (hnr' : nr + 1 = nr') (hq : q = rcvS i) (hN : dst.view.dmaCredit = Ntr i) (hns : min 32 (nr + 4) ≤ ns)
    (hg : 16 ≤ i.val → cb i < ng ∧ ag (cb i) ns ≤ i.val / 4 - 4 + 1) :
    St m K c ns nr na ng no nd ⊢ iprop((St m K c ns nr' na ng no nd -∗ run c (k ⟨⟩) Q) -∗ run c (.op (.waitDma2 q src dst hsrc hdst) k) Q) := by
  subst hnr' hnr hq
  unfold St
  rw [ge_take i, lt_put i (recvd m c)]
  iintro ⟨#Hr, #Hl, ⟨%W, HO⟩, HU, ⟨Hu, HR⟩, HRd, HS, HD, HA, HG, HOut⟩ Hk
  ihave Hu := (show unrecv (F := F) c i ⊢ iprop(atPos ER (rcvC i c) 0 ∅ 0 ∗ cred (tallyAt (rcvC i c) () (Ntr i))) from BI.Entails.refl _) $$ Hu
  icases Hu with ⟨Hat, Hc⟩
  have hdut : dut (role (.dma (rcvS i))) = {0} := by rw [role_rcv]; rfl
  have hexp : 0 + dst.view.dmaCredit = (Rd (F := F) m).expect (rcvC i c) 0 := by rw [Nat.zero_add, hN, expect_one m c _ hdut, role_rcv]; rfl
  have hlev : ∀ j : Fin 32, ns ≤ j.val → lvR (role (.dma (rcvS i))) < j.val / 4 + 2 := fun j hj => by
    rw [role_rcv]; show i.val / 4 + 2 < _
    have := j.isLt; have := i.isLt; omega
  iapply (Rounds.wp_wait_rest_token 𝒱₀ ER (Rd m) (c : Thread nD τ) none (κ := K (c, kRcv i))
      (wpE_waitDma2_eq 𝒱₀ (c : Thread nD τ) none Set.univ) (Set.mem_univ _) () (O := owed c ns) (W := W) (R := 0) (m := 0) (T := ∅) hexp) $$ [Hc HO Hat]
  · isplitr; · iapply (recs_inv m K c (kRcv i) _ (csem_rcv i)); iexact Hr
    isplitl [Hc]; · rw [hN]; iexact Hc
    isplitl [HO]; · iexact HO
    isplitr; · iapply (mayWait_owed c _ ns hlev); iexact Hl
    iexact Hat
  iintro ⟨HO, Hat, -, Hpay⟩
  ihave Hpay := (Entails.of_eq ((rest_one m c _ hdut).trans (by rw [role_rcv]; rfl : _ = dstPay m i c))) $$ Hpay
  imod (Rounds.cell_close ER (Rd m) (Set.mem_univ (K (c, kRcv i))) (fun h => h) (R := 0 + 1) (duties_later m (rcvC i c))) $$ [Hat] with Hz
  · isplitr; · iapply (recs_inv m K c (kRcv i) _ (csem_rcv i)); iexact Hr
    iexact Hat
  iapply Hk
  by_cases hi : i.val < 16
  · isplitr; · iexact Hr
    isplitr; · iexact Hl
    isplitl [HO]; · iexists _; iexact HO
    isplitl [HU]; · iexact HU
    isplitl [HR]; · iexact HR
    isplitl [Hz Hpay HRd]
    · isplitr [HRd]
      · iapply (Entails.of_eq (show iprop(semVal (rcvC i c) 0 ∗ dstPay m i c) = recvd m c i by unfold recvd; rw [if_pos hi]))
        isplitl [Hz]; · iexact Hz
        iexact Hpay
      iexact HRd
    isplitl [HS]; · iexact HS
    isplitl [HD]; · iexact HD
    isplitl [HA]; · iexact HA
    isplitl [HG]
    · ihave H' := (bs_mono fun j _ => (Entails.of_eq (by rw [ag_off i j (.inl hi)]) : agSt m c (j.val < ng) (ag j.val i.val) (ag j.val ns) j ⊢ agSt m c (j.val < ng) (ag j.val (i.val + 1)) (ag j.val ns) j)) $$ HG
      iexact H'
    iexact HOut
  · obtain ⟨hg1, hg2⟩ := hg (by omega)
    isplitr; · iexact Hr
    isplitr; · iexact Hl
    isplitl [HO]; · iexists _; iexact HO
    isplitl [HU]; · iexact HU
    isplitl [HR]; · iexact HR
    isplitl [Hz HRd]
    · isplitr [HRd]
      · iapply (Entails.of_eq (show iprop(semVal (rcvC i c) 0 ∗ emp) = recvd m c i by unfold recvd; rw [if_neg hi]))
        isplitl [Hz]; · iexact Hz
        iempintro
      iexact HRd
    isplitl [HS]; · iexact HS
    isplitl [HD]; · iexact HD
    isplitl [HA]; · iexact HA
    isplitl [HG Hpay]
    · iapply (ag_recv m c i (by omega) ng ns hg1 hg2)
      isplitl [Hpay]; · iexact Hpay
      iexact HG
    iexact HOut

/-- A send cell is waited for: the source is back. -/
theorem drain_step {α : Type} {Q : α → sProp 𝕄} {k : PUnit → Prog (TpuEff nD τ sig (Elt F) Λ₀ .tc) α} (i : Fin 32)
    {q : DmaSem sig} {sp sp' : Space} {s s' : Shape} {e e' : EltTy} {κ' : Kind} {src : Memref sig .tc sp' s' e'} {dst : Memref sig κ' sp s e}
    {hsrc : src.view.WordExact} {hdst : dst.view.WordExact}
    (hnd : i.val = nd) (hnd' : nd + 1 = nd') (hq : q = sndS i) (hN : dst.view.dmaCredit = Ntr i) (hns : nd < ns) :
    St m K c ns nr na ng no nd ⊢ iprop((St m K c ns nr na ng no nd' -∗ run c (k ⟨⟩) Q) -∗ run c (.op (.waitDma2 q src dst hsrc hdst) k) Q) := by
  subst hnd' hnd hq
  unfold St
  rw [btw_take i ns hns, lt_put i (drained m c)]
  iintro ⟨#Hr, #Hl, ⟨%W, HO⟩, HU, HR, HRd, ⟨Hu, HS⟩, HD, HA, HG, HOut⟩ Hk
  ihave Hu := (show sent (F := F) c i ⊢ iprop(atPos ER (sndC i c) 0 ∅ 0 ∗ cred (tallyAt (sndC i c) () (Ntr i))) from BI.Entails.refl _) $$ Hu
  icases Hu with ⟨Hat, Hc⟩
  have hdut : dut (role (.dma (sndS i))) = {0} := by rw [role_snd]; rfl
  have hexp : 0 + dst.view.dmaCredit = (Rd (F := F) m).expect (sndC i c) 0 := by rw [Nat.zero_add, hN, expect_one m c _ hdut, role_snd]; rfl
  have hlev : ∀ j : Fin 32, ns ≤ j.val → lvR (role (.dma (sndS i))) < j.val / 4 + 2 := fun j hj => by
    rw [role_snd]; exact Nat.succ_pos _
  iapply (Rounds.wp_wait_rest_token 𝒱₀ ER (Rd m) (c : Thread nD τ) none (κ := K (c, kSnd i))
      (wpE_waitDma2_eq 𝒱₀ (c : Thread nD τ) none Set.univ) (Set.mem_univ _) () (O := owed c ns) (W := W) (R := 0) (m := 0) (T := ∅) hexp) $$ [Hc HO Hat]
  · isplitr; · iapply (recs_inv m K c (kSnd i) _ (csem_snd i)); iexact Hr
    isplitl [Hc]; · rw [hN]; iexact Hc
    isplitl [HO]; · iexact HO
    isplitr; · iapply (mayWait_owed c _ ns hlev); iexact Hl
    iexact Hat
  iintro ⟨HO, Hat, -, Hpay⟩
  ihave Hpay := (Entails.of_eq ((rest_one m c _ hdut).trans (by rw [role_snd]; rfl : _ = srcPay m i c))) $$ Hpay
  imod (Rounds.cell_close ER (Rd m) (Set.mem_univ (K (c, kSnd i))) (fun h => h) (R := 0 + 1) (duties_later m (sndC i c))) $$ [Hat] with Hz
  · isplitr; · iapply (recs_inv m K c (kSnd i) _ (csem_snd i)); iexact Hr
    iexact Hat
  iapply Hk
  isplitr; · iexact Hr
  isplitr; · iexact Hl
  isplitl [HO]; · iexists _; iexact HO
  isplitl [HU]; · iexact HU
  isplitl [HR]; · iexact HR
  isplitl [HRd]; · iexact HRd
  isplitl [HS]; · iexact HS
  isplitl [Hz Hpay HD]
  · isplitr [HD]
    · unfold drained
      isplitl [Hz]; · iexact Hz
      iexact Hpay
    iexact HD
  isplitl [HA]; · iexact HA
  isplitl [HG]; · iexact HG
  iexact HOut

section Access
variable {off sz : Fin 2 → ℕ}

/-- A load of the chunks still worked on. -/
theorem load_acc {α : Type} {Q : α → sProp 𝕄} (j : Fin 4) (s a : ℕ) {inb : ∀ x, off x + sz x ≤ S1024x1024.size x}
    {hld : (cM.view).LoadsAt (Rect.unit (s := S1024x1024) off sz inb).toLoadRect}
    {k : ((Rect.unit (s := S1024x1024) off sz inb).shape.Idx → Elt F .bf16) → Prog (TpuEff nD τ sig (Elt F) Λ₀ .tc) α}
    (hs : sd j.val ns = s) (ha : ac j.val na = a) (hoff : off = ![64 * lo s j.val c, 256 * j.val]) (hsz : sz = ![64 * (16 / 2 ^ s), 256]) :
    St m K c ns nr na ng no nd ⊢ iprop((St m K c ns nr na ng no nd -∗ run c (k (sec sz (lo s j.val c) j.val (acc m j.val a c))) Q)
      -∗ run c (.op (.load cM (Rect.unit (s := S1024x1024) off sz inb).toLoadRect hld) k) Q) := by
  subst hs ha
  unfold St
  rw [four_at j fun j : Fin 4 => accSt m c (sd j.val ns) (ac j.val na) j]
  iintro ⟨#Hr, #Hl, HO, HU, HR, HRd, HS, HD, ⟨Ha, HA⟩, HG, HOut⟩ Hk
  ihave Ha := (show accSt m c (sd j.val ns) (ac j.val na) j ⊢ cPts c (kreg (sd j.val ns) j.val c) fullShare (acc m j.val (ac j.val na) c) from BI.Entails.refl _) $$ Ha
  iapply (wp_load_rect 𝒱₀ (c : Thread nD τ) none Set.univ (m := cM) (r := Rect.unit (s := S1024x1024) off sz inb)
    (S := kreg (sd j.val ns) j.val c) ((set_c hoff hsz inb).subset)) $$ Ha
  iintro Ha
  rw [show ((cM.access (Rect.unit (s := S1024x1024) off sz inb)).read (Elt F) (acc m j.val (ac j.val na) c))
    = sec sz (lo (sd j.val ns) j.val c) j.val (acc m j.val (ac j.val na) c) from read_c hoff inb _]
  iapply Hk
  isplitr; · iexact Hr
  isplitr; · iexact Hl
  isplitl [HO]; · iexact HO
  isplitl [HU]; · iexact HU
  isplitl [HR]; · iexact HR
  isplitl [HRd]; · iexact HRd
  isplitl [HS]; · iexact HS
  isplitl [HD]; · iexact HD
  isplitl [Ha HA]
  · isplitl [Ha]
    · ihave Ha := (show cPts c (kreg (sd j.val ns) j.val c) fullShare (acc m j.val (ac j.val na) c) ⊢ accSt m c (sd j.val ns) (ac j.val na) j from BI.Entails.refl _) $$ Ha
      iexact Ha
    iexact HA
  isplitl [HG]; · iexact HG
  iexact HOut

/-- A load of what a reducing transfer has landed. -/
theorem load_land {α : Type} {Q : α → sProp 𝕄} (i : Fin 32) {inb : ∀ x, off x + sz x ≤ S960x1024.size x}
    {hld : (rM.view).LoadsAt (Rect.unit (s := S960x1024) off sz inb).toLoadRect}
    {k : ((Rect.unit (s := S960x1024) off sz inb).shape.Idx → Elt F .bf16) → Prog (TpuEff nD τ sig (Elt F) Λ₀ .tc) α}
    (hi : i.val < 16) (hnr : i.val < nr) (hoff : off = ![64 * ro (st i), 256 * cb i]) (hsz : sz = ![64 * hl (st i), 256]) :
    St m K c ns nr na ng no nd ⊢ iprop((St m K c ns nr na ng no nd -∗ run c (k (sec sz (ro (st i)) (cb i) (land m i c))) Q)
      -∗ run c (.op (.load rM (Rect.unit (s := S960x1024) off sz inb).toLoadRect hld) k) Q) := by
  unfold St
  rw [lt_at i nr hnr]
  iintro ⟨#Hr, #Hl, HO, HU, HR, ⟨Hi, HRd⟩, HS, HD, HA, HG, HOut⟩ Hk
  ihave Hi := (Entails.of_eq (show recvd m c i = iprop(semVal (rcvC i c) 0 ∗ rPts c (Reg (ro (st i)) (hl (st i)) (cb i)) fullShare (land m i c)) by
    unfold recvd dstPay dLo; rw [if_pos hi, if_pos hi, if_pos hi])) $$ Hi
  icases Hi with ⟨Hz, Hi⟩
  iapply (wp_load_rect 𝒱₀ (c : Thread nD τ) none Set.univ (m := rM) (r := Rect.unit (s := S960x1024) off sz inb)
    (S := Reg (ro (st i)) (hl (st i)) (cb i)) ((set_r hoff hsz inb).subset)) $$ Hi
  iintro Hi
  rw [show ((rM.access (Rect.unit (s := S960x1024) off sz inb)).read (Elt F) (land m i c))
    = sec sz (ro (st i)) (cb i) (land m i c) from load_r hoff inb _]
  iapply Hk
  isplitr; · iexact Hr
  isplitr; · iexact Hl
  isplitl [HO]; · iexact HO
  isplitl [HU]; · iexact HU
  isplitl [HR]; · iexact HR
  isplitl [Hz Hi HRd]
  · isplitr [HRd]
    · iapply (Entails.of_eq (show iprop(semVal (rcvC i c) 0 ∗ rPts c (Reg (ro (st i)) (hl (st i)) (cb i)) fullShare (land m i c)) = recvd m c i by
        unfold recvd dstPay dLo; rw [if_pos hi, if_pos hi, if_pos hi]))
      isplitl [Hz]; · iexact Hz
      iexact Hi
    iexact HRd
  isplitl [HS]; · iexact HS
  isplitl [HD]; · iexact HD
  isplitl [HA]; · iexact HA
  isplitl [HG]; · iexact HG
  iexact HOut

/-- The store of one accumulated chunk. -/
theorem store_acc {α : Type} {Q : α → sProp 𝕄} {k : PUnit → Prog (TpuEff nD τ sig (Elt F) Λ₀ .tc) α} (i : Fin 32)
    {inb : ∀ x, off x + sz x ≤ S1024x1024.size x} {w : (Rect.unit (s := S1024x1024) off sz inb).shape.Idx → Elt F .bf16}
    {hx : (cM.access (Rect.unit (s := S1024x1024) off sz inb)).Stores Finset.univ}
    {hm : (Finset.univ : Finset (Rect.unit (s := S1024x1024) off sz inb).shape.Idx) = Finset.univ ∨ ∀ a, (Rect.unit (s := S1024x1024) off sz inb).stride a = 1}
    (hna : i.val = na) (hna' : na + 1 = na') (hi : i.val < 16) (hs : sd (cb i) ns = st i + 1)
    (hoff : off = ![64 * lo (st i + 1) (cb i) c, 256 * cb i]) (hsz : sz = ![64 * hl (st i), 256])
    (hw : w = sec sz (lo (st i + 1) (cb i) c) (cb i) (acc m (cb i) (st i + 1) c)) :
    St m K c ns nr na ng no nd ⊢ iprop((St m K c ns nr na' ng no nd -∗ run c (k ⟨⟩) Q)
      -∗ run c (.op (.store cM (Rect.unit (s := S1024x1024) off sz inb) w Finset.univ hx hm) k) Q) := by
  subst hna' hna
  have hreg : (Reg (lo (st i + 1) (cb i) c) (hl (st i)) (cb i) : Finset (Sh 1024).Idx) = kreg (st i + 1) (cb i) c := by
    unfold kreg; rw [(half (st i) (st_lt i)).2]
  unfold St
  rw [four_at (cbF i) fun j : Fin 4 => accSt m c (sd j.val ns) (ac j.val i.val) j, four_at (cbF i) fun j : Fin 4 => accSt m c (sd j.val ns) (ac j.val (i.val + 1)) j,
    show bigSep (Finset.univ.erase (cbF i)) (fun j : Fin 4 => accSt m c (sd j.val ns) (ac j.val (i.val + 1)) j)
      = bigSep (Finset.univ.erase (cbF i)) (fun j : Fin 4 => accSt m c (sd j.val ns) (ac j.val i.val) j) from
      BI.bigSep_congr fun j hj => by rw [ac_off i j (Finset.ne_of_mem_erase hj)]]
  have e1 : accSt m c (sd (cbF i).val ns) (ac (cbF i).val i.val) (cbF i) = cPts c (kreg (st i + 1) (cb i) c) fullShare (acc m (cb i) (st i) c) := by
    unfold accSt; rw [show sd (cbF i).val ns = st i + 1 from hs, show ac (cbF i).val i.val = st i from (ac_at i hi).1]; rfl
  have e2 : accSt m c (sd (cbF i).val ns) (ac (cbF i).val (i.val + 1)) (cbF i) = cPts c (kreg (st i + 1) (cb i) c) fullShare (acc m (cb i) (st i + 1) c) := by
    unfold accSt; rw [show sd (cbF i).val ns = st i + 1 from hs, show ac (cbF i).val (i.val + 1) = st i + 1 from (ac_at i hi).2]; rfl
  rw [e1, e2]
  iintro ⟨#Hr, #Hl, HO, HU, HR, HRd, HS, HD, ⟨Ha, HA⟩, HG, HOut⟩ Hk
  iapply (wp_store 𝒱₀ (c : Thread nD τ) none Set.univ (m := cM) (r := Rect.unit (s := S1024x1024) off sz inb) (Mk := Finset.univ)
    (S := kreg (st i + 1) (cb i) c) (by rw [View.setOn_univ]; exact ((set_c hoff hsz inb).trans hreg).subset)) $$ Ha
  iintro Ha
  ihave Ha := (Entails.of_eq (show cPts c (kreg (st i + 1) (cb i) c) fullShare ((cM.access (Rect.unit (s := S1024x1024) off sz inb)).write (Elt F) (acc m (cb i) (st i) c) w Finset.univ)
      = cPts c (kreg (st i + 1) (cb i) c) fullShare (acc m (cb i) (st i + 1) c) from
    pointsTo_congr (by rw [← hreg]; exact write_c hoff hsz inb _ w _ hw))) $$ Ha
  iapply Hk
  isplitr; · iexact Hr
  isplitr; · iexact Hl
  isplitl [HO]; · iexact HO
  isplitl [HU]; · iexact HU
  isplitl [HR]; · iexact HR
  isplitl [HRd]; · iexact HRd
  isplitl [HS]; · iexact HS
  isplitl [HD]; · iexact HD
  isplitl [Ha HA]
  · isplitl [Ha]; · iexact Ha
    iexact HA
  isplitl [HG]; · iexact HG
  iexact HOut

/-- A load of the own chunk's place in the gathering buffer, before it is stored there. -/
theorem load_own {α : Type} {Q : α → sProp 𝕄} (j : Fin 4) {inb : ∀ x, off x + sz x ≤ S1024x1024.size x}
    {hld : (gM.view).LoadsAt (Rect.unit (s := S1024x1024) off sz inb).toLoadRect}
    {k : ((Rect.unit (s := S1024x1024) off sz inb).shape.Idx → Elt F .bf16) → Prog (TpuEff nD τ sig (Elt F) Λ₀ .tc) α}
    (hj : ¬ j.val < ng) (hoff : off = ![64 * lo 4 j.val c, 256 * j.val]) (hsz : sz = ![64 * 1, 256]) :
    St m K c ns nr na ng no nd ⊢ iprop((∀ v, St m K c ns nr na ng no nd -∗ run c (k v) Q)
      -∗ run c (.op (.load gM (Rect.unit (s := S1024x1024) off sz inb).toLoadRect hld) k) Q) := by
  unfold St
  rw [four_at j fun j : Fin 4 => agSt m c (j.val < ng) (ag j.val nr) (ag j.val ns) j]
  have e1 : agSt m c (j.val < ng) (ag j.val nr) (ag j.val ns) j = iprop(∃ f, gPts (F := F) c (greg 0 j.val c) fullShare f) := if_neg hj
  rw [e1]
  iintro ⟨#Hr, #Hl, HO, HU, HR, HRd, HS, HD, HA, ⟨⟨%f, Ha⟩, HG⟩, HOut⟩ Hk
  iapply (wp_load_rect 𝒱₀ (c : Thread nD τ) none Set.univ (m := gM) (r := Rect.unit (s := S1024x1024) off sz inb)
    (S := greg 0 j.val c) ((set_g hoff hsz inb).subset)) $$ Ha
  iintro Ha
  ispecialize Hk $$ %((gM.access (Rect.unit (s := S1024x1024) off sz inb)).read (Elt F) f)
  iapply Hk
  isplitr; · iexact Hr
  isplitr; · iexact Hl
  isplitl [HO]; · iexact HO
  isplitl [HU]; · iexact HU
  isplitl [HR]; · iexact HR
  isplitl [HRd]; · iexact HRd
  isplitl [HS]; · iexact HS
  isplitl [HD]; · iexact HD
  isplitl [HA]; · iexact HA
  isplitl [Ha HG]
  · isplitl [Ha]; · iexists f; iexact Ha
    iexact HG
  iexact HOut

/-- The store of the own chunk for gathering. -/
theorem store_own {α : Type} {Q : α → sProp 𝕄} {k : PUnit → Prog (TpuEff nD τ sig (Elt F) Λ₀ .tc) α} (j : Fin 4)
    {inb : ∀ x, off x + sz x ≤ S1024x1024.size x} {w : (Rect.unit (s := S1024x1024) off sz inb).shape.Idx → Elt F .bf16}
    {hx : (gM.access (Rect.unit (s := S1024x1024) off sz inb)).Stores Finset.univ}
    {hm : (Finset.univ : Finset (Rect.unit (s := S1024x1024) off sz inb).shape.Idx) = Finset.univ ∨ ∀ a, (Rect.unit (s := S1024x1024) off sz inb).stride a = 1}
    (hj : j.val = ng) (hng' : ng + 1 = ng') (hnr : ag j.val nr = 0) (hns : ag j.val ns = 0)
    (hoff : off = ![64 * lo 4 j.val c, 256 * j.val]) (hsz : sz = ![64 * 1, 256])
    (hw : w = sec sz (lo 4 j.val c) j.val (acc m j.val 4 c)) :
    St m K c ns nr na ng no nd ⊢ iprop((St m K c ns nr na ng' no nd -∗ run c (k ⟨⟩) Q)
      -∗ run c (.op (.store gM (Rect.unit (s := S1024x1024) off sz inb) w Finset.univ hx hm) k) Q) := by
  subst hng' hj
  unfold St
  rw [four_at j fun j' : Fin 4 => agSt m c (j'.val < j.val) (ag j'.val nr) (ag j'.val ns) j', four_at j fun j' : Fin 4 => agSt m c (j'.val < j.val + 1) (ag j'.val nr) (ag j'.val ns) j',
    show bigSep (Finset.univ.erase j) (fun j' : Fin 4 => agSt m c (j'.val < j.val + 1) (ag j'.val nr) (ag j'.val ns) j')
      = bigSep (Finset.univ.erase j) (fun j' : Fin 4 => agSt m c (j'.val < j.val) (ag j'.val nr) (ag j'.val ns) j') from
      BI.bigSep_congr fun j' hj' => by
        have hne : j'.val ≠ j.val := fun h => Finset.ne_of_mem_erase hj' (Fin.ext h)
        unfold agSt
        by_cases h : j'.val < j.val
        · rw [if_pos h, if_pos (by omega)]
        · rw [if_neg h, if_neg (by omega)]]
  have e1 : agSt m c (j.val < j.val) (ag j.val nr) (ag j.val ns) j = iprop(∃ f, gPts (F := F) c (greg 0 j.val c) fullShare f) := if_neg (Nat.lt_irrefl _)
  have e2 : agSt m c (j.val < j.val + 1) (ag j.val nr) (ag j.val ns) j = agSt m c True 0 0 j := by
    rw [hnr, hns]; unfold agSt; rw [if_pos (Nat.lt_succ_self _), if_pos trivial]
  rw [e1, e2]
  iintro ⟨#Hr, #Hl, HO, HU, HR, HRd, HS, HD, HA, ⟨⟨%f, Ha⟩, HG⟩, HOut⟩ Hk
  iapply (wp_store 𝒱₀ (c : Thread nD τ) none Set.univ (m := gM) (r := Rect.unit (s := S1024x1024) off sz inb) (Mk := Finset.univ)
    (S := greg 0 j.val c) (by rw [View.setOn_univ]; exact (set_g hoff hsz inb).subset)) $$ Ha
  iintro Ha
  ihave Ha := (Entails.of_eq (show gPts c (greg 0 j.val c) fullShare ((gM.access (Rect.unit (s := S1024x1024) off sz inb)).write (Elt F) f w Finset.univ)
      = gPts c (greg 0 j.val c) fullShare (red m) from
    pointsTo_congr fun x hx => (write_g hoff hsz inb f w _ hw x hx).trans (red_own m c j.val j.isLt x hx).symm)) $$ Ha
  ihave Ha := (ag_own m c j) $$ Ha
  iapply Hk
  isplitr; · iexact Hr
  isplitr; · iexact Hl
  isplitl [HO]; · iexact HO
  isplitl [HU]; · iexact HU
  isplitl [HR]; · iexact HR
  isplitl [HRd]; · iexact HRd
  isplitl [HS]; · iexact HS
  isplitl [HD]; · iexact HD
  isplitl [HA]; · iexact HA
  isplitl [Ha HG]
  · isplitl [Ha]; · iexact Ha
    iexact HG
  iexact HOut

/-- A load of a column block all gathered. -/
theorem load_all {α : Type} {Q : α → sProp 𝕄} (j : Fin 4) {inb : ∀ x, off x + sz x ≤ S1024x1024.size x}
    {hld : (gM.view).LoadsAt (Rect.unit (s := S1024x1024) off sz inb).toLoadRect}
    {k : ((Rect.unit (s := S1024x1024) off sz inb).shape.Idx → Elt F .bf16) → Prog (TpuEff nD τ sig (Elt F) Λ₀ .tc) α}
    (hj : j.val < ng) (hnr : ag j.val nr = 4) (hoff : off = ![64 * 0, 256 * j.val]) (hsz : sz = ![64 * 16, 256]) :
    St m K c ns nr na ng no nd ⊢ iprop((St m K c ns nr na ng no nd -∗ run c (k (sec sz 0 j.val (red m))) Q)
      -∗ run c (.op (.load gM (Rect.unit (s := S1024x1024) off sz inb).toLoadRect hld) k) Q) := by
  unfold St
  rw [four_at j fun j : Fin 4 => agSt m c (j.val < ng) (ag j.val nr) (ag j.val ns) j]
  have e1 : agSt m c (j.val < ng) (ag j.val nr) (ag j.val ns) j = iprop(gPts c (greg 4 j.val c) (shareDrop fullShare 4) (red m)
      ∗ bigSep Finset.univ fun v : Fin 4 => gPts c (if v.val < ag j.val ns then greg 4 j.val c \ greg v.val j.val c else greg 4 j.val c) (shareTokN fullShare v.val) (red m)) := by
    rw [hnr]; exact if_pos hj
  rw [e1]
  iintro ⟨#Hr, #Hl, HO, HU, HR, HRd, HS, HD, HA, ⟨⟨Ha, Ht⟩, HG⟩, HOut⟩ Hk
  iapply (wp_load_rect 𝒱₀ (c : Thread nD τ) none Set.univ (m := gM) (r := Rect.unit (s := S1024x1024) off sz inb)
    (S := greg 4 j.val c) ((set_g hoff hsz inb).subset)) $$ Ha
  iintro Ha
  rw [show ((gM.access (Rect.unit (s := S1024x1024) off sz inb)).read (Elt F) (red m)) = sec sz 0 j.val (red m) from read_g hoff inb _]
  iapply Hk
  isplitr; · iexact Hr
  isplitr; · iexact Hl
  isplitl [HO]; · iexact HO
  isplitl [HU]; · iexact HU
  isplitl [HR]; · iexact HR
  isplitl [HRd]; · iexact HRd
  isplitl [HS]; · iexact HS
  isplitl [HD]; · iexact HD
  isplitl [HA]; · iexact HA
  isplitl [Ha Ht HG]
  · isplitl [Ha Ht]
    · isplitl [Ha]; · iexact Ha
      iexact Ht
    iexact HG
  iexact HOut

/-- A load of the result's buffer. -/
theorem load_out {α : Type} {Q : α → sProp 𝕄} {inb : ∀ x, off x + sz x ≤ S1024x1024.size x}
    {hld : (oM.view).LoadsAt (Rect.unit (s := S1024x1024) off sz inb).toLoadRect}
    {k : ((Rect.unit (s := S1024x1024) off sz inb).shape.Idx → Elt F .f32) → Prog (TpuEff nD τ sig (Elt F) Λ₀ .tc) α} :
    St m K c ns nr na ng no nd ⊢ iprop((∀ v, St m K c ns nr na ng no nd -∗ run c (k v) Q)
      -∗ run c (.op (.load oM (Rect.unit (s := S1024x1024) off sz inb).toLoadRect hld) k) Q) := by
  unfold St outSt
  iintro ⟨#Hr, #Hl, HO, HU, HR, HRd, HS, HD, HA, HG, ⟨%f, %hf, Ha⟩⟩ Hk
  iapply (wp_load_rect 𝒱₀ (c : Thread nD τ) none Set.univ (m := oM) (r := Rect.unit (s := S1024x1024) off sz inb)
    (S := Finset.univ) (Finset.subset_univ _)) $$ Ha
  iintro Ha
  ispecialize Hk $$ %((oM.access (Rect.unit (s := S1024x1024) off sz inb)).read (Elt F) f)
  iapply Hk
  isplitr; · iexact Hr
  isplitr; · iexact Hl
  isplitl [HO]; · iexact HO
  isplitl [HU]; · iexact HU
  isplitl [HR]; · iexact HR
  isplitl [HRd]; · iexact HRd
  isplitl [HS]; · iexact HS
  isplitl [HD]; · iexact HD
  isplitl [HA]; · iexact HA
  isplitl [HG]; · iexact HG
  iexists f
  isplitr; · (ipureintro; exact hf)
  iexact Ha

/-- The store of one column block of the result. -/
theorem store_out {α : Type} {Q : α → sProp 𝕄} {k : PUnit → Prog (TpuEff nD τ sig (Elt F) Λ₀ .tc) α}
    {inb : ∀ x, off x + sz x ≤ S1024x1024.size x} {w : (Rect.unit (s := S1024x1024) off sz inb).shape.Idx → Elt F .f32}
    {hx : (oM.access (Rect.unit (s := S1024x1024) off sz inb)).Stores Finset.univ}
    {hm : (Finset.univ : Finset (Rect.unit (s := S1024x1024) off sz inb).shape.Idx) = Finset.univ ∨ ∀ a, (Rect.unit (s := S1024x1024) off sz inb).stride a = 1}
    (hno' : no + 1 = no') (hoff : off = ![64 * 0, 256 * no]) (hsz : sz = ![64 * 16, 256]) (hw : w = sec sz 0 no (outV m)) :
    St m K c ns nr na ng no nd ⊢ iprop((St m K c ns nr na ng no' nd -∗ run c (k ⟨⟩) Q)
      -∗ run c (.op (.store oM (Rect.unit (s := S1024x1024) off sz inb) w Finset.univ hx hm) k) Q) := by
  subst hno'
  unfold St outSt
  iintro ⟨#Hr, #Hl, HO, HU, HR, HRd, HS, HD, HA, HG, ⟨%f, %hf, Ha⟩⟩ Hk
  iapply (wp_store 𝒱₀ (c : Thread nD τ) none Set.univ (m := oM) (r := Rect.unit (s := S1024x1024) off sz inb) (Mk := Finset.univ)
    (S := Finset.univ) (Finset.subset_univ _)) $$ Ha
  iintro Ha
  iapply Hk
  isplitr; · iexact Hr
  isplitr; · iexact Hl
  isplitl [HO]; · iexact HO
  isplitl [HU]; · iexact HU
  isplitl [HR]; · iexact HR
  isplitl [HRd]; · iexact HRd
  isplitl [HS]; · iexact HS
  isplitl [HD]; · iexact HD
  isplitl [HA]; · iexact HA
  isplitl [HG]; · iexact HG
  iexists ((oM.access (Rect.unit (s := S1024x1024) off sz inb)).write (Elt F) f w Finset.univ)
  isplitr
  · ipureintro; intro x hx
    by_cases hin : x ∈ (Reg 0 16 no : Finset (Sh 1024).Idx)
    · exact write_o hoff hsz inb f w (outV m) hw x hin
    · refine (write_o_off hoff hsz inb f w x hin).trans (hf x ?_)
      rw [mem_Reg] at hin
      have := row_lt x
      omega
  iexact Ha

end Access

end Cert.KernelIdeal.AR

end
-- ==== Proof.KernelIdeal.Sites.lean ====
/-
# The offsets and the peers the kernel computes, as those of the schedule
-/
module

public import proofs.«01_k».proof.Proof.KernelIdeal.Steps2

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-- Where transfer `i` reads, as the kernel computes it. -/
def sOff : Fin 32 → Dev nD → Fin 2 → ℕ :=
  ![k0_off2, k0_off3, k0_off4, k0_off5, k0_off7, k0_off9, k0_off11, k0_off13, k0_off15, k0_off17, k0_off19, k0_off21, k0_off23, k0_off25, k0_off27, k0_off29, k0_off31, k0_off33, k0_off35, k0_off37, k0_off38, k0_off39, k0_off40, k0_off41, k0_off42, k0_off43, k0_off44, k0_off45, k0_off46, k0_off47, k0_off48, k0_off49]

/-- Where accumulation `i` is, as the kernel computes it. -/
def aOff : Fin 16 → Dev nD → Fin 2 → ℕ :=
  ![k0_off6, k0_off8, k0_off10, k0_off12, k0_off14, k0_off16, k0_off18, k0_off20, k0_off22, k0_off24, k0_off26, k0_off28, k0_off30, k0_off32, k0_off34, k0_off36]

/-- Whom transfer `i` goes to, as the kernel computes it. -/
def devs : Fin 32 → Dev nD → Dev nD :=
  ![fun c => ⟨k0_dev5 c, k0_dev5_lt c⟩, fun c => ⟨k0_dev6 c, k0_dev6_lt c⟩, fun c => ⟨k0_dev7 c, k0_dev7_lt c⟩, fun c => ⟨k0_dev8 c, k0_dev8_lt c⟩, fun c => ⟨k0_dev9 c, k0_dev9_lt c⟩, fun c => ⟨k0_dev10 c, k0_dev10_lt c⟩, fun c => ⟨k0_dev11 c, k0_dev11_lt c⟩, fun c => ⟨k0_dev12 c, k0_dev12_lt c⟩, fun c => ⟨k0_dev13 c, k0_dev13_lt c⟩, fun c => ⟨k0_dev14 c, k0_dev14_lt c⟩, fun c => ⟨k0_dev15 c, k0_dev15_lt c⟩, fun c => ⟨k0_dev16 c, k0_dev16_lt c⟩, fun c => ⟨k0_dev17 c, k0_dev17_lt c⟩, fun c => ⟨k0_dev18 c, k0_dev18_lt c⟩, fun c => ⟨k0_dev19 c, k0_dev19_lt c⟩, fun c => ⟨k0_dev20 c, k0_dev20_lt c⟩, fun c => ⟨k0_dev21 c, k0_dev21_lt c⟩, fun c => ⟨k0_dev22 c, k0_dev22_lt c⟩, fun c => ⟨k0_dev23 c, k0_dev23_lt c⟩, fun c => ⟨k0_dev24 c, k0_dev24_lt c⟩, fun c => ⟨k0_dev25 c, k0_dev25_lt c⟩, fun c => ⟨k0_dev26 c, k0_dev26_lt c⟩, fun c => ⟨k0_dev27 c, k0_dev27_lt c⟩, fun c => ⟨k0_dev28 c, k0_dev28_lt c⟩, fun c => ⟨k0_dev29 c, k0_dev29_lt c⟩, fun c => ⟨k0_dev30 c, k0_dev30_lt c⟩, fun c => ⟨k0_dev31 c, k0_dev31_lt c⟩, fun c => ⟨k0_dev32 c, k0_dev32_lt c⟩, fun c => ⟨k0_dev33 c, k0_dev33_lt c⟩, fun c => ⟨k0_dev34 c, k0_dev34_lt c⟩, fun c => ⟨k0_dev35 c, k0_dev35_lt c⟩, fun c => ⟨k0_dev36 c, k0_dev36_lt c⟩]

theorem sOff_eq : ∀ (i : Fin 32) (c : Dev nD), sOff i c = ![64 * sLo i c, 256 * cb i] := by decide +kernel

theorem aOff_eq : ∀ (i : Fin 16) (c : Dev nD), aOff i c = ![64 * lo (i.val / 4 + 1) (i.val % 4) c, 256 * (i.val % 4)] := by decide +kernel

theorem devs_eq : ∀ (i : Fin 32) (c : Dev nD), devs i c = pk i c := by decide +kernel

theorem chain0 {A P X : sProp 𝕄} (h : iprop(A ∗ P) ⊢ X) : A ⊢ iprop(P -∗ X) := by
  iintro HA HP
  iapply h
  isplitl [HA]; · iexact HA
  iexact HP

/-- One step after another. -/
theorem chain {A A' P X Y : sProp 𝕄} (h : A ⊢ iprop((A' -∗ X) -∗ Y)) (h' : iprop(A' ∗ P) ⊢ X) : iprop(A ∗ P) ⊢ Y := by
  iintro ⟨HA, HP⟩
  iapply h $$ HA
  iintro HA
  iapply h'
  isplitl [HA]; · iexact HA
  iexact HP

theorem chainV {β : Type} {A A' P Y : sProp 𝕄} {X : β → sProp 𝕄} (h : A ⊢ iprop((∀ v, A' -∗ X v) -∗ Y)) (h' : ∀ v, iprop(A' ∗ P) ⊢ X v) :
    iprop(A ∗ P) ⊢ Y := by
  iintro ⟨HA, HP⟩
  iapply h $$ HA
  iintro %v HA
  iapply (h' v)
  isplitl [HA]; · iexact HA
  iexact HP

/-- The end of a part. -/
theorem chain_ret {α : Type} {A : sProp 𝕄} {Q : α → sProp 𝕄} (r : α) :
    iprop(A ∗ ∀ r, A -∗ Q r) ⊢ run (F := F) c (Prog.ret r) Q := by
  iintro ⟨HA, Hk⟩
  unfold run
  rw [wp_ret]; imodintro
  iapply Hk $$ %r [HA]
  iexact HA

theorem chain_ret_fact {α : Type} {A : sProp 𝕄} {Q : α → sProp 𝕄} {φ : α → Prop} {r : α} (h : φ r) :
    iprop(A ∗ ∀ r, ⌜φ r⌝ -∗ A -∗ Q r) ⊢ run (F := F) c (Prog.ret r) Q := by
  iintro ⟨HA, Hk⟩
  unfold run
  rw [wp_ret]; imodintro
  iapply Hk $$ %r %h [HA]
  iexact HA

/-- The sum of what is kept and what has landed is what is kept next. -/
theorem sum_eq (i : Fin 32) (hi : i.val < 16) {sz : Fin 2 → ℕ} (hsz : sz = ![64 * hl (st i), 256]) (h : (⟨2, sz⟩ : Shape).ShapeCasts ⟨2, sz⟩) :
    shapeCast ⟨2, sz⟩ (addf (F := F) (sec sz (lo (st i + 1) (cb i) c) (cb i) (acc m (cb i) (st i) c)) (sec sz (ro (st i)) (cb i) (land m i c))) h
      = sec sz (lo (st i + 1) (cb i) c) (cb i) (acc m (cb i) (st i + 1) c) :=
  (shapeCast_self _ _).trans (sec_acc m sz _ hsz i c hi rfl)

end Cert.KernelIdeal.AR

end
-- ==== Proof.KernelIdeal.Prelude.lean ====
/-
# The start of a body: the input copies, the handshake, the partial product
-/
module

public import proofs.«01_k».proof.Proof.KernelIdeal.Sites

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## The states -/

/-- What a device needs to signal its neighbour across `b`: the duty, and what the signal hands over. -/
def barTok (b : Fin 4) : sProp 𝕄 := iprop(dutyTok ER (barC (prt b.val c)) 0 b ∗ barPay (F := F) b (prt b.val c))

/-- What is owed before the signal across `b`. -/
def owedB (b : ℕ) : CellTallies nD τ sig Unit :=
  match b with
  | 0 => owed₀ c
  | 1 => owed c 0 + tallyAt (barC (prt 3 c)) () 1 + tallyAt (barC (prt 2 c)) () 1 + tallyAt (barC (prt 1 c)) () 1
  | 2 => owed c 0 + tallyAt (barC (prt 3 c)) () 1 + tallyAt (barC (prt 2 c)) () 1
  | 3 => owed c 0 + tallyAt (barC (prt 3 c)) () 1
  | _ => owed c 0

theorem owedB_succ : ∀ b : Fin 4, owedB c b.val = owedB c (b.val + 1) + tallyAt (barC (prt b.val c)) () 1
  | 0 => rfl
  | 1 => rfl
  | 2 => rfl
  | 3 => rfl

/-- An argument's slab, held. -/
def arg0Pts : sProp 𝕄 := (c : Thread nD τ).loc main_arg0 ↦[argSet c]{fullShare} m ((c : Thread nD τ).loc main_arg0)
def arg1Pts : sProp 𝕄 := (c : Thread nD τ).loc main_arg1 ↦[argSet c]{fullShare} m ((c : Thread nD τ).loc main_arg1)

/-! ## The steps -/

theorem signal_step {α : Type} {Q : α → sProp 𝕄} {k : PUnit → Prog (TpuEff nD τ sig (Elt F) Λ₀ .tc) α}
    (b : Fin 4) (d : Dev nD) (hd : d = prt b.val c) (W : Waits sig Unit) (n : ℤ) (hn : n = 1) :
    iprop(recs m K ∗ owes (c : Thread nD τ) (owedB c b.val) W ∗ barTok c b)
      ⊢ iprop((owes (c : Thread nD τ) (owedB c (b.val + 1)) W -∗ run (F := F) c (k ⟨⟩) Q) -∗ run c (.op (.semSignal (d, .tc) barS n) k) Q) := by
  subst hd hn
  unfold barTok
  iintro ⟨#Hr, HO, Ht, Hp⟩
  iapply (Rounds.wp_signal 𝒱₀ ER (Rd m) (c : Thread nD τ) none (dst := ((prt b.val c : Dev nD) : Thread nD τ)) (κ := K (prt b.val c, 0))
      (d := b) (by rw [duties_eq]; exact Finset.mem_univ _) ((amount_eq m (prt b.val c) _ 0 b).trans (by decide)) () (owedB c (b.val + 1)) (owedB_succ c b))
    $$ [HO Ht Hp]
  isplitr; · iapply (recs_inv m K (prt b.val c) 0 _ csem_bar); iexact Hr
  isplitl [HO]; · iexact HO
  isplitl [Ht]; · iexact Ht
  isplitl [Hp]
  · iapply (show barPay (F := F) b (prt b.val c) ⊢ (Rd (F := F) m).payload (barC (prt b.val c)) 0 b from BI.Entails.refl _); iexact Hp
  iapply (recs_reached m K (prt b.val c) 0 _ csem_bar); iexact Hr

/-- The two input copies start. -/
theorem copy0_step {α : Type} {Q : α → sProp 𝕄} {k : PUnit → Prog (TpuEff nD τ sig (Elt F) Λ₀ .tc) α}
    {inb : ∀ a, k0_off1 c a + S1024x512.size a ≤ S1024x4096.size a} {q : DmaSem sig}
    {hs : ((Memref.whole main_arg0 : Memref sig .tc .hbm S1024x4096 .f32).slice (Rect.unit (s := S1024x4096) (k0_off1 c) S1024x512.size inb) (fun _ => rfl)).view.WordExact}
    {hd : aM.view.WordExact} {hsem : DmaTarget.Typed (nD := nD) (τ := τ) (p := .tc) .hbm (.dma q) (.here aM)} (hq : q = inS 0) :
    iprop(recs m K ∗ dutyTok ER (inC 0 c) 0 0 ∗ arg0Pts m c ∗ ∃ f, aPts (F := F) c f)
      ⊢ iprop((cred (tallyAt (inC 0 c) () Nin) -∗ run (F := F) c (k ⟨⟩) Q)
        -∗ run c (.op (.enqueueDma ((Memref.whole main_arg0 : Memref sig .tc .hbm S1024x4096 .f32).slice (Rect.unit (s := S1024x4096) (k0_off1 c) S1024x512.size inb) (fun _ => rfl))
          (.here aM) (.dma q) hs hd hsem) k) Q) := by
  subst hq
  have hset : ((Memref.whole main_arg0 : Memref sig .tc .hbm S1024x4096 .f32).slice (Rect.unit (s := S1024x4096) (k0_off1 c) S1024x512.size inb) (fun _ => rfl)).view.set = argSet c :=
    View.set_slice_whole _ _
  unfold arg0Pts
  iintro ⟨#Hr, Ht, Ha, ⟨%f, Hd⟩⟩
  iapply (Rounds.wp_copy_pointsTo 𝒱₀ ER (Rd m) (c : Thread nD τ) none
      (src := (Memref.whole main_arg0 : Memref sig .tc .hbm S1024x4096 .f32).slice (Rect.unit (s := S1024x4096) (k0_off1 c) S1024x512.size inb) (fun _ => rfl)) (dst := aM)
      (q := fullShare) (fs := m ((c : Thread nD τ).loc main_arg0)) (fd := f) (κ := K (c, kIn 0)) (r := 0) (d := 0)
      (by rw [duties_eq, role_in]; exact Finset.mem_singleton_self _) () Nin rfl ((amount_eq m c _ 0 0).trans (by rw [role_in]; rfl))
      (by
        rw [payload_eq, role_in, hset]
        refine sep_mono_left (Entails.of_eq ?_)
        rw [View.set_whole]
        exact congrArg (fun g => aPts (F := F) c g) (View.write_whole_univ _ _ _))) $$ [Ht Ha Hd]
  isplitr; · iapply (recs_inv m K c (kIn 0) _ (csem_in 0)); iexact Hr
  isplitl [Ha]; · rw [hset]; iexact Ha
  isplitl [Hd]; · rw [View.set_whole]; iexact Hd
  isplitl [Ht]; · iexact Ht
  iapply (recs_reached m K c (kIn 0) _ (csem_in 0)); iexact Hr

theorem copy1_step {α : Type} {Q : α → sProp 𝕄} {k : PUnit → Prog (TpuEff nD τ sig (Elt F) Λ₀ .tc) α}
    {inb : ∀ a, k0_off1 c a + S1024x512.size a ≤ S1024x4096.size a} {q : DmaSem sig}
    {hs : ((Memref.whole main_arg1 : Memref sig .tc .hbm S1024x4096 .f32).slice (Rect.unit (s := S1024x4096) (k0_off1 c) S1024x512.size inb) (fun _ => rfl)).view.WordExact}
    {hd : bM.view.WordExact} {hsem : DmaTarget.Typed (nD := nD) (τ := τ) (p := .tc) .hbm (.dma q) (.here bM)} (hq : q = inS 1) :
    iprop(recs m K ∗ dutyTok ER (inC 1 c) 0 0 ∗ arg1Pts m c ∗ ∃ f, bPts (F := F) c f)
      ⊢ iprop((cred (tallyAt (inC 1 c) () Nin) -∗ run (F := F) c (k ⟨⟩) Q)
        -∗ run c (.op (.enqueueDma ((Memref.whole main_arg1 : Memref sig .tc .hbm S1024x4096 .f32).slice (Rect.unit (s := S1024x4096) (k0_off1 c) S1024x512.size inb) (fun _ => rfl))
          (.here bM) (.dma q) hs hd hsem) k) Q) := by
  subst hq
  have hset : ((Memref.whole main_arg1 : Memref sig .tc .hbm S1024x4096 .f32).slice (Rect.unit (s := S1024x4096) (k0_off1 c) S1024x512.size inb) (fun _ => rfl)).view.set = argSet c :=
    View.set_slice_whole _ _
  unfold arg1Pts
  iintro ⟨#Hr, Ht, Ha, ⟨%f, Hd⟩⟩
  iapply (Rounds.wp_copy_pointsTo 𝒱₀ ER (Rd m) (c : Thread nD τ) none
      (src := (Memref.whole main_arg1 : Memref sig .tc .hbm S1024x4096 .f32).slice (Rect.unit (s := S1024x4096) (k0_off1 c) S1024x512.size inb) (fun _ => rfl)) (dst := bM)
      (q := fullShare) (fs := m ((c : Thread nD τ).loc main_arg1)) (fd := f) (κ := K (c, kIn 1)) (r := 0) (d := 0)
      (by rw [duties_eq, role_in]; exact Finset.mem_singleton_self _) () Nin rfl ((amount_eq m c _ 0 0).trans (by rw [role_in]; rfl))
      (by
        rw [payload_eq, role_in, hset]
        refine sep_mono_left (Entails.of_eq ?_)
        rw [View.set_whole]
        exact congrArg (fun g => bPts (F := F) c g) (View.write_whole_univ _ _ _))) $$ [Ht Ha Hd]
  isplitr; · iapply (recs_inv m K c (kIn 1) _ (csem_in 1)); iexact Hr
  isplitl [Ha]; · rw [hset]; iexact Ha
  isplitl [Hd]; · rw [View.set_whole]; iexact Hd
  isplitl [Ht]; · iexact Ht
  iapply (recs_reached m K c (kIn 1) _ (csem_in 1)); iexact Hr

/-- An input copy has landed. -/
theorem waitIn_step {α : Type} {Q : α → sProp 𝕄} {k : PUnit → Prog (TpuEff nD τ sig (Elt F) Λ₀ .tc) α}
    (j : Fin 2) {q : DmaSem sig} {sp sp' : Space} {s s' : Shape} {e e' : EltTy} {κ' : Kind} {src : Memref sig .tc sp' s' e'} {dst : Memref sig κ' sp s e}
    {hsrc : src.view.WordExact} {hdst : dst.view.WordExact} (hq : q = inS j) (hN : dst.view.dmaCredit = Nin) (W : Waits sig Unit) :
    iprop(recs m K ∗ levAts L lv ∗ owes (c : Thread nD τ) (owed c 0) W ∗ atPos ER (inC j c) 0 ∅ 0 ∗ cred (tallyAt (inC j c) () Nin))
      ⊢ iprop((((∃ W, owes (c : Thread nD τ) (owed c 0) W) ∗ semVal (inC j c) 0 ∗ inPay m j c) -∗ run (F := F) c (k ⟨⟩) Q)
        -∗ run c (.op (.waitDma2 q src dst hsrc hdst) k) Q) := by
  subst hq
  iintro ⟨#Hr, #Hl, HO, Hat, Hc⟩ Hk
  have hdut : dut (role (.dma (inS j))) = {0} := by rw [role_in]; rfl
  have hexp : 0 + dst.view.dmaCredit = (Rd (F := F) m).expect (inC j c) 0 := by rw [Nat.zero_add, hN, expect_one m c _ hdut, role_in]; rfl
  have hlev : ∀ j' : Fin 32, 0 ≤ j'.val → lvR (role (.dma (inS j))) < j'.val / 4 + 2 := fun j' _ => by
    rw [role_in]; exact Nat.succ_pos _
  iapply (Rounds.wp_wait_rest_token 𝒱₀ ER (Rd m) (c : Thread nD τ) none (κ := K (c, kIn j))
      (wpE_waitDma2_eq 𝒱₀ (c : Thread nD τ) none Set.univ) (Set.mem_univ _) () (O := owed c 0) (W := W) (R := 0) (m := 0) (T := ∅) hexp) $$ [Hc HO Hat]
  · isplitr; · iapply (recs_inv m K c (kIn j) _ (csem_in j)); iexact Hr
    isplitl [Hc]; · rw [hN]; iexact Hc
    isplitl [HO]; · iexact HO
    isplitr; · iapply (mayWait_owed c _ 0 hlev); iexact Hl
    iexact Hat
  iintro ⟨HO, Hat, -, Hpay⟩
  ihave Hpay := (Entails.of_eq ((rest_one m c _ hdut).trans (by rw [role_in]; rfl : _ = inPay m j c))) $$ Hpay
  imod (Rounds.cell_close ER (Rd m) (Set.mem_univ (K (c, kIn j))) (fun h => h) (R := 0 + 1) (duties_later m (inC j c))) $$ [Hat] with Hz
  · isplitr; · iapply (recs_inv m K c (kIn j) _ (csem_in j)); iexact Hr
    iexact Hat
  iapply Hk
  isplitl [HO]; · iexists _; iexact HO
  isplitl [Hz]; · iexact Hz
  iexact Hpay

/-- All four neighbours have signalled. -/
theorem waitBar_step {α : Type} {Q : α → sProp 𝕄} {k : PUnit → Prog (TpuEff nD τ sig (Elt F) Λ₀ .tc) α}
    (W : Waits sig Unit) (n : ℤ) (hn : n = 4) :
    iprop(recs m K ∗ levAts L lv ∗ owes (c : Thread nD τ) (owed c 0) W ∗ atPos ER (barC c) 0 ∅ 0 ∗ cred (tallyAt (barC c) () 4))
      ⊢ iprop((((∃ W, owes (c : Thread nD τ) (owed c 0) W) ∗ semVal (barC c) 0 ∗ bigSep Finset.univ fun b : Fin 4 => barPay (F := F) b c) -∗ run (F := F) c (k ⟨⟩) Q)
        -∗ run c (.op (.semWait barS n) k) Q) := by
  subst hn
  iintro ⟨#Hr, #Hl, HO, Hat, Hc⟩ Hk
  have hlev : ∀ j' : Fin 32, 0 ≤ j'.val → lvR (role (.reg barS)) < j'.val / 4 + 2 := fun j' _ => by
    show 1 < _; omega
  iapply (Rounds.wp_wait_rest_token 𝒱₀ ER (Rd m) (c : Thread nD τ) none (κ := K (c, 0))
      (wpE_semWait_eq 𝒱₀ (c : Thread nD τ) none Set.univ) (Set.mem_univ _) () (O := owed c 0) (W := W) (R := 0) (m := 0) (T := ∅)
      (by rw [expect_bar])) $$ [Hc HO Hat]
  · isplitr; · iapply (recs_inv m K c 0 _ csem_bar); iexact Hr
    isplitl [Hc]; · iexact Hc
    isplitl [HO]; · iexact HO
    isplitr; · iapply (mayWait_owed c _ 0 hlev); iexact Hl
    iexact Hat
  iintro ⟨HO, Hat, -, Hpay⟩
  ihave Hpay := (Entails.of_eq (rest_bar m c)) $$ Hpay
  imod (Rounds.cell_close ER (Rd m) (Set.mem_univ (K (c, 0))) (fun h => h) (R := 0 + 1) (duties_later m (barC c))) $$ [Hat] with Hz
  · isplitr; · iapply (recs_inv m K c 0 _ csem_bar); iexact Hr
    iexact Hat
  iapply Hk
  isplitl [HO]; · iexists _; iexact HO
  isplitl [Hz]; · iexact Hz
  iexact Hpay

/-! ## The parts -/

variable (h0 : (Memref.whole main_arg0 : Memref sig .tc .hbm S1024x4096 .f32).IsWhole) (h1 : (Memref.whole main_arg1 : Memref sig .tc .hbm S1024x4096 .f32).IsWhole)
  (h2 : oM.IsWhole) (h3 : aM.IsWhole) (h4 : bM.IsWhole) (h5 : cM.IsWhole) (h6 : rM.IsWhole) (h7 : gM.IsWhole)

theorem part1_run {Q : (Σ' (d0 : Dev nD) (v2 : BitVec 32) (v5 : BitVec 32) (v8 : BitVec 32) (v19 : BitVec 32) (v20 : BitVec 32) (v21 : BitVec 32) (v22 : BitVec 32) (v23 : Sems sig S_) (v30 : BitVec 32), BitVec 32) → sProp 𝕄} :
    iprop(recs m K ∗ (∃ W, owes (c : Thread nD τ) (owed₀ c) W) ∗ (dutyTok ER (inC 0 c) 0 0 ∗ arg0Pts m c ∗ ∃ f, aPts (F := F) c f)
        ∗ (dutyTok ER (inC 1 c) 0 0 ∗ arg1Pts m c ∗ ∃ f, bPts (F := F) c f) ∗ barTok c 0)
      ⊢ iprop((∀ r, ⌜r.1 = c ∧ r.2.2.2.2.2.2.2.2.1 = (SemArray.scalar (sig.barrier 0 rfl) : Sems sig S_)⌝
          -∗ ((∃ W, owes (c : Thread nD τ) (owedB c 1) W) ∗ cred (tallyAt (inC 0 c) () Nin) ∗ cred (tallyAt (inC 1 c) () Nin)) -∗ Q r)
        -∗ run (F := F) c (k0_part1 (Memref.whole main_arg0) h0 (Memref.whole main_arg1) h1 oM h2 aM h3 bM h4 cM h5 rM h6 gM h7 cc0_scratch5 cc0_scratch6 cc0_scratch7) Q) := by
  simp only [k0_part1_eq_skeleton]; unfold k0_part1_skel run
  simp only [semSignalWord, Prog.lift, Prog.bind_op, Prog.bind_ret, Prog.pure_eq_ret, wp_deviceId]
  iintro ⟨#Hr, ⟨%W, HO⟩, ⟨Ht0, Ha0, Hf0⟩, ⟨Ht1, Ha1, Hf1⟩, Hb⟩ Hk
  iapply (copy0_step m K c (hq := rfl)) $$ [Ht0 Ha0 Hf0]
  · isplitr; · iexact Hr
    isplitl [Ht0]; · iexact Ht0
    isplitl [Ha0]; · iexact Ha0
    iexact Hf0
  iintro Hc0
  iapply (copy1_step m K c (hq := rfl)) $$ [Ht1 Ha1 Hf1]
  · isplitr; · iexact Hr
    isplitl [Ht1]; · iexact Ht1
    isplitl [Ha1]; · iexact Ha1
    iexact Hf1
  iintro Hc1
  iapply (signal_step m K c 0 _ (dev1_eq c) W _ (by decide)) $$ [HO Hb]
  · isplitr; · iexact Hr
    isplitl [HO]; · iexact HO
    iexact Hb
  iintro HO
  unfold run
  rw [wp_ret]; imodintro
  iapply Hk $$ %_ %(And.intro rfl rfl) [HO Hc0 Hc1]
  isplitl [HO]; · iexists _; iexact HO
  isplitl [Hc0]; · iexact Hc0
  iexact Hc1

theorem part2_run {Q : FVec F S1024x1024 .bf16 → sProp 𝕄} (v2 v5 v8 v20 v21 v22 v30 c0 : BitVec 32) :
    iprop(recs m K ∗ levAts L lv ∗ (∃ W, owes (c : Thread nD τ) (owedB c 1) W) ∗ barTok c 1 ∗ barTok c 2 ∗ barTok c 3
        ∗ (atPos ER (barC c) 0 ∅ 0 ∗ cred (tallyAt (barC c) () 4))
        ∗ (atPos ER (inC 0 c) 0 ∅ 0 ∗ cred (tallyAt (inC 0 c) () Nin)) ∗ (atPos ER (inC 1 c) 0 ∅ 0 ∗ cred (tallyAt (inC 1 c) () Nin)))
      ⊢ iprop((∀ r, ⌜r = part m c⌝ -∗ ((∃ W, owes (c : Thread nD τ) (owed c 0) W) ∗ (semVal (barC c) 0 ∗ bigSep Finset.univ fun b : Fin 4 => barPay (F := F) b c)
            ∗ (semVal (inC 0 c) 0 ∗ aPts c (aSlab m c) ∗ arg0Pts m c) ∗ (semVal (inC 1 c) 0 ∗ bPts c (bSlab m c) ∗ arg1Pts m c)) -∗ Q r)
        -∗ run (F := F) c (k0_part2 (Memref.whole main_arg0) h0 (Memref.whole main_arg1) h1 oM h2 aM h3 bM h4 cM h5 rM h6 gM h7 cc0_scratch5 cc0_scratch6 cc0_scratch7
          c v2 v5 v8 v20 v21 v22 (SemArray.scalar (sig.barrier 0 rfl) : Sems sig S_) v30 c0) Q) := by
  simp only [k0_part2_eq_skeleton]; unfold k0_part2_skel run
  simp only [semSignalWord, semWaitWord, Prog.lift, Prog.bind_op, Prog.bind_ret, Prog.pure_eq_ret]
  iintro ⟨#Hr, #Hl, ⟨%W, HO⟩, Hb1, Hb2, Hb3, ⟨HatB, HcB⟩, ⟨Hat0, Hc0⟩, ⟨Hat1, Hc1⟩⟩ Hk
  iapply (signal_step m K c 1 _ (dev2_eq c) W _ (by decide)) $$ [HO Hb1]
  · isplitr; · iexact Hr
    isplitl [HO]; · iexact HO
    iexact Hb1
  iintro HO
  iapply (signal_step m K c 2 _ (dev3_eq c) W _ (by decide)) $$ [HO Hb2]
  · isplitr; · iexact Hr
    isplitl [HO]; · iexact HO
    iexact Hb2
  iintro HO
  iapply (signal_step m K c 3 _ (dev4_eq c) W _ (by decide)) $$ [HO Hb3]
  · isplitr; · iexact Hr
    isplitl [HO]; · iexact HO
    iexact Hb3
  iintro HO
  iapply (waitBar_step m K c W _ (by decide)) $$ [HO HatB HcB]
  · isplitr; · iexact Hr
    isplitr; · iexact Hl
    isplitl [HO]; · iexact HO
    isplitl [HatB]; · iexact HatB
    iexact HcB
  iintro ⟨⟨%W1, HO⟩, HB⟩
  iapply (waitIn_step m K c 0 rfl rfl W1) $$ [HO Hat0 Hc0]
  · isplitr; · iexact Hr
    isplitr; · iexact Hl
    isplitl [HO]; · iexact HO
    isplitl [Hat0]; · iexact Hat0
    iexact Hc0
  iintro ⟨⟨%W2, HO⟩, Hz0, Hp0⟩
  iapply (waitIn_step m K c 1 rfl rfl W2) $$ [HO Hat1 Hc1]
  · isplitr; · iexact Hr
    isplitr; · iexact Hl
    isplitl [HO]; · iexact HO
    isplitl [Hat1]; · iexact Hat1
    iexact Hc1
  iintro ⟨HO, Hz1, Hp1⟩
  ihave Hp0 := (show inPay m 0 c ⊢ iprop(aPts c (aSlab m c) ∗ arg0Pts m c) from BI.Entails.refl _) $$ Hp0
  ihave Hp1 := (show inPay m 1 c ⊢ iprop(bPts c (bSlab m c) ∗ arg1Pts m c) from BI.Entails.refl _) $$ Hp1
  icases Hp0 with ⟨Ha, Hg0⟩
  icases Hp1 with ⟨Hb, Hg1⟩
  have hz : (![0, 0] : Fin 2 → Nat) = fun _ => 0 := funext fun a => by fin_cases a <;> rfl
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  rw [wp_ret]; imodintro
  iapply Hk $$ %_ %(congrArg₂ k0_pay1 (Memref.readAt_unit_zero (Elt F) cc0_scratch0 hz _ (aSlab m c)) (Memref.readAt_unit_zero (Elt F) cc0_scratch1 hz _ (bSlab m c))) [HO HB Hz0 Hz1 Ha Hb Hg0 Hg1]
  isplitl [HO]; · iexact HO
  isplitl [HB]; · iexact HB
  isplitl [Hz0 Ha Hg0]
  · isplitl [Hz0]; · iexact Hz0
    isplitl [Ha]; · iexact Ha
    iexact Hg0
  isplitl [Hz1]; · iexact Hz1
  isplitl [Hb]; · iexact Hb
  iexact Hg1

/-- The partial product's store: the state but for the accumulating buffer, `A`, is made whole. -/
theorem store_part {α : Type} {Q : α → sProp 𝕄} {k : PUnit → Prog (TpuEff nD τ sig (Elt F) Λ₀ .tc) α} {A : sProp 𝕄}
    {hld : cM.view.LoadsAt (Rect.unit (s := S1024x1024) ![0, 0] S1024x1024.size inb_S1024x1024_S1024x1024_0_0).toLoadRect}
    {hx : (cM.access (Rect.unit (s := S1024x1024) ![0, 0] S1024x1024.size inb_S1024x1024_S1024x1024_0_0)).Stores Finset.univ}
    {hm : (Finset.univ : Finset (Rect.unit (s := S1024x1024) ![0, 0] S1024x1024.size inb_S1024x1024_S1024x1024_0_0).shape.Idx) = Finset.univ
      ∨ ∀ a, (Rect.unit (s := S1024x1024) ![0, 0] S1024x1024.size inb_S1024x1024_S1024x1024_0_0).stride a = 1}
    (hA : iprop(A ∗ cPts c Finset.univ fullShare (part m c)) ⊢ St m K c 0 0 0 0 0 0) :
    iprop(A ∗ ∃ f, cPts (F := F) c Finset.univ fullShare f)
      ⊢ iprop((St m K c 0 0 0 0 0 0 -∗ run (F := F) c (k ⟨⟩) Q)
        -∗ run c (.op (.load cM (Rect.unit (s := S1024x1024) ![0, 0] S1024x1024.size inb_S1024x1024_S1024x1024_0_0).toLoadRect hld) fun _ =>
          .op (.store cM (Rect.unit (s := S1024x1024) ![0, 0] S1024x1024.size inb_S1024x1024_S1024x1024_0_0) (k0_pay2 (part m c)) Finset.univ hx hm) k) Q) := by
  have hz : (![0, 0] : Fin 2 → Nat) = fun _ => 0 := funext fun a => by fin_cases a <;> rfl
  iintro ⟨HA, ⟨%f, Hc⟩⟩ Hk
  unfold run
  iapply (wp_load 𝒱₀ (c : Thread nD τ) none Set.univ (m := cM) (Finset.subset_univ _)) $$ Hc; iintro Hc
  iapply (wp_store 𝒱₀ (c : Thread nD τ) none Set.univ (m := cM) (r := Rect.unit (s := S1024x1024) ![0, 0] S1024x1024.size inb_S1024x1024_S1024x1024_0_0) (Mk := Finset.univ) (Finset.subset_univ _)) $$ Hc; iintro Hc
  have hw := (Memref.write_access_unit_zero_univ (Elt F) cc0_scratch2 hz inb_S1024x1024_S1024x1024_0_0 f (k0_pay2 (part m c))).trans (shapeCast_self _ _ : _ = part m c)
  ihave Hc := (Entails.of_eq (congrArg (fun g => cPts (F := F) c Finset.univ fullShare g) hw)) $$ Hc
  iapply Hk
  iapply hA
  isplitl [HA]; · iexact HA
  iexact Hc

/-- The partial product is stored, and the first transfer starts. -/
theorem part3_run {Q : (Σ' (v63 : BitVec 32) (v64 : BitVec 32) (v66 : BitVec 32), BitVec 32) → sProp 𝕄} {A : sProp 𝕄}
    (hA : iprop(A ∗ cPts c Finset.univ fullShare (part m c)) ⊢ St m K c 0 0 0 0 0 0)
    (v2 v5 v8 v19 : BitVec 32) (v59 : FVec F S1024x1024 .bf16) (hv : v59 = part m c) :
    iprop(A ∗ ∃ f, cPts (F := F) c Finset.univ fullShare f)
      ⊢ iprop((∀ r, St m K c 1 0 0 0 0 0 -∗ Q r)
        -∗ run (F := F) c (k0_part3 (Memref.whole main_arg0) h0 (Memref.whole main_arg1) h1 oM h2 aM h3 bM h4 cM h5 rM h6 gM h7 cc0_scratch5 cc0_scratch6 cc0_scratch7
          c v2 v5 v8 v19 v59) Q) := by
  subst hv
  simp only [k0_part3_eq_skeleton]; unfold k0_part3_skel
  simp only [Prog.lift, Prog.bind_op, Prog.bind_ret, Prog.pure_eq_ret]
  refine chain0 ?_
  refine chain (store_part m K c hA) ?_
  refine chain (send_rs m K c 0 rfl rfl (by decide) (by decide) (by decide) (devs_eq 0 c) rfl rfl (sOff_eq 0 c) rfl rfl) ?_
  exact chain_ret c _

end Cert.KernelIdeal.AR

end
-- ==== Proof.KernelIdeal.Init.lean ====
/-
# The buffers cut into the regions the body works on, and put together again
-/
module

public import proofs.«01_k».proof.Proof.KernelIdeal.Prelude

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## A buffer cut into regions -/

section Cut
variable {I : Type} [DecidableEq I] {R : ℕ} (N : ℕ) (hR : R = 64 * N) (T : Finset I) (l n j : I → ℕ)

theorem Reg_disj {i i' : I} (h : j i ≠ j i' ∨ l i + n i ≤ l i' ∨ l i' + n i' ≤ l i) :
    Disjoint (Reg (l i) (n i) (j i) : Finset (Sh R).Idx) (Reg (l i') (n i') (j i')) := by
  rw [Finset.disjoint_left]; intro x; rw [mem_Reg, mem_Reg]; omega

include hR in
theorem Reg_cover (hcov : ∀ (r : Fin N) (k : Fin 4), ∃ i ∈ T, l i ≤ r.val ∧ r.val < l i + n i ∧ j i = k.val) :
    (T.biUnion fun i => (Reg (l i) (n i) (j i) : Finset (Sh R).Idx)) = Finset.univ := by
  refine Finset.eq_univ_of_forall fun x => ?_
  have h0 := row_lt x
  have h1 := col_lt x
  obtain ⟨i, hi, ha, hb, hc⟩ := hcov ⟨(x 0).val / 64, by omega⟩ ⟨(x 1).val / 256, by omega⟩
  refine Finset.mem_biUnion.mpr ⟨i, hi, mem_Reg.mpr ?_⟩
  dsimp only at ha hb hc
  rw [hc]; omega

end Cut

theorem bs_disjSum {I J : Type} [DecidableEq I] [DecidableEq J] (s : Finset I) (t : Finset J) (Φ : I ⊕ J → sProp 𝕄) :
    bigSep (s.disjSum t) Φ = iprop(bigSep s (fun i => Φ (.inl i)) ∗ bigSep t fun j => Φ (.inr j)) := by
  rw [← Finset.map_inl_disjUnion_map_inr, Finset.disjUnion_eq_union, BI.bigSep_union, BI.bigSep_map, BI.bigSep_map]
  · rfl
  · rw [Finset.disjoint_left]; intro x hx hx'
    obtain ⟨a, -, rfl⟩ := Finset.mem_map.mp hx
    obtain ⟨b, -, hb⟩ := Finset.mem_map.mp hx'
    cases hb

/-! ## The landing buffer of the reducing phase -/

theorem r_disj : ∀ (c : Dev nD), ∀ i ∈ lt 16, ∀ i' ∈ lt 16, i ≠ i' → cb i ≠ cb i' ∨ dLo i c + hl (st i) ≤ dLo i' c ∨ dLo i' c + hl (st i') ≤ dLo i c := by decide +kernel
theorem r_cov : ∀ (c : Dev nD) (r : Fin 15) (k : Fin 4), ∃ i ∈ lt 16, dLo i c ≤ r.val ∧ r.val < dLo i c + hl (st i) ∧ cb i = k.val := by decide +kernel

theorem r_cut (f : S960x1024.Idx → Elt F .bf16) : rPts c Finset.univ fullShare f ⊢ bigSep (lt 16) fun i => dstAny (F := F) i c := by
  rw [← Reg_cover (R := 960) 15 rfl (lt 16) (fun i => dLo i c) (fun i => hl (st i)) cb (r_cov c)]
  refine (Entails.of_eq (pointsTo_biUnion (ℓ := rM.view.loc (c : Thread nD τ)) _ _ fun i hi i' hi' h => Reg_disj (fun i => dLo i c) (fun i => hl (st i)) cb (r_disj c i hi i' hi' h))).trans (bs_mono fun i hi => ?_)
  unfold dstAny; rw [if_pos (Finset.mem_filter.mp hi).2]
  iintro H; iexists f; iexact H

theorem r_join : (bigSep (lt 16) fun i => dstPay m i c) ⊢ iprop(∃ f, rPts (F := F) c Finset.univ fullShare f) := by
  refine (bs_mono (Ψ := fun i => rPts c (Reg (dLo i c) (hl (st i)) (cb i)) fullShare (land m i c)) fun i hi => by
    unfold dstPay; rw [if_pos (Finset.mem_filter.mp hi).2]).trans ?_
  refine (pointsTo_biUnion_join (ℓ := rM.view.loc (c : Thread nD τ)) (lt 16) (fun i => (Reg (dLo i c) (hl (st i)) (cb i) : Finset (Sh 960).Idx)) (fun i => land m i c) (land m 0 c)
    fun i hi i' hi' h => Reg_disj (fun i => dLo i c) (fun i => hl (st i)) cb (r_disj c i hi i' hi' h)).trans ?_
  rw [Reg_cover (R := 960) 15 rfl (lt 16) (fun i => dLo i c) (fun i => hl (st i)) cb (r_cov c)]
  iintro ⟨%g, -, H⟩
  iexists g; iexact H

/-! ## The accumulating buffer -/

theorem c_disj (j j' : Fin 4) (h : j ≠ j') : Disjoint (kreg 0 j.val c) (kreg 0 j'.val c) :=
  Reg_disj (fun j : Fin 4 => lo 0 j.val c) (fun _ => 16 / 2 ^ 0) (fun j => j.val) (.inl fun e => h (Fin.ext e))

theorem c_cover : (Finset.univ.biUnion fun j : Fin 4 => kreg 0 j.val c) = Finset.univ :=
  Reg_cover (R := 1024) 16 rfl Finset.univ (fun j : Fin 4 => lo 0 j.val c) (fun _ => 16 / 2 ^ 0) (fun j => j.val)
    fun r k => ⟨k, Finset.mem_univ _, Nat.zero_le _, by show r.val < 0 + 16; omega, rfl⟩

theorem c_cut : cPts c Finset.univ fullShare (part m c) ⊢ bigSep Finset.univ fun j : Fin 4 => accSt m c (sd j.val 0) (ac j.val 0) j := by
  rw [← c_cover c]
  refine (Entails.of_eq (pointsTo_biUnion (ℓ := cM.view.loc (c : Thread nD τ)) _ _ fun j _ j' _ h => c_disj c j j' h)).trans (bs_mono fun j _ => ?_)
  unfold accSt
  rw [(by decide : ∀ j : Fin 4, sd j.val 0 = 0) j, (by decide : ∀ j : Fin 4, ac j.val 0 = 0) j]
  exact BI.Entails.refl _

/-- The four chunks kept and what was sent, by index. -/
def cLo : Fin 4 ⊕ Fin 32 → ℕ
  | .inl j => lo 4 j.val c
  | .inr i => sLo i c
def cN : Fin 4 ⊕ Fin 32 → ℕ
  | .inl _ => 16 / 2 ^ 4
  | .inr i => hl (st i)
def cJ : Fin 4 ⊕ Fin 32 → ℕ
  | .inl j => j.val
  | .inr i => cb i

theorem cs_disj : ∀ (c : Dev nD), ∀ i ∈ Finset.univ.disjSum (lt 16), ∀ i' ∈ Finset.univ.disjSum (lt 16), i ≠ i' → cJ i ≠ cJ i' ∨ cLo c i + cN i ≤ cLo c i' ∨ cLo c i' + cN i' ≤ cLo c i := by
  decide +kernel
theorem cs_cov : ∀ (c : Dev nD) (r : Fin 16) (k : Fin 4), ∃ i ∈ Finset.univ.disjSum (lt 16), cLo c i ≤ r.val ∧ r.val < cLo c i + cN i ∧ cJ i = k.val := by
  decide +kernel

theorem c_join : iprop((bigSep Finset.univ fun j : Fin 4 => accSt m c (sd j.val 32) (ac j.val 16) j) ∗ bigSep (lt 16) fun i => srcPay m i c)
    ⊢ iprop(∃ f, cPts (F := F) c Finset.univ fullShare f) := by
  refine (Entails.of_eq (bs_disjSum Finset.univ (lt 16) (fun x : Fin 4 ⊕ Fin 32 => match x with
    | .inl j => accSt m c (sd j.val 32) (ac j.val 16) j | .inr i => srcPay m i c)).symm).trans ?_
  refine (bs_mono (Ψ := fun x => cPts c (Reg (cLo c x) (cN x) (cJ x)) fullShare (match x with
    | .inl j => acc m j.val (ac j.val 16) c | .inr i => acc m (cb i) (st i) c)) fun x hx => ?_).trans ?_
  · match x, hx with
    | .inl j, _ =>
      show accSt m c _ _ _ ⊢ _
      unfold accSt; rw [(by decide : ∀ j : Fin 4, sd j.val 32 = 4) j]; exact BI.Entails.refl _
    | .inr i, hx =>
      have hi : i.val < 16 := (Finset.mem_filter.mp (Finset.inr_mem_disjSum.mp hx)).2
      show srcPay m i c ⊢ _
      unfold srcPay; rw [if_pos hi]; exact BI.Entails.refl _
  refine (pointsTo_biUnion_join (ℓ := cM.view.loc (c : Thread nD τ)) (Finset.univ.disjSum (lt 16)) (fun i => (Reg (cLo c i) (cN i) (cJ i) : Finset (Sh 1024).Idx)) _ (part m c)
    fun i hi i' hi' h => Reg_disj (cLo c) cN cJ (cs_disj c i hi i' hi' h)).trans ?_
  rw [Reg_cover (R := 1024) 16 rfl _ (cLo c) cN cJ (cs_cov c)]
  iintro ⟨%g, -, H⟩
  iexists g; iexact H

/-! ## The gathering buffer -/

def gLo : Fin 4 ⊕ Fin 32 → ℕ
  | .inl j => lo 4 j.val c
  | .inr i => dLo i c

theorem gs_disj : ∀ (c : Dev nD), ∀ i ∈ Finset.univ.disjSum (ge 16), ∀ i' ∈ Finset.univ.disjSum (ge 16), i ≠ i' → cJ i ≠ cJ i' ∨ gLo c i + cN i ≤ gLo c i' ∨ gLo c i' + cN i' ≤ gLo c i := by
  decide +kernel
theorem gs_cov : ∀ (c : Dev nD) (r : Fin 16) (k : Fin 4), ∃ i ∈ Finset.univ.disjSum (ge 16), gLo c i ≤ r.val ∧ r.val < gLo c i + cN i ∧ cJ i = k.val := by
  decide +kernel

theorem g_cut (f : S1024x1024.Idx → Elt F .bf16) : gPts c Finset.univ fullShare f
    ⊢ iprop((bigSep Finset.univ fun j : Fin 4 => agSt m c (j.val < 0) (ag j.val 0) (ag j.val 0) j) ∗ bigSep (ge 16) fun i => dstAny (F := F) i c) := by
  rw [← Reg_cover (R := 1024) 16 rfl _ (gLo c) cN cJ (gs_cov c)]
  refine (Entails.of_eq (pointsTo_biUnion (ℓ := gM.view.loc (c : Thread nD τ)) _ _ fun i hi i' hi' h => Reg_disj (gLo c) cN cJ (gs_disj c i hi i' hi' h))).trans ?_
  refine (bs_mono (Ψ := fun x => match x with
    | .inl j => agSt m c (j.val < 0) (ag j.val 0) (ag j.val 0) j | .inr i => dstAny (F := F) i c) fun x hx => ?_).trans (Entails.of_eq (bs_disjSum _ _ _))
  match x, hx with
  | .inl j, _ =>
    show _ ⊢ agSt m c _ _ _ _
    unfold agSt; rw [if_neg (Nat.not_lt_zero _)]
    iintro H; iexists f; iexact H
  | .inr i, hx =>
    have hi : 16 ≤ i.val := (Finset.mem_filter.mp (Finset.inr_mem_disjSum.mp hx)).2
    show _ ⊢ dstAny i c
    unfold dstAny; rw [if_neg (by omega)]
    iintro H; iexists f; iexact H

/-- The gathering transfers, by turn and column block. -/
def gIdx (p : Fin 4 × Fin 4) : Fin 32 := ⟨16 + 4 * p.2.val + p.1.val, by have := p.1.isLt; have := p.2.isLt; omega⟩
theorem gIdx_inj : Function.Injective gIdx := by decide
theorem gIdx_image : ge 16 = Finset.univ.map ⟨gIdx, gIdx_inj⟩ := by decide +kernel
theorem gIdx_cb : ∀ j v : Fin 4, cb (gIdx (j, v)) = j.val ∧ (gIdx (j, v)).val / 4 - 4 = v.val := by decide

theorem g_turn (j v : Fin 4) : iprop((gPts c (if v.val < 4 then greg 4 j.val c \ greg v.val j.val c else greg 4 j.val c) (shareTokN fullShare v.val) (red m))
    ∗ srcPay m (gIdx (j, v)) c) ⊢ gPts c (kreg 0 j.val c) (shareTok fullShare 4 v) (red m) := by
  rw [if_pos v.isLt]
  unfold srcPay
  obtain ⟨e1, e2⟩ := gIdx_cb j v
  have h16 : 16 ≤ (gIdx (j, v)).val := by unfold gIdx; dsimp only; omega
  rw [if_neg (by omega), src_greg _ c h16, e1, e2]
  have hsub : greg v.val j.val c ⊆ greg 4 j.val c := greg_mono _ _ 4 v.val (by omega) (by omega)
  exact sep_comm.1.trans (pointsTo_split_subset (ℓ := gM.view.loc (c : Thread nD τ)) hsub).2

theorem g_join : iprop((bigSep Finset.univ fun j : Fin 4 => agSt m c (j.val < 4) (ag j.val 32) (ag j.val 32) j) ∗ bigSep (ge 16) fun i => srcPay m i c)
    ⊢ gPts c Finset.univ fullShare (red m) := by
  rw [gIdx_image, BI.bigSep_map, BI.bigSep_univ_prod]
  refine (Entails.of_eq (bigSep_sep' Finset.univ _ _).symm).trans ?_
  rw [← c_cover c]
  refine (bs_mono fun j _ => ?_).trans (Entails.of_eq (pointsTo_biUnion (ℓ := gM.view.loc (c : Thread nD τ)) _ _ fun j _ j' _ h => c_disj c j j' h).symm)
  unfold agSt; rw [if_pos j.isLt, (by decide : ∀ j : Fin 4, ag j.val 32 = 4) j]
  iintro ⟨⟨Hd, Ht⟩, Hs⟩
  ihave H := (Entails.of_eq (bigSep_sep' (Finset.univ : Finset (Fin 4)) _ _).symm) $$ [Ht Hs]
  · isplitl [Ht]; · iexact Ht
    iexact Hs
  iapply (pointsTo_toks (ℓ := gM.view.loc (c : Thread nD τ)) fullShare 4).2
  isplitl [Hd]; · iexact Hd
  ihave H := (bs_mono (Ψ := fun v : Fin 4 => gPts c (kreg 0 j.val c) (shareTok fullShare 4 v) (red m)) fun v _ => g_turn m c j v) $$ H
  iexact H

/-! ## What the handshake hands over -/

def invF (i : Fin 32) : Fin 4 := ⟨inv i, mk_lt _ _⟩
theorem invF_image : Finset.univ.image invF = Finset.univ := by decide +kernel
theorem across_eq (b : Fin 4) : across b = Finset.univ.filter fun i => invF i = b := by
  unfold across; exact Finset.filter_congr fun i _ => by rw [Fin.ext_iff]; exact Iff.rfl

/-- The four neighbours' landing regions are the regions this device sends into. -/
theorem bar_regions : (bigSep Finset.univ fun b : Fin 4 => barPay (F := F) b c) = bigSep Finset.univ fun i : Fin 32 => dstAny i (pk i c) := by
  rw [BI.bigSep_fiberwise Finset.univ invF, invF_image]
  refine BI.bigSep_congr fun b _ => ?_
  unfold barPay; rw [across_eq]
  refine BI.bigSep_congr fun i hi => ?_
  rw [← (Finset.mem_filter.mp hi).2]; rfl

/-- A device's landing regions, by the neighbours they are for. -/
theorem regions_bar : (bigSep Finset.univ fun i : Fin 32 => dstAny (F := F) i c) = bigSep Finset.univ fun b : Fin 4 => barPay b (prt b.val c) := by
  rw [BI.bigSep_fiberwise Finset.univ invF, invF_image]
  refine BI.bigSep_congr fun b _ => ?_
  unfold barPay; rw [across_eq, prt_prt b.val b.isLt]

end Cert.KernelIdeal.AR

end
-- ==== Proof.KernelIdeal.PartsA.lean ====
/-
# The reducing phase, part by part
-/
module

public import proofs.«01_k».proof.Proof.KernelIdeal.Sites

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

variable (x0 : Memref sig .tc .hbm S1024x4096 .f32) (h0 : x0.IsWhole) (x1 : Memref sig .tc .hbm S1024x4096 .f32) (h1 : x1.IsWhole)
  (h2 : oM.IsWhole) (x3 : Memref sig .tc .vmem S1024x512 .f32) (h3 : x3.IsWhole) (x4 : Memref sig .tc .vmem S1024x512 .f32) (h4 : x4.IsWhole)
  (h5 : cM.IsWhole) (h6 : rM.IsWhole) (h7 : gM.IsWhole) (x8 : DmaSems sig S2)

theorem part4_run {Q : (Σ' (v102 : BitVec 32), BitVec 32) → sProp 𝕄} (v2 : BitVec 32) (v5 : BitVec 32) (v8 : BitVec 32) (v20 : BitVec 32) (v21 : BitVec 32) (v63 : BitVec 32) (v64 : BitVec 32) :
    St m K c 1 0 0 0 0 0 ⊢ iprop((∀ r, St m K c 3 0 0 0 0 0 -∗ Q r) -∗ run c (k0_part4 x0 h0 x1 h1 oM h2 x3 h3 x4 h4 cM h5 rM h6 gM h7 x8 cc0_scratch6 cc0_scratch7 c v2 v5 v8 v20 v21 v63 v64) Q) := by
  simp only [k0_part4_eq_skeleton]; unfold k0_part4_skel
  simp only [Prog.lift, Prog.bind_op, Prog.bind_ret, Prog.pure_eq_ret]
  refine chain0 ?_
  refine chain (send_rs m K c 1 rfl rfl (by decide) (by decide) (by decide) (devs_eq 1 c) rfl rfl (sOff_eq 1 c) rfl rfl) ?_
  refine chain (send_rs m K c 2 rfl rfl (by decide) (by decide) (by decide) (devs_eq 2 c) rfl rfl (sOff_eq 2 c) rfl rfl) ?_
  exact chain_ret c _

theorem part5_run {Q : (Σ' (v147 : BitVec 32), Vec F S512x256 .bf16) → sProp 𝕄} (v2 : BitVec 32) (v5 : BitVec 32) (v8 : BitVec 32) (v19 : BitVec 32) (v22 : BitVec 32) (v64 : BitVec 32) (v66 : BitVec 32) :
    St m K c 3 0 0 0 0 0 ⊢ iprop((∀ r, ⌜r.2 = sec S512x256.size (lo 1 0 c) 0 (acc m 0 0 c)⌝ -∗ St m K c 4 1 0 0 0 0 -∗ Q r) -∗ run c (k0_part5 x0 h0 x1 h1 oM h2 x3 h3 x4 h4 cM h5 rM h6 gM h7 x8 cc0_scratch6 cc0_scratch7 c v2 v5 v8 v19 v22 v64 v66) Q) := by
  simp only [k0_part5_eq_skeleton]; unfold k0_part5_skel
  simp only [Prog.lift, Prog.bind_op, Prog.bind_ret, Prog.pure_eq_ret]
  refine chain0 ?_
  refine chain (send_rs m K c 3 rfl rfl (by decide) (by decide) (by decide) (devs_eq 3 c) rfl rfl (sOff_eq 3 c) rfl rfl) ?_
  refine chain (recv_step m K c 0 rfl rfl rfl rfl (by decide) (by decide)) ?_
  refine chain (load_acc m K c 0 1 0 (by decide) (by decide) (aOff_eq 0 c) rfl) ?_
  exact chain_ret_fact c rfl

theorem part6_run {Q : (BitVec 32) → sProp 𝕄} (v2 : BitVec 32) (v5 : BitVec 32) (v8 : BitVec 32) (v20 : BitVec 32) (v66 : BitVec 32) (v147 : BitVec 32) (v149 : Vec F S512x256 .bf16) (hv : v149 = sec S512x256.size (lo 1 0 c) 0 (acc m 0 0 c)) :
    St m K c 4 1 0 0 0 0 ⊢ iprop((∀ r, St m K c 5 1 1 0 0 0 -∗ Q r) -∗ run c (k0_part6 x0 h0 x1 h1 oM h2 x3 h3 x4 h4 cM h5 rM h6 gM h7 x8 cc0_scratch6 cc0_scratch7 c v2 v5 v8 v20 v66 v147 v149) Q) := by
  subst hv
  simp only [k0_part6_eq_skeleton]; unfold k0_part6_skel
  simp only [Prog.lift, Prog.bind_op, Prog.bind_ret, Prog.pure_eq_ret]
  refine chain0 ?_
  refine chain (load_land m K c 0 (by decide) (by decide) rfl rfl) ?_
  refine chain (load_acc m K c 0 1 0 (by decide) (by decide) (aOff_eq 0 c) rfl) ?_
  refine chain (store_acc m K c 0 rfl rfl (by decide) (by decide) (aOff_eq 0 c) rfl (sum_eq m c 0 (by decide) rfl _)) ?_
  refine chain (send_rs m K c 4 rfl rfl (by decide) (by decide) (by decide) (devs_eq 4 c) rfl rfl (sOff_eq 4 c) rfl rfl) ?_
  exact chain_ret c _

theorem part7_run {Q : (Σ' (v194 : BitVec 32), BitVec 32) → sProp 𝕄} (v2 : BitVec 32) (v5 : BitVec 32) (v21 : BitVec 32) (v63 : BitVec 32) (v84 : BitVec 32) :
    St m K c 5 1 1 0 0 0 ⊢ iprop((∀ r, St m K c 6 2 2 0 0 0 -∗ Q r) -∗ run c (k0_part7 x0 h0 x1 h1 oM h2 x3 h3 x4 h4 cM h5 rM h6 gM h7 x8 cc0_scratch6 cc0_scratch7 c v2 v5 v21 v63 v84) Q) := by
  simp only [k0_part7_eq_skeleton]; unfold k0_part7_skel
  simp only [Prog.lift, Prog.bind_op, Prog.bind_ret, Prog.pure_eq_ret]
  refine chain0 ?_
  refine chain (recv_step m K c 1 rfl rfl rfl rfl (by decide) (by decide)) ?_
  refine chain (load_acc m K c 1 1 0 (by decide) (by decide) (aOff_eq 1 c) rfl) ?_
  refine chain (load_land m K c 1 (by decide) (by decide) rfl rfl) ?_
  refine chain (load_acc m K c 1 1 0 (by decide) (by decide) (aOff_eq 1 c) rfl) ?_
  refine chain (store_acc m K c 1 rfl rfl (by decide) (by decide) (aOff_eq 1 c) rfl (sum_eq m c 1 (by decide) rfl _)) ?_
  refine chain (send_rs m K c 5 rfl rfl (by decide) (by decide) (by decide) (devs_eq 5 c) rfl rfl (sOff_eq 5 c) rfl rfl) ?_
  exact chain_ret c _

theorem part8_run {Q : (BitVec 32) → sProp 𝕄} (v2 : BitVec 32) (v5 : BitVec 32) (v21 : BitVec 32) (v22 : BitVec 32) (v64 : BitVec 32) (v102 : BitVec 32) (v211 : BitVec 32) :
    St m K c 6 2 2 0 0 0 ⊢ iprop((∀ r, St m K c 6 3 3 0 0 0 -∗ Q r) -∗ run c (k0_part8 x0 h0 x1 h1 oM h2 x3 h3 x4 h4 cM h5 rM h6 gM h7 x8 cc0_scratch6 cc0_scratch7 c v2 v5 v21 v22 v64 v102 v211) Q) := by
  simp only [k0_part8_eq_skeleton]; unfold k0_part8_skel
  simp only [Prog.lift, Prog.bind_op, Prog.bind_ret, Prog.pure_eq_ret]
  refine chain0 ?_
  refine chain (recv_step m K c 2 rfl rfl rfl rfl (by decide) (by decide)) ?_
  refine chain (load_acc m K c 2 1 0 (by decide) (by decide) (aOff_eq 2 c) rfl) ?_
  refine chain (load_land m K c 2 (by decide) (by decide) rfl rfl) ?_
  refine chain (load_acc m K c 2 1 0 (by decide) (by decide) (aOff_eq 2 c) rfl) ?_
  refine chain (store_acc m K c 2 rfl rfl (by decide) (by decide) (aOff_eq 2 c) rfl (sum_eq m c 2 (by decide) rfl _)) ?_
  exact chain_ret c _

theorem part9_run {Q : (Σ' (v268 : BitVec 32), BitVec 32) → sProp 𝕄} (v2 : BitVec 32) (v5 : BitVec 32) (v19 : BitVec 32) (v22 : BitVec 32) (v120 : BitVec 32) :
    St m K c 6 3 3 0 0 0 ⊢ iprop((∀ r, St m K c 7 4 4 0 0 0 -∗ Q r) -∗ run c (k0_part9 x0 h0 x1 h1 oM h2 x3 h3 x4 h4 cM h5 rM h6 gM h7 x8 cc0_scratch6 cc0_scratch7 c v2 v5 v19 v22 v120) Q) := by
  simp only [k0_part9_eq_skeleton]; unfold k0_part9_skel
  simp only [Prog.lift, Prog.bind_op, Prog.bind_ret, Prog.pure_eq_ret]
  refine chain0 ?_
  refine chain (send_rs m K c 6 rfl rfl (by decide) (by decide) (by decide) (devs_eq 6 c) rfl rfl (sOff_eq 6 c) rfl rfl) ?_
  refine chain (recv_step m K c 3 rfl rfl rfl rfl (by decide) (by decide)) ?_
  refine chain (load_acc m K c 3 1 0 (by decide) (by decide) (aOff_eq 3 c) rfl) ?_
  refine chain (load_land m K c 3 (by decide) (by decide) rfl rfl) ?_
  refine chain (load_acc m K c 3 1 0 (by decide) (by decide) (aOff_eq 3 c) rfl) ?_
  refine chain (store_acc m K c 3 rfl rfl (by decide) (by decide) (aOff_eq 3 c) rfl (sum_eq m c 3 (by decide) rfl _)) ?_
  exact chain_ret c _

theorem part10_run {Q : (Σ' (v305 : BitVec 32), BitVec 32) → sProp 𝕄} (v2 : BitVec 32) (v5 : BitVec 32) (v8 : BitVec 32) (v20 : BitVec 32) (v63 : BitVec 32) (v157 : BitVec 32) (v274 : BitVec 32) :
    St m K c 7 4 4 0 0 0 ⊢ iprop((∀ r, St m K c 8 5 5 0 0 0 -∗ Q r) -∗ run c (k0_part10 x0 h0 x1 h1 oM h2 x3 h3 x4 h4 cM h5 rM h6 gM h7 x8 cc0_scratch6 cc0_scratch7 c v2 v5 v8 v20 v63 v157 v274) Q) := by
  simp only [k0_part10_eq_skeleton]; unfold k0_part10_skel
  simp only [Prog.lift, Prog.bind_op, Prog.bind_ret, Prog.pure_eq_ret]
  refine chain0 ?_
  refine chain (send_rs m K c 7 rfl rfl (by decide) (by decide) (by decide) (devs_eq 7 c) rfl rfl (sOff_eq 7 c) rfl rfl) ?_
  refine chain (recv_step m K c 4 rfl rfl rfl rfl (by decide) (by decide)) ?_
  refine chain (load_acc m K c 0 2 1 (by decide) (by decide) (aOff_eq 4 c) rfl) ?_
  refine chain (load_land m K c 4 (by decide) (by decide) rfl rfl) ?_
  refine chain (load_acc m K c 0 2 1 (by decide) (by decide) (aOff_eq 4 c) rfl) ?_
  refine chain (store_acc m K c 4 rfl rfl (by decide) (by decide) (aOff_eq 4 c) rfl (sum_eq m c 4 (by decide) rfl _)) ?_
  exact chain_ret c _

theorem part11_run {Q : (FVec F S256x256 .bf16) → sProp 𝕄} (v2 : BitVec 32) (v5 : BitVec 32) (v21 : BitVec 32) (v157 : BitVec 32) (v194 : BitVec 32) (v307 : BitVec 32) :
    St m K c 8 5 5 0 0 0 ⊢ iprop((∀ r, ⌜r = addf (F := F) (s := S256x256) (φ := .bf16) (sec S256x256.size (lo 2 1 c) 1 (acc m 1 1 c)) (sec S256x256.size 8 1 (land m 5 c))⌝ -∗ St m K c 9 6 5 0 0 0 -∗ Q r) -∗ run c (k0_part11 x0 h0 x1 h1 oM h2 x3 h3 x4 h4 cM h5 rM h6 gM h7 x8 cc0_scratch6 cc0_scratch7 c v2 v5 v21 v157 v194 v307) Q) := by
  simp only [k0_part11_eq_skeleton]; unfold k0_part11_skel
  simp only [Prog.lift, Prog.bind_op, Prog.bind_ret, Prog.pure_eq_ret]
  refine chain0 ?_
  refine chain (send_rs m K c 8 rfl rfl (by decide) (by decide) (by decide) (devs_eq 8 c) rfl rfl (sOff_eq 8 c) rfl rfl) ?_
  refine chain (recv_step m K c 5 rfl rfl rfl rfl (by decide) (by decide)) ?_
  refine chain (load_acc m K c 1 2 1 (by decide) (by decide) (aOff_eq 5 c) rfl) ?_
  refine chain (load_land m K c 5 (by decide) (by decide) rfl rfl) ?_
  exact chain_ret_fact c rfl

theorem part12_run {Q : (BitVec 32) → sProp 𝕄} (v2 : BitVec 32) (v5 : BitVec 32) (v22 : BitVec 32) (v64 : BitVec 32) (v194 : BitVec 32) (v336 : FVec F S256x256 .bf16) (hv : v336 = addf (F := F) (s := S256x256) (φ := .bf16) (sec S256x256.size (lo 2 1 c) 1 (acc m 1 1 c)) (sec S256x256.size 8 1 (land m 5 c))) :
    St m K c 9 6 5 0 0 0 ⊢ iprop((∀ r, St m K c 10 7 6 0 0 0 -∗ Q r) -∗ run c (k0_part12 x0 h0 x1 h1 oM h2 x3 h3 x4 h4 cM h5 rM h6 gM h7 x8 cc0_scratch6 cc0_scratch7 c v2 v5 v22 v64 v194 v336) Q) := by
  subst hv
  simp only [k0_part12_eq_skeleton]; unfold k0_part12_skel
  simp only [Prog.lift, Prog.bind_op, Prog.bind_ret, Prog.pure_eq_ret]
  refine chain0 ?_
  refine chain (load_acc m K c 1 2 1 (by decide) (by decide) (aOff_eq 5 c) rfl) ?_
  refine chain (store_acc m K c 5 rfl rfl (by decide) (by decide) (aOff_eq 5 c) rfl (sum_eq m c 5 (by decide) rfl _)) ?_
  refine chain (send_rs m K c 9 rfl rfl (by decide) (by decide) (by decide) (devs_eq 9 c) rfl rfl (sOff_eq 9 c) rfl rfl) ?_
  refine chain (recv_step m K c 6 rfl rfl rfl rfl (by decide) (by decide)) ?_
  exact chain_ret c _

theorem part13_run {Q : (Σ' (v379 : BitVec 32), BitVec 32) → sProp 𝕄} (v2 : BitVec 32) (v5 : BitVec 32) (v8 : BitVec 32) (v19 : BitVec 32) (v231 : BitVec 32) :
    St m K c 10 7 6 0 0 0 ⊢ iprop((∀ r, St m K c 11 7 7 0 0 0 -∗ Q r) -∗ run c (k0_part13 x0 h0 x1 h1 oM h2 x3 h3 x4 h4 cM h5 rM h6 gM h7 x8 cc0_scratch6 cc0_scratch7 c v2 v5 v8 v19 v231) Q) := by
  simp only [k0_part13_eq_skeleton]; unfold k0_part13_skel
  simp only [Prog.lift, Prog.bind_op, Prog.bind_ret, Prog.pure_eq_ret]
  refine chain0 ?_
  refine chain (load_acc m K c 2 2 1 (by decide) (by decide) (aOff_eq 6 c) rfl) ?_
  refine chain (load_land m K c 6 (by decide) (by decide) rfl rfl) ?_
  refine chain (load_acc m K c 2 2 1 (by decide) (by decide) (aOff_eq 6 c) rfl) ?_
  refine chain (store_acc m K c 6 rfl rfl (by decide) (by decide) (aOff_eq 6 c) rfl (sum_eq m c 6 (by decide) rfl _)) ?_
  refine chain (send_rs m K c 10 rfl rfl (by decide) (by decide) (by decide) (devs_eq 10 c) rfl rfl (sOff_eq 10 c) rfl rfl) ?_
  exact chain_ret c _

end Cert.KernelIdeal.AR

end
-- ==== Proof.KernelIdeal.PartsB.lean ====
/-
# From reducing to gathering, part by part
-/
module

public import proofs.«01_k».proof.Proof.KernelIdeal.Sites

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

variable (x0 : Memref sig .tc .hbm S1024x4096 .f32) (h0 : x0.IsWhole) (x1 : Memref sig .tc .hbm S1024x4096 .f32) (h1 : x1.IsWhole)
  (h2 : oM.IsWhole) (x3 : Memref sig .tc .vmem S1024x512 .f32) (h3 : x3.IsWhole) (x4 : Memref sig .tc .vmem S1024x512 .f32) (h4 : x4.IsWhole)
  (h5 : cM.IsWhole) (h6 : rM.IsWhole) (h7 : gM.IsWhole) (x8 : DmaSems sig S2)

theorem part14_run {Q : (BitVec 32) → sProp 𝕄} (v2 : BitVec 32) (v5 : BitVec 32) (v8 : BitVec 32) (v20 : BitVec 32) (v268 : BitVec 32) (v399 : BitVec 32) :
    St m K c 11 7 7 0 0 0 ⊢ iprop((∀ r, St m K c 12 8 8 0 0 0 -∗ Q r) -∗ run c (k0_part14 x0 h0 x1 h1 oM h2 x3 h3 x4 h4 cM h5 rM h6 gM h7 x8 cc0_scratch6 cc0_scratch7 c v2 v5 v8 v20 v268 v399) Q) := by
  simp only [k0_part14_eq_skeleton]; unfold k0_part14_skel
  simp only [Prog.lift, Prog.bind_op, Prog.bind_ret, Prog.pure_eq_ret]
  refine chain0 ?_
  refine chain (recv_step m K c 7 rfl rfl rfl rfl (by decide) (by decide)) ?_
  refine chain (load_acc m K c 3 2 1 (by decide) (by decide) (aOff_eq 7 c) rfl) ?_
  refine chain (load_land m K c 7 (by decide) (by decide) rfl rfl) ?_
  refine chain (load_acc m K c 3 2 1 (by decide) (by decide) (aOff_eq 7 c) rfl) ?_
  refine chain (store_acc m K c 7 rfl rfl (by decide) (by decide) (aOff_eq 7 c) rfl (sum_eq m c 7 (by decide) rfl _)) ?_
  refine chain (send_rs m K c 11 rfl rfl (by decide) (by decide) (by decide) (devs_eq 11 c) rfl rfl (sOff_eq 11 c) rfl rfl) ?_
  exact chain_ret c _

theorem part15_run {Q : (Σ' (v453 : BitVec 32) (v461 : BitVec 32), BitVec 32) → sProp 𝕄} (v2 : BitVec 32) (v5 : BitVec 32) (v21 : BitVec 32) (v22 : BitVec 32) (v64 : BitVec 32) (v305 : BitVec 32) :
    St m K c 12 8 8 0 0 0 ⊢ iprop((∀ r, St m K c 12 9 9 0 0 0 -∗ Q r) -∗ run c (k0_part15 x0 h0 x1 h1 oM h2 x3 h3 x4 h4 cM h5 rM h6 gM h7 x8 cc0_scratch6 cc0_scratch7 c v2 v5 v21 v22 v64 v305) Q) := by
  simp only [k0_part15_eq_skeleton]; unfold k0_part15_skel
  simp only [Prog.lift, Prog.bind_op, Prog.bind_ret, Prog.pure_eq_ret]
  refine chain0 ?_
  refine chain (recv_step m K c 8 rfl rfl rfl rfl (by decide) (by decide)) ?_
  refine chain (load_acc m K c 0 3 2 (by decide) (by decide) (aOff_eq 8 c) rfl) ?_
  refine chain (load_land m K c 8 (by decide) (by decide) rfl rfl) ?_
  refine chain (load_acc m K c 0 3 2 (by decide) (by decide) (aOff_eq 8 c) rfl) ?_
  refine chain (store_acc m K c 8 rfl rfl (by decide) (by decide) (aOff_eq 8 c) rfl (sum_eq m c 8 (by decide) rfl _)) ?_
  exact chain_ret c _

theorem part16_run {Q : (BitVec 32) → sProp 𝕄} (v2 : BitVec 32) (v5 : BitVec 32) (v22 : BitVec 32) (v342 : BitVec 32) (v461 : BitVec 32) (v462 : BitVec 32) :
    St m K c 12 9 9 0 0 0 ⊢ iprop((∀ r, St m K c 13 10 10 0 0 0 -∗ Q r) -∗ run c (k0_part16 x0 h0 x1 h1 oM h2 x3 h3 x4 h4 cM h5 rM h6 gM h7 x8 cc0_scratch6 cc0_scratch7 c v2 v5 v22 v342 v461 v462) Q) := by
  simp only [k0_part16_eq_skeleton]; unfold k0_part16_skel
  simp only [Prog.lift, Prog.bind_op, Prog.bind_ret, Prog.pure_eq_ret]
  refine chain0 ?_
  refine chain (send_rs m K c 12 rfl rfl (by decide) (by decide) (by decide) (devs_eq 12 c) rfl rfl (sOff_eq 12 c) rfl rfl) ?_
  refine chain (recv_step m K c 9 rfl rfl rfl rfl (by decide) (by decide)) ?_
  refine chain (load_acc m K c 1 3 2 (by decide) (by decide) (aOff_eq 9 c) rfl) ?_
  refine chain (load_land m K c 9 (by decide) (by decide) rfl rfl) ?_
  refine chain (load_acc m K c 1 3 2 (by decide) (by decide) (aOff_eq 9 c) rfl) ?_
  refine chain (store_acc m K c 9 rfl rfl (by decide) (by decide) (aOff_eq 9 c) rfl (sum_eq m c 9 (by decide) rfl _)) ?_
  exact chain_ret c _

theorem part17_run {Q : (BitVec 32) → sProp 𝕄} (v5 : BitVec 32) (v8 : BitVec 32) (v19 : BitVec 32) (v379 : BitVec 32) :
    St m K c 13 10 10 0 0 0 ⊢ iprop((∀ r, St m K c 14 11 11 0 0 0 -∗ Q r) -∗ run c (k0_part17 x0 h0 x1 h1 oM h2 x3 h3 x4 h4 cM h5 rM h6 gM h7 x8 cc0_scratch6 cc0_scratch7 c v5 v8 v19 v379) Q) := by
  simp only [k0_part17_eq_skeleton]; unfold k0_part17_skel
  simp only [Prog.lift, Prog.bind_op, Prog.bind_ret, Prog.pure_eq_ret]
  refine chain0 ?_
  refine chain (send_rs m K c 13 rfl rfl (by decide) (by decide) (by decide) (devs_eq 13 c) rfl rfl (sOff_eq 13 c) rfl rfl) ?_
  refine chain (recv_step m K c 10 rfl rfl rfl rfl (by decide) (by decide)) ?_
  refine chain (load_acc m K c 2 3 2 (by decide) (by decide) (aOff_eq 10 c) rfl) ?_
  refine chain (load_land m K c 10 (by decide) (by decide) rfl rfl) ?_
  refine chain (load_acc m K c 2 3 2 (by decide) (by decide) (aOff_eq 10 c) rfl) ?_
  refine chain (store_acc m K c 10 rfl rfl (by decide) (by decide) (aOff_eq 10 c) rfl (sum_eq m c 10 (by decide) rfl _)) ?_
  exact chain_ret c _

theorem part18_run {Q : (Σ' (v527 : BitVec 32) (v554 : BitVec 32), Vec F S128x256 .bf16) → sProp 𝕄} (v2 : BitVec 32) (v5 : BitVec 32) (v8 : BitVec 32) (v20 : BitVec 32) (v379 : BitVec 32) (v416 : BitVec 32) (c1_i32_429 : BitVec 32) :
    St m K c 14 11 11 0 0 0 ⊢ iprop((∀ r, ⌜r.2.2 = sec S128x256.size (lo 3 3 c) 3 (acc m 3 2 c)⌝ -∗ St m K c 15 12 11 0 0 0 -∗ Q r) -∗ run c (k0_part18 x0 h0 x1 h1 oM h2 x3 h3 x4 h4 cM h5 rM h6 gM h7 x8 cc0_scratch6 cc0_scratch7 c v2 v5 v8 v20 v379 v416 c1_i32_429) Q) := by
  simp only [k0_part18_eq_skeleton]; unfold k0_part18_skel
  simp only [Prog.lift, Prog.bind_op, Prog.bind_ret, Prog.pure_eq_ret]
  refine chain0 ?_
  refine chain (send_rs m K c 14 rfl rfl (by decide) (by decide) (by decide) (devs_eq 14 c) rfl rfl (sOff_eq 14 c) rfl rfl) ?_
  refine chain (recv_step m K c 11 rfl rfl rfl rfl (by decide) (by decide)) ?_
  refine chain (load_acc m K c 3 3 2 (by decide) (by decide) (aOff_eq 11 c) rfl) ?_
  exact chain_ret_fact c rfl

theorem part19_run {Q : (BitVec 32) → sProp 𝕄} (v2 : BitVec 32) (v5 : BitVec 32) (v21 : BitVec 32) (v22 : BitVec 32) (v63 : BitVec 32) (v416 : BitVec 32) (v554 : BitVec 32) (v556 : Vec F S128x256 .bf16) (hv : v556 = sec S128x256.size (lo 3 3 c) 3 (acc m 3 2 c)) :
    St m K c 15 12 11 0 0 0 ⊢ iprop((∀ r, St m K c 16 12 12 0 0 0 -∗ Q r) -∗ run c (k0_part19 x0 h0 x1 h1 oM h2 x3 h3 x4 h4 cM h5 rM h6 gM h7 x8 cc0_scratch6 cc0_scratch7 c v2 v5 v21 v22 v63 v416 v554 v556) Q) := by
  subst hv
  simp only [k0_part19_eq_skeleton]; unfold k0_part19_skel
  simp only [Prog.lift, Prog.bind_op, Prog.bind_ret, Prog.pure_eq_ret]
  refine chain0 ?_
  refine chain (load_land m K c 11 (by decide) (by decide) rfl rfl) ?_
  refine chain (load_acc m K c 3 3 2 (by decide) (by decide) (aOff_eq 11 c) rfl) ?_
  refine chain (store_acc m K c 11 rfl rfl (by decide) (by decide) (aOff_eq 11 c) rfl (sum_eq m c 11 (by decide) rfl _)) ?_
  refine chain (send_rs m K c 15 rfl rfl (by decide) (by decide) (by decide) (devs_eq 15 c) rfl rfl (sOff_eq 15 c) rfl rfl) ?_
  exact chain_ret c _

theorem part20_run {Q : (PUnit) → sProp 𝕄} (v2 : BitVec 32) (v5 : BitVec 32) (v22 : BitVec 32) (v453 : BitVec 32) :
    St m K c 16 12 12 0 0 0 ⊢ iprop((∀ r, St m K c 16 13 13 1 0 0 -∗ Q r) -∗ run c (k0_part20 x0 h0 x1 h1 oM h2 x3 h3 x4 h4 cM h5 rM h6 gM h7 x8 cc0_scratch6 cc0_scratch7 c v2 v5 v22 v453) Q) := by
  simp only [k0_part20_eq_skeleton]; unfold k0_part20_skel
  simp only [Prog.lift, Prog.bind_op, Prog.bind_ret, Prog.pure_eq_ret]
  refine chain0 ?_
  refine chain (recv_step m K c 12 rfl rfl rfl rfl (by decide) (by decide)) ?_
  refine chain (load_acc m K c 0 4 3 (by decide) (by decide) (aOff_eq 12 c) rfl) ?_
  refine chain (load_land m K c 12 (by decide) (by decide) rfl rfl) ?_
  refine chain (load_acc m K c 0 4 3 (by decide) (by decide) (aOff_eq 12 c) rfl) ?_
  refine chain (store_acc m K c 12 rfl rfl (by decide) (by decide) (aOff_eq 12 c) rfl (sum_eq m c 12 (by decide) rfl _)) ?_
  refine chain (load_acc m K c 0 4 4 (by decide) (by decide) (aOff_eq 12 c) rfl) ?_
  refine chainV (load_own m K c 0 (by decide) (aOff_eq 12 c) rfl) fun _ => ?_
  refine chain (store_own m K c 0 rfl rfl (by decide) (by decide) (aOff_eq 12 c) rfl (shapeCast_self _ _)) ?_
  exact chain_ret c _

theorem part21_run {Q : (BitVec 32) → sProp 𝕄} (v5 : BitVec 32) (v8 : BitVec 32) (v19 : BitVec 32) (v490 : BitVec 32) :
    St m K c 16 13 13 1 0 0 ⊢ iprop((∀ r, St m K c 17 14 14 2 0 0 -∗ Q r) -∗ run c (k0_part21 x0 h0 x1 h1 oM h2 x3 h3 x4 h4 cM h5 rM h6 gM h7 x8 cc0_scratch6 cc0_scratch7 c v5 v8 v19 v490) Q) := by
  simp only [k0_part21_eq_skeleton]; unfold k0_part21_skel
  simp only [Prog.lift, Prog.bind_op, Prog.bind_ret, Prog.pure_eq_ret]
  refine chain0 ?_
  refine chain (send_ag m K c 16 rfl rfl (by decide) (by decide) (by decide) (by decide) (devs_eq 16 c) rfl rfl (sOff_eq 16 c) rfl) ?_
  refine chain (recv_step m K c 13 rfl rfl rfl rfl (by decide) (by decide)) ?_
  refine chain (load_acc m K c 1 4 3 (by decide) (by decide) (aOff_eq 13 c) rfl) ?_
  refine chain (load_land m K c 13 (by decide) (by decide) rfl rfl) ?_
  refine chain (load_acc m K c 1 4 3 (by decide) (by decide) (aOff_eq 13 c) rfl) ?_
  refine chain (store_acc m K c 13 rfl rfl (by decide) (by decide) (aOff_eq 13 c) rfl (sum_eq m c 13 (by decide) rfl _)) ?_
  refine chain (load_acc m K c 1 4 4 (by decide) (by decide) (aOff_eq 13 c) rfl) ?_
  refine chainV (load_own m K c 1 (by decide) (aOff_eq 13 c) rfl) fun _ => ?_
  refine chain (store_own m K c 1 rfl rfl (by decide) (by decide) (aOff_eq 13 c) rfl (shapeCast_self _ _)) ?_
  exact chain_ret c _

theorem part22_run {Q : (Vec F S64x256 .bf16) → sProp 𝕄} (v2 : BitVec 32) (v5 : BitVec 32) (v8 : BitVec 32) (v19 : BitVec 32) (v20 : BitVec 32) (v527 : BitVec 32) (c8_i32_532 : BitVec 32) :
    St m K c 17 14 14 2 0 0 ⊢ iprop((∀ r, ⌜r = sec S64x256.size (lo 4 2 c) 2 (acc m 2 4 c)⌝ -∗ St m K c 18 15 15 2 0 0 -∗ Q r) -∗ run c (k0_part22 x0 h0 x1 h1 oM h2 x3 h3 x4 h4 cM h5 rM h6 gM h7 x8 cc0_scratch6 cc0_scratch7 c v2 v5 v8 v19 v20 v527 c8_i32_532) Q) := by
  simp only [k0_part22_eq_skeleton]; unfold k0_part22_skel
  simp only [Prog.lift, Prog.bind_op, Prog.bind_ret, Prog.pure_eq_ret]
  refine chain0 ?_
  refine chain (send_ag m K c 17 rfl rfl (by decide) (by decide) (by decide) (by decide) (devs_eq 17 c) rfl rfl (sOff_eq 17 c) rfl) ?_
  refine chain (recv_step m K c 14 rfl rfl rfl rfl (by decide) (by decide)) ?_
  refine chain (load_acc m K c 2 4 3 (by decide) (by decide) (aOff_eq 14 c) rfl) ?_
  refine chain (load_land m K c 14 (by decide) (by decide) rfl rfl) ?_
  refine chain (load_acc m K c 2 4 3 (by decide) (by decide) (aOff_eq 14 c) rfl) ?_
  refine chain (store_acc m K c 14 rfl rfl (by decide) (by decide) (aOff_eq 14 c) rfl (sum_eq m c 14 (by decide) rfl _)) ?_
  refine chain (load_acc m K c 2 4 4 (by decide) (by decide) (aOff_eq 14 c) rfl) ?_
  exact chain_ret_fact c rfl

theorem part23_run {Q : (BitVec 32) → sProp 𝕄} (v2 : BitVec 32) (v5 : BitVec 32) (v8 : BitVec 32) (v20 : BitVec 32) (v21 : BitVec 32) (v527 : BitVec 32) (v564 : BitVec 32) (v684 : Vec F S64x256 .bf16) (hv : v684 = sec S64x256.size (lo 4 2 c) 2 (acc m 2 4 c)) :
    St m K c 18 15 15 2 0 0 ⊢ iprop((∀ r, St m K c 19 16 15 3 0 0 -∗ Q r) -∗ run c (k0_part23 x0 h0 x1 h1 oM h2 x3 h3 x4 h4 cM h5 rM h6 gM h7 x8 cc0_scratch6 cc0_scratch7 c v2 v5 v8 v20 v21 v527 v564 v684) Q) := by
  subst hv
  simp only [k0_part23_eq_skeleton]; unfold k0_part23_skel
  simp only [Prog.lift, Prog.bind_op, Prog.bind_ret, Prog.pure_eq_ret]
  refine chain0 ?_
  refine chainV (load_own m K c 2 (by decide) (aOff_eq 14 c) rfl) fun _ => ?_
  refine chain (store_own m K c 2 rfl rfl (by decide) (by decide) (aOff_eq 14 c) rfl (shapeCast_self _ _)) ?_
  refine chain (send_ag m K c 18 rfl rfl (by decide) (by decide) (by decide) (by decide) (devs_eq 18 c) rfl rfl (sOff_eq 18 c) rfl) ?_
  refine chain (recv_step m K c 15 rfl rfl rfl rfl (by decide) (by decide)) ?_
  exact chain_ret c _

theorem part24_run {Q : (BitVec 32) → sProp 𝕄} (v2 : BitVec 32) (v5 : BitVec 32) (v21 : BitVec 32) (v564 : BitVec 32) (v714 : BitVec 32) :
    St m K c 19 16 15 3 0 0 ⊢ iprop((∀ r, St m K c 20 16 16 4 0 0 -∗ Q r) -∗ run c (k0_part24 x0 h0 x1 h1 oM h2 x3 h3 x4 h4 cM h5 rM h6 gM h7 x8 cc0_scratch6 cc0_scratch7 c v2 v5 v21 v564 v714) Q) := by
  simp only [k0_part24_eq_skeleton]; unfold k0_part24_skel
  simp only [Prog.lift, Prog.bind_op, Prog.bind_ret, Prog.pure_eq_ret]
  refine chain0 ?_
  refine chain (load_acc m K c 3 4 3 (by decide) (by decide) (aOff_eq 15 c) rfl) ?_
  refine chain (load_land m K c 15 (by decide) (by decide) rfl rfl) ?_
  refine chain (load_acc m K c 3 4 3 (by decide) (by decide) (aOff_eq 15 c) rfl) ?_
  refine chain (store_acc m K c 15 rfl rfl (by decide) (by decide) (aOff_eq 15 c) rfl (sum_eq m c 15 (by decide) rfl _)) ?_
  refine chain (load_acc m K c 3 4 4 (by decide) (by decide) (aOff_eq 15 c) rfl) ?_
  refine chainV (load_own m K c 3 (by decide) (aOff_eq 15 c) rfl) fun _ => ?_
  refine chain (store_own m K c 3 rfl rfl (by decide) (by decide) (aOff_eq 15 c) rfl (shapeCast_self _ _)) ?_
  refine chain (send_ag m K c 19 rfl rfl (by decide) (by decide) (by decide) (by decide) (devs_eq 19 c) rfl rfl (sOff_eq 19 c) rfl) ?_
  exact chain_ret c _

end Cert.KernelIdeal.AR

end
-- ==== Proof.KernelIdeal.PartsC.lean ====
/-
# The gathering phase, part by part
-/
module

public import proofs.«01_k».proof.Proof.KernelIdeal.Sites

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

variable (x0 : Memref sig .tc .hbm S1024x4096 .f32) (h0 : x0.IsWhole) (x1 : Memref sig .tc .hbm S1024x4096 .f32) (h1 : x1.IsWhole)
  (h2 : oM.IsWhole) (x3 : Memref sig .tc .vmem S1024x512 .f32) (h3 : x3.IsWhole) (x4 : Memref sig .tc .vmem S1024x512 .f32) (h4 : x4.IsWhole)
  (h5 : cM.IsWhole) (h6 : rM.IsWhole) (h7 : gM.IsWhole) (x8 : DmaSems sig S2)

theorem part25_run {Q : (BitVec 32) → sProp 𝕄} (v2 : BitVec 32) (v5 : BitVec 32) (v8 : BitVec 32) (v19 : BitVec 32) (v21 : BitVec 32) (v22 : BitVec 32) (v64 : BitVec 32) (v453 : BitVec 32) (v746 : BitVec 32) :
    St m K c 20 16 16 4 0 0 ⊢ iprop((∀ r, St m K c 21 17 16 4 0 0 -∗ Q r) -∗ run c (k0_part25 x0 h0 x1 h1 oM h2 x3 h3 x4 h4 cM h5 rM h6 gM h7 x8 cc0_scratch6 cc0_scratch7 c v2 v5 v8 v19 v21 v22 v64 v453 v746) Q) := by
  simp only [k0_part25_eq_skeleton]; unfold k0_part25_skel
  simp only [Prog.lift, Prog.bind_op, Prog.bind_ret, Prog.pure_eq_ret]
  refine chain0 ?_
  refine chain (recv_step m K c 16 rfl rfl rfl rfl (by decide) (by decide)) ?_
  refine chain (send_ag m K c 20 rfl rfl (by decide) (by decide) (by decide) (by decide) (devs_eq 20 c) rfl rfl (sOff_eq 20 c) rfl) ?_
  exact chain_ret c _

theorem part26_run {Q : (Σ' (v782 : BitVec 32), BitVec 32) → sProp 𝕄} (v2 : BitVec 32) (v5 : BitVec 32) (v8 : BitVec 32) (v20 : BitVec 32) (v22 : BitVec 32) (v490 : BitVec 32) (v527 : BitVec 32) :
    St m K c 21 17 16 4 0 0 ⊢ iprop((∀ r, St m K c 22 19 16 4 0 0 -∗ Q r) -∗ run c (k0_part26 x0 h0 x1 h1 oM h2 x3 h3 x4 h4 cM h5 rM h6 gM h7 x8 cc0_scratch6 cc0_scratch7 c v2 v5 v8 v20 v22 v490 v527) Q) := by
  simp only [k0_part26_eq_skeleton]; unfold k0_part26_skel
  simp only [Prog.lift, Prog.bind_op, Prog.bind_ret, Prog.pure_eq_ret]
  refine chain0 ?_
  refine chain (recv_step m K c 17 rfl rfl rfl rfl (by decide) (by decide)) ?_
  refine chain (send_ag m K c 21 rfl rfl (by decide) (by decide) (by decide) (by decide) (devs_eq 21 c) rfl rfl (sOff_eq 21 c) rfl) ?_
  refine chain (recv_step m K c 18 rfl rfl rfl rfl (by decide) (by decide)) ?_
  exact chain_ret c _

theorem part27_run {Q : (Σ' (v834 : BitVec 32) (v837 : BitVec 32), BitVec 32) → sProp 𝕄} (v2 : BitVec 32) (v5 : BitVec 32) (v8 : BitVec 32) (v19 : BitVec 32) (v21 : BitVec 32) (v63 : BitVec 32) (v564 : BitVec 32) (v808 : BitVec 32) :
    St m K c 22 19 16 4 0 0 ⊢ iprop((∀ r, St m K c 23 20 16 4 0 0 -∗ Q r) -∗ run c (k0_part27 x0 h0 x1 h1 oM h2 x3 h3 x4 h4 cM h5 rM h6 gM h7 x8 cc0_scratch6 cc0_scratch7 c v2 v5 v8 v19 v21 v63 v564 v808) Q) := by
  simp only [k0_part27_eq_skeleton]; unfold k0_part27_skel
  simp only [Prog.lift, Prog.bind_op, Prog.bind_ret, Prog.pure_eq_ret]
  refine chain0 ?_
  refine chain (send_ag m K c 22 rfl rfl (by decide) (by decide) (by decide) (by decide) (devs_eq 22 c) rfl rfl (sOff_eq 22 c) rfl) ?_
  refine chain (recv_step m K c 19 rfl rfl rfl rfl (by decide) (by decide)) ?_
  exact chain_ret c _

theorem part28_run {Q : (BitVec 32) → sProp 𝕄} (v2 : BitVec 32) (v5 : BitVec 32) (v8 : BitVec 32) (v20 : BitVec 32) (v21 : BitVec 32) (v63 : BitVec 32) (v756 : BitVec 32) (v837 : BitVec 32) (c0_i32_688 : BitVec 32) :
    St m K c 23 20 16 4 0 0 ⊢ iprop((∀ r, St m K c 24 21 16 4 0 0 -∗ Q r) -∗ run c (k0_part28 x0 h0 x1 h1 oM h2 x3 h3 x4 h4 cM h5 rM h6 gM h7 x8 cc0_scratch6 cc0_scratch7 c v2 v5 v8 v20 v21 v63 v756 v837 c0_i32_688) Q) := by
  simp only [k0_part28_eq_skeleton]; unfold k0_part28_skel
  simp only [Prog.lift, Prog.bind_op, Prog.bind_ret, Prog.pure_eq_ret]
  refine chain0 ?_
  refine chain (send_ag m K c 23 rfl rfl (by decide) (by decide) (by decide) (by decide) (devs_eq 23 c) rfl rfl (sOff_eq 23 c) rfl) ?_
  refine chain (recv_step m K c 20 rfl rfl rfl rfl (by decide) (by decide)) ?_
  exact chain_ret c _

theorem part29_run {Q : (BitVec 32) → sProp 𝕄} (v2 : BitVec 32) (v5 : BitVec 32) (v21 : BitVec 32) (v22 : BitVec 32) (v64 : BitVec 32) (v782 : BitVec 32) :
    St m K c 24 21 16 4 0 0 ⊢ iprop((∀ r, St m K c 26 22 16 4 0 0 -∗ Q r) -∗ run c (k0_part29 x0 h0 x1 h1 oM h2 x3 h3 x4 h4 cM h5 rM h6 gM h7 x8 cc0_scratch6 cc0_scratch7 c v2 v5 v21 v22 v64 v782) Q) := by
  simp only [k0_part29_eq_skeleton]; unfold k0_part29_skel
  simp only [Prog.lift, Prog.bind_op, Prog.bind_ret, Prog.pure_eq_ret]
  refine chain0 ?_
  refine chain (send_ag m K c 24 rfl rfl (by decide) (by decide) (by decide) (by decide) (devs_eq 24 c) rfl rfl (sOff_eq 24 c) rfl) ?_
  refine chain (recv_step m K c 21 rfl rfl rfl rfl (by decide) (by decide)) ?_
  refine chain (send_ag m K c 25 rfl rfl (by decide) (by decide) (by decide) (by decide) (devs_eq 25 c) rfl rfl (sOff_eq 25 c) rfl) ?_
  exact chain_ret c _

theorem part30_run {Q : (Σ' (v912 : BitVec 32), BitVec 32) → sProp 𝕄} (v2 : BitVec 32) (v5 : BitVec 32) (v8 : BitVec 32) (v19 : BitVec 32) (v20 : BitVec 32) (v22 : BitVec 32) (v808 : BitVec 32) :
    St m K c 26 22 16 4 0 0 ⊢ iprop((∀ r, St m K c 27 23 16 4 0 0 -∗ Q r) -∗ run c (k0_part30 x0 h0 x1 h1 oM h2 x3 h3 x4 h4 cM h5 rM h6 gM h7 x8 cc0_scratch6 cc0_scratch7 c v2 v5 v8 v19 v20 v22 v808) Q) := by
  simp only [k0_part30_eq_skeleton]; unfold k0_part30_skel
  simp only [Prog.lift, Prog.bind_op, Prog.bind_ret, Prog.pure_eq_ret]
  refine chain0 ?_
  refine chain (recv_step m K c 22 rfl rfl rfl rfl (by decide) (by decide)) ?_
  refine chain (send_ag m K c 26 rfl rfl (by decide) (by decide) (by decide) (by decide) (devs_eq 26 c) rfl rfl (sOff_eq 26 c) rfl) ?_
  exact chain_ret c _

theorem part31_run {Q : (BitVec 32) → sProp 𝕄} (v2 : BitVec 32) (v5 : BitVec 32) (v8 : BitVec 32) (v19 : BitVec 32) (v20 : BitVec 32) (v834 : BitVec 32) (v930 : BitVec 32) :
    St m K c 27 23 16 4 0 0 ⊢ iprop((∀ r, St m K c 28 24 16 4 0 0 -∗ Q r) -∗ run c (k0_part31 x0 h0 x1 h1 oM h2 x3 h3 x4 h4 cM h5 rM h6 gM h7 x8 cc0_scratch6 cc0_scratch7 c v2 v5 v8 v19 v20 v834 v930) Q) := by
  simp only [k0_part31_eq_skeleton]; unfold k0_part31_skel
  simp only [Prog.lift, Prog.bind_op, Prog.bind_ret, Prog.pure_eq_ret]
  refine chain0 ?_
  refine chain (recv_step m K c 23 rfl rfl rfl rfl (by decide) (by decide)) ?_
  refine chain (send_ag m K c 27 rfl rfl (by decide) (by decide) (by decide) (by decide) (devs_eq 27 c) rfl rfl (sOff_eq 27 c) rfl) ?_
  exact chain_ret c _

theorem part32_run {Q : (PUnit) → sProp 𝕄} (v2 : BitVec 32) (v5 : BitVec 32) (v8 : BitVec 32) (v19 : BitVec 32) (v21 : BitVec 32) (v63 : BitVec 32) (v860 : BitVec 32) (v886 : BitVec 32) :
    St m K c 28 24 16 4 0 0 ⊢ iprop((∀ r, St m K c 29 26 16 4 0 0 -∗ Q r) -∗ run c (k0_part32 x0 h0 x1 h1 oM h2 x3 h3 x4 h4 cM h5 rM h6 gM h7 x8 cc0_scratch6 cc0_scratch7 c v2 v5 v8 v19 v21 v63 v860 v886) Q) := by
  simp only [k0_part32_eq_skeleton]; unfold k0_part32_skel
  simp only [Prog.lift, Prog.bind_op, Prog.bind_ret, Prog.pure_eq_ret]
  refine chain0 ?_
  refine chain (recv_step m K c 24 rfl rfl rfl rfl (by decide) (by decide)) ?_
  refine chain (send_ag m K c 28 rfl rfl (by decide) (by decide) (by decide) (by decide) (devs_eq 28 c) rfl rfl (sOff_eq 28 c) rfl) ?_
  refine chain (recv_step m K c 25 rfl rfl rfl rfl (by decide) (by decide)) ?_
  exact chain_ret c _

theorem part33_run {Q : (Σ' (v1020 : BitVec 32), BitVec 32) → sProp 𝕄} (v2 : BitVec 32) (v5 : BitVec 32) (v8 : BitVec 32) (v20 : BitVec 32) (v22 : BitVec 32) (v64 : BitVec 32) (v912 : BitVec 32) :
    St m K c 29 26 16 4 0 0 ⊢ iprop((∀ r, St m K c 30 27 16 4 0 0 -∗ Q r) -∗ run c (k0_part33 x0 h0 x1 h1 oM h2 x3 h3 x4 h4 cM h5 rM h6 gM h7 x8 cc0_scratch6 cc0_scratch7 c v2 v5 v8 v20 v22 v64 v912) Q) := by
  simp only [k0_part33_eq_skeleton]; unfold k0_part33_skel
  simp only [Prog.lift, Prog.bind_op, Prog.bind_ret, Prog.pure_eq_ret]
  refine chain0 ?_
  refine chain (send_ag m K c 29 rfl rfl (by decide) (by decide) (by decide) (by decide) (devs_eq 29 c) rfl rfl (sOff_eq 29 c) rfl) ?_
  refine chain (recv_step m K c 26 rfl rfl rfl rfl (by decide) (by decide)) ?_
  exact chain_ret c _

theorem part34_run {Q : (PUnit) → sProp 𝕄} (v2 : BitVec 32) (v5 : BitVec 32) (v8 : BitVec 32) (v19 : BitVec 32) (v21 : BitVec 32) (v22 : BitVec 32) (v938 : BitVec 32) (v1020 : BitVec 32) (v1021 : BitVec 32) :
    St m K c 30 27 16 4 0 0 ⊢ iprop((∀ r, St m K c 31 28 16 4 0 0 -∗ Q r) -∗ run c (k0_part34 x0 h0 x1 h1 oM h2 x3 h3 x4 h4 cM h5 rM h6 gM h7 x8 cc0_scratch6 cc0_scratch7 c v2 v5 v8 v19 v21 v22 v938 v1020 v1021) Q) := by
  simp only [k0_part34_eq_skeleton]; unfold k0_part34_skel
  simp only [Prog.lift, Prog.bind_op, Prog.bind_ret, Prog.pure_eq_ret]
  refine chain0 ?_
  refine chain (send_ag m K c 30 rfl rfl (by decide) (by decide) (by decide) (by decide) (devs_eq 30 c) rfl rfl (sOff_eq 30 c) rfl) ?_
  refine chain (recv_step m K c 27 rfl rfl rfl rfl (by decide) (by decide)) ?_
  exact chain_ret c _

theorem part35_run {Q : (FVec F S1024x256 .f32) → sProp 𝕄} (v2 : BitVec 32) (v5 : BitVec 32) (v8 : BitVec 32) (v19 : BitVec 32) (v20 : BitVec 32) :
    St m K c 31 28 16 4 0 0 ⊢ iprop((∀ r, ⌜r = sec S1024x256.size 0 1 (outV m)⌝ -∗ St m K c 32 30 16 4 1 0 -∗ Q r) -∗ run c (k0_part35 x0 h0 x1 h1 oM h2 x3 h3 x4 h4 cM h5 rM h6 gM h7 x8 cc0_scratch6 cc0_scratch7 c v2 v5 v8 v19 v20) Q) := by
  simp only [k0_part35_eq_skeleton]; unfold k0_part35_skel
  simp only [Prog.lift, Prog.bind_op, Prog.bind_ret, Prog.pure_eq_ret]
  refine chain0 ?_
  refine chain (send_ag m K c 31 rfl rfl (by decide) (by decide) (by decide) (by decide) (devs_eq 31 c) rfl rfl (sOff_eq 31 c) rfl) ?_
  refine chain (recv_step m K c 28 rfl rfl rfl rfl (by decide) (by decide)) ?_
  refine chain (load_all m K c 0 (by decide) (by decide) rfl rfl) ?_
  refine chainV (load_out m K c) fun _ => ?_
  refine chain (store_out m K c rfl rfl rfl rfl) ?_
  refine chain (recv_step m K c 29 rfl rfl rfl rfl (by decide) (by decide)) ?_
  refine chain (load_all m K c 1 (by decide) (by decide) rfl rfl) ?_
  exact chain_ret_fact c rfl

theorem part36_run {Q : (PUnit) → sProp 𝕄} (v2 : BitVec 32) (v5 : BitVec 32) (v21 : BitVec 32) (v22 : BitVec 32) (v1081 : FVec F S1024x256 .f32) (hv : v1081 = sec S1024x256.size 0 1 (outV m)) :
    St m K c 32 30 16 4 1 0 ⊢ iprop((∀ r, St m K c 32 32 16 4 4 0 -∗ Q r) -∗ run c (k0_part36 x0 h0 x1 h1 oM h2 x3 h3 x4 h4 cM h5 rM h6 gM h7 x8 cc0_scratch6 cc0_scratch7 c v2 v5 v21 v22 v1081) Q) := by
  subst hv
  simp only [k0_part36_eq_skeleton]; unfold k0_part36_skel
  simp only [Prog.lift, Prog.bind_op, Prog.bind_ret, Prog.pure_eq_ret]
  refine chain0 ?_
  refine chainV (load_out m K c) fun _ => ?_
  refine chain (store_out m K c rfl rfl rfl rfl) ?_
  refine chain (recv_step m K c 30 rfl rfl rfl rfl (by decide) (by decide)) ?_
  refine chain (load_all m K c 2 (by decide) (by decide) rfl rfl) ?_
  refine chainV (load_out m K c) fun _ => ?_
  refine chain (store_out m K c rfl rfl rfl rfl) ?_
  refine chain (recv_step m K c 31 rfl rfl rfl rfl (by decide) (by decide)) ?_
  refine chain (load_all m K c 3 (by decide) (by decide) rfl rfl) ?_
  refine chainV (load_out m K c) fun _ => ?_
  refine chain (store_out m K c rfl rfl rfl rfl) ?_
  exact chain_ret c _

end Cert.KernelIdeal.AR

end
-- ==== Proof.KernelIdeal.PartsD.lean ====
/-
# Waiting for the sends, part by part
-/
module

public import proofs.«01_k».proof.Proof.KernelIdeal.Sites

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

variable (x0 : Memref sig .tc .hbm S1024x4096 .f32) (h0 : x0.IsWhole) (x1 : Memref sig .tc .hbm S1024x4096 .f32) (h1 : x1.IsWhole)
  (h2 : oM.IsWhole) (x3 : Memref sig .tc .vmem S1024x512 .f32) (h3 : x3.IsWhole) (x4 : Memref sig .tc .vmem S1024x512 .f32) (h4 : x4.IsWhole)
  (h5 : cM.IsWhole) (h6 : rM.IsWhole) (h7 : gM.IsWhole) (x8 : DmaSems sig S2)

theorem part37_run {Q : (PUnit) → sProp 𝕄}  :
    St m K c 32 32 16 4 4 0 ⊢ iprop((∀ r, St m K c 32 32 16 4 4 4 -∗ Q r) -∗ run c (k0_part37 x0 h0 x1 h1 oM h2 x3 h3 x4 h4 cM h5 rM h6 gM h7 x8 cc0_scratch6 cc0_scratch7 c ) Q) := by
  simp only [k0_part37_eq_skeleton]; unfold k0_part37_skel
  simp only [Prog.lift, Prog.bind_op, Prog.bind_ret, Prog.pure_eq_ret]
  refine chain0 ?_
  refine chain (drain_step m K c 0 rfl rfl rfl rfl (by decide)) ?_
  refine chain (drain_step m K c 1 rfl rfl rfl rfl (by decide)) ?_
  refine chain (drain_step m K c 2 rfl rfl rfl rfl (by decide)) ?_
  refine chain (drain_step m K c 3 rfl rfl rfl rfl (by decide)) ?_
  exact chain_ret c _

theorem part38_run {Q : (PUnit) → sProp 𝕄}  :
    St m K c 32 32 16 4 4 4 ⊢ iprop((∀ r, St m K c 32 32 16 4 4 9 -∗ Q r) -∗ run c (k0_part38 x0 h0 x1 h1 oM h2 x3 h3 x4 h4 cM h5 rM h6 gM h7 x8 cc0_scratch6 cc0_scratch7 c ) Q) := by
  simp only [k0_part38_eq_skeleton]; unfold k0_part38_skel
  simp only [Prog.lift, Prog.bind_op, Prog.bind_ret, Prog.pure_eq_ret]
  refine chain0 ?_
  refine chain (drain_step m K c 4 rfl rfl rfl rfl (by decide)) ?_
  refine chain (drain_step m K c 5 rfl rfl rfl rfl (by decide)) ?_
  refine chain (drain_step m K c 6 rfl rfl rfl rfl (by decide)) ?_
  refine chain (drain_step m K c 7 rfl rfl rfl rfl (by decide)) ?_
  refine chain (drain_step m K c 8 rfl rfl rfl rfl (by decide)) ?_
  exact chain_ret c _

theorem part39_run {Q : (PUnit) → sProp 𝕄}  :
    St m K c 32 32 16 4 4 9 ⊢ iprop((∀ r, St m K c 32 32 16 4 4 13 -∗ Q r) -∗ run c (k0_part39 x0 h0 x1 h1 oM h2 x3 h3 x4 h4 cM h5 rM h6 gM h7 x8 cc0_scratch6 cc0_scratch7 c ) Q) := by
  simp only [k0_part39_eq_skeleton]; unfold k0_part39_skel
  simp only [Prog.lift, Prog.bind_op, Prog.bind_ret, Prog.pure_eq_ret]
  refine chain0 ?_
  refine chain (drain_step m K c 9 rfl rfl rfl rfl (by decide)) ?_
  refine chain (drain_step m K c 10 rfl rfl rfl rfl (by decide)) ?_
  refine chain (drain_step m K c 11 rfl rfl rfl rfl (by decide)) ?_
  refine chain (drain_step m K c 12 rfl rfl rfl rfl (by decide)) ?_
  exact chain_ret c _

theorem part40_run {Q : (PUnit) → sProp 𝕄}  :
    St m K c 32 32 16 4 4 13 ⊢ iprop((∀ r, St m K c 32 32 16 4 4 18 -∗ Q r) -∗ run c (k0_part40 x0 h0 x1 h1 oM h2 x3 h3 x4 h4 cM h5 rM h6 gM h7 x8 cc0_scratch6 cc0_scratch7 c ) Q) := by
  simp only [k0_part40_eq_skeleton]; unfold k0_part40_skel
  simp only [Prog.lift, Prog.bind_op, Prog.bind_ret, Prog.pure_eq_ret]
  refine chain0 ?_
  refine chain (drain_step m K c 13 rfl rfl rfl rfl (by decide)) ?_
  refine chain (drain_step m K c 14 rfl rfl rfl rfl (by decide)) ?_
  refine chain (drain_step m K c 15 rfl rfl rfl rfl (by decide)) ?_
  refine chain (drain_step m K c 16 rfl rfl rfl rfl (by decide)) ?_
  refine chain (drain_step m K c 17 rfl rfl rfl rfl (by decide)) ?_
  exact chain_ret c _

theorem part41_run {Q : (PUnit) → sProp 𝕄}  :
    St m K c 32 32 16 4 4 18 ⊢ iprop((∀ r, St m K c 32 32 16 4 4 23 -∗ Q r) -∗ run c (k0_part41 x0 h0 x1 h1 oM h2 x3 h3 x4 h4 cM h5 rM h6 gM h7 x8 cc0_scratch6 cc0_scratch7 c ) Q) := by
  simp only [k0_part41_eq_skeleton]; unfold k0_part41_skel
  simp only [Prog.lift, Prog.bind_op, Prog.bind_ret, Prog.pure_eq_ret]
  refine chain0 ?_
  refine chain (drain_step m K c 18 rfl rfl rfl rfl (by decide)) ?_
  refine chain (drain_step m K c 19 rfl rfl rfl rfl (by decide)) ?_
  refine chain (drain_step m K c 20 rfl rfl rfl rfl (by decide)) ?_
  refine chain (drain_step m K c 21 rfl rfl rfl rfl (by decide)) ?_
  refine chain (drain_step m K c 22 rfl rfl rfl rfl (by decide)) ?_
  exact chain_ret c _

theorem part42_run {Q : (PUnit) → sProp 𝕄}  :
    St m K c 32 32 16 4 4 23 ⊢ iprop((∀ r, St m K c 32 32 16 4 4 28 -∗ Q r) -∗ run c (k0_part42 x0 h0 x1 h1 oM h2 x3 h3 x4 h4 cM h5 rM h6 gM h7 x8 cc0_scratch6 cc0_scratch7 c ) Q) := by
  simp only [k0_part42_eq_skeleton]; unfold k0_part42_skel
  simp only [Prog.lift, Prog.bind_op, Prog.bind_ret, Prog.pure_eq_ret]
  refine chain0 ?_
  refine chain (drain_step m K c 23 rfl rfl rfl rfl (by decide)) ?_
  refine chain (drain_step m K c 24 rfl rfl rfl rfl (by decide)) ?_
  refine chain (drain_step m K c 25 rfl rfl rfl rfl (by decide)) ?_
  refine chain (drain_step m K c 26 rfl rfl rfl rfl (by decide)) ?_
  refine chain (drain_step m K c 27 rfl rfl rfl rfl (by decide)) ?_
  exact chain_ret c _

end Cert.KernelIdeal.AR

end
-- ==== Proof.KernelIdeal.Body.lean ====
/-
# The body, from what it starts with to what it ends with
-/
module

public import proofs.«01_k».proof.Proof.KernelIdeal.Init
public import proofs.«01_k».proof.Proof.KernelIdeal.PartsA
public import proofs.«01_k».proof.Proof.KernelIdeal.PartsB
public import proofs.«01_k».proof.Proof.KernelIdeal.PartsC
public import proofs.«01_k».proof.Proof.KernelIdeal.PartsD

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## Parts in sequence -/

section Seq

theorem chain_part {α β : Type} {A A' P : sProp 𝕄} {Q : α → sProp 𝕄} {p : Prog (TpuEff nD τ sig (Elt F) Λ₀ .tc) β} {f : β → Prog (TpuEff nD τ sig (Elt F) Λ₀ .tc) α}
    (h : ∀ Q' : β → sProp 𝕄, A ⊢ iprop((∀ r, A' -∗ Q' r) -∗ run (F := F) c p Q')) (h' : ∀ r, iprop(A' ∗ P) ⊢ run c (f r) Q) :
    iprop(A ∗ P) ⊢ run c (p >>= f) Q := by
  unfold run at h h' ⊢
  rw [wp_bind]
  iintro ⟨HA, HP⟩
  iapply (h _) $$ HA
  iintro %r HA
  iapply (h' r)
  isplitl [HA]; · iexact HA
  iexact HP

theorem chain_part_fact {α β : Type} {A A' P : sProp 𝕄} {Q : α → sProp 𝕄} {φ : β → Prop} {p : Prog (TpuEff nD τ sig (Elt F) Λ₀ .tc) β} {f : β → Prog (TpuEff nD τ sig (Elt F) Λ₀ .tc) α}
    (h : ∀ Q' : β → sProp 𝕄, A ⊢ iprop((∀ r, ⌜φ r⌝ -∗ A' -∗ Q' r) -∗ run (F := F) c p Q')) (h' : ∀ r, φ r → iprop(A' ∗ P) ⊢ run c (f r) Q) :
    iprop(A ∗ P) ⊢ run c (p >>= f) Q := by
  unfold run at h h' ⊢
  rw [wp_bind]
  iintro ⟨HA, HP⟩
  iapply (h _) $$ HA
  iintro %r %hr HA
  iapply (h' r hr)
  isplitl [HA]; · iexact HA
  iexact HP

end Seq

/-! ## What a body starts from and ends with -/

/-- What is left aside while the first two parts run. -/
def rest0 : sProp 𝕄 :=
  iprop(bigSep Finset.univ (fun i : Fin 32 => iprop(dutyTok ER (sndC i c) 0 0 ∗ dutyTok ER (rcvC i (pk i c)) 0 0 ∗ atPos ER (sndC i c) 0 ∅ 0))
    ∗ bigSep Finset.univ (unrecv (F := F) c) ∗ (∃ f, cPts (F := F) c Finset.univ fullShare f)
    ∗ bigSep Finset.univ (fun j : Fin 4 => agSt m c (j.val < 0) (ag j.val 0) (ag j.val 0) j) ∗ (∃ f, oPts (F := F) c f))

/-- The body's precondition. -/
def bodyIn : sProp 𝕄 :=
  iprop(recs m K ∗ levAts L lv ∗ (∃ W, owes (c : Thread nD τ) (owed₀ c) W)
    ∗ ((dutyTok ER (inC 0 c) 0 0 ∗ arg0Pts m c ∗ ∃ f, aPts (F := F) c f) ∗ (dutyTok ER (inC 1 c) 0 0 ∗ arg1Pts m c ∗ ∃ f, bPts (F := F) c f))
    ∗ (atPos ER (inC 0 c) 0 ∅ 0 ∗ atPos ER (inC 1 c) 0 ∅ 0)
    ∗ (barTok c 0 ∗ barTok c 1 ∗ barTok c 2 ∗ barTok c 3)
    ∗ (atPos ER (barC c) 0 ∅ 0 ∗ cred (tallyAt (barC c) () 4))
    ∗ rest0 m c)

/-- What the first parts are done with. -/
def doneIn : sProp 𝕄 :=
  iprop(semVal (barC c) 0 ∗ (semVal (inC 0 c) 0 ∗ aPts c (aSlab m c) ∗ arg0Pts m c) ∗ (semVal (inC 1 c) 0 ∗ bPts c (bSlab m c) ∗ arg1Pts m c))

/-- The state before the partial product is stored, but for the accumulating buffer. -/
def preSt : sProp 𝕄 :=
  iprop(recs m K ∗ levAts L lv ∗ (∃ W, owes (c : Thread nD τ) (owed c 0) W)
    ∗ bigSep Finset.univ (unsent (F := F) c) ∗ bigSep Finset.univ (unrecv (F := F) c)
    ∗ bigSep Finset.univ (fun j : Fin 4 => agSt m c (j.val < 0) (ag j.val 0) (ag j.val 0) j) ∗ (∃ f, oPts (F := F) c f))

theorem preSt_St : iprop(preSt m K c ∗ cPts c Finset.univ fullShare (part m c)) ⊢ St m K c 0 0 0 0 0 0 := by
  unfold preSt St outSt
  rw [show ge 0 = Finset.univ from by decide, show lt 0 = ∅ from by decide, show btw 0 0 = ∅ from by decide, BI.bigSep_empty, BI.bigSep_empty, BI.bigSep_empty]
  iintro ⟨⟨Hr, Hl, HO, Hu, HR, HG, ⟨%f, Ho⟩⟩, Hc⟩
  isplitl [Hr]; · iexact Hr
  isplitl [Hl]; · iexact Hl
  isplitl [HO]; · iexact HO
  isplitl [Hu]; · iexact Hu
  isplitl [HR]; · iexact HR
  isplitr; · iempintro
  isplitr; · iempintro
  isplitr; · iempintro
  isplitl [Hc]; · iapply (c_cut m c); iexact Hc
  isplitl [HG]; · iexact HG
  iexists f
  isplitr; · ipureintro; intro x hx; omega
  iexact Ho

/-- With the neighbours' landing regions every transfer can be sent. -/
theorem unsent_all : iprop(bigSep Finset.univ (fun i : Fin 32 => iprop(dutyTok ER (sndC i c) 0 0 ∗ dutyTok ER (rcvC i (pk i c)) 0 0 ∗ atPos ER (sndC i c) 0 ∅ 0))
    ∗ bigSep Finset.univ fun b : Fin 4 => barPay (F := F) b c) ⊢ bigSep Finset.univ (unsent (F := F) c) := by
  rw [bar_regions]
  refine (Entails.of_eq (bigSep_sep' Finset.univ _ _).symm).trans (bs_mono fun i _ => ?_)
  unfold unsent
  iintro ⟨⟨Hs, Hr, Ha⟩, Hd⟩
  isplitl [Hs]; · iexact Hs
  isplitl [Hr]; · iexact Hr
  isplitl [Hd]; · iexact Hd
  iexact Ha

/-! ## The body up to its last waits -/

theorem part43_run {Q : Dev nD → sProp 𝕄}
    (h0 : (Memref.whole main_arg0 : Memref sig .tc .hbm S1024x4096 .f32).IsWhole) (h1 : (Memref.whole main_arg1 : Memref sig .tc .hbm S1024x4096 .f32).IsWhole)
    (h2 : oM.IsWhole) (h3 : aM.IsWhole) (h4 : bM.IsWhole) (h5 : cM.IsWhole) (h6 : rM.IsWhole) (h7 : gM.IsWhole) :
    bodyIn m K c ⊢ iprop((∀ r, ⌜r = c⌝ -∗ (St m K c 32 32 16 4 4 30 ∗ doneIn m c) -∗ Q r)
      -∗ run (F := F) c (k0_part43 (Memref.whole main_arg0) h0 (Memref.whole main_arg1) h1 oM h2 aM h3 bM h4 cM h5 rM h6 gM h7 cc0_scratch5 cc0_scratch6 cc0_scratch7) Q) := by
  simp only [k0_part43_eq_skeleton]; unfold k0_part43_skel
  refine chain0 ?_
  generalize hP : iprop(∀ r, ⌜r = c⌝ -∗ (St m K c 32 32 16 4 4 30 ∗ doneIn m c) -∗ Q r) = P
  -- the first part
  refine (show iprop(bodyIn m K c ∗ P) ⊢ iprop((recs m K ∗ (∃ W, owes (c : Thread nD τ) (owed₀ c) W) ∗ (dutyTok ER (inC 0 c) 0 0 ∗ arg0Pts m c ∗ ∃ f, aPts (F := F) c f)
        ∗ (dutyTok ER (inC 1 c) 0 0 ∗ arg1Pts m c ∗ ∃ f, bPts (F := F) c f) ∗ barTok c 0)
      ∗ (recs m K ∗ levAts L lv ∗ (atPos ER (inC 0 c) 0 ∅ 0 ∗ atPos ER (inC 1 c) 0 ∅ 0) ∗ (barTok c 1 ∗ barTok c 2 ∗ barTok c 3)
        ∗ (atPos ER (barC c) 0 ∅ 0 ∗ cred (tallyAt (barC c) () 4)) ∗ rest0 m c ∗ P)) from ?_).trans
    (chain_part_fact c (fun _ => part1_run m K c h0 h1 h2 h3 h4 h5 h6 h7) ?_)
  · unfold bodyIn
    iintro ⟨⟨#Hr, Hl, HO, ⟨Hi0, Hi1⟩, Hat, ⟨Hb0, Hb⟩, HB, HR⟩, HP⟩
    isplitl [HO Hi0 Hi1 Hb0]
    · isplitr; · iexact Hr
      isplitl [HO]; · iexact HO
      isplitl [Hi0]; · iexact Hi0
      isplitl [Hi1]; · iexact Hi1
      iexact Hb0
    isplitr; · iexact Hr
    isplitl [Hl]; · iexact Hl
    isplitl [Hat]; · iexact Hat
    isplitl [Hb]; · iexact Hb
    isplitl [HB]; · iexact HB
    isplitl [HR]; · iexact HR
    iexact HP
  rintro ⟨d0, v2, v5, v8, v19, v20, v21, v22, v23, v30, c0⟩ ⟨e1, e2⟩
  have e1 : c = d0 := Eq.symm e1
  have e2 : (SemArray.scalar (sig.barrier 0 rfl) : Sems sig S_) = v23 := Eq.symm e2
  subst e1 e2
  -- the second part
  refine (show _ ⊢ iprop((recs m K ∗ levAts L lv ∗ (∃ W, owes (c : Thread nD τ) (owedB c 1) W) ∗ barTok c 1 ∗ barTok c 2 ∗ barTok c 3
        ∗ (atPos ER (barC c) 0 ∅ 0 ∗ cred (tallyAt (barC c) () 4))
        ∗ (atPos ER (inC 0 c) 0 ∅ 0 ∗ cred (tallyAt (inC 0 c) () Nin)) ∗ (atPos ER (inC 1 c) 0 ∅ 0 ∗ cred (tallyAt (inC 1 c) () Nin)))
      ∗ (recs m K ∗ levAts L lv ∗ rest0 m c ∗ P)) from ?_).trans
    (chain_part_fact c (fun _ => part2_run m K c h0 h1 h2 h3 h4 h5 h6 h7 _ _ _ _ _ _ _ _) ?_)
  · iintro ⟨⟨HO, Hc0, Hc1⟩, #Hr, #Hl, ⟨Hat0, Hat1⟩, ⟨Hb1, Hb2, Hb3⟩, HB, HR, HP⟩
    isplitr [HR HP]
    · isplitr; · iexact Hr
      isplitr; · iexact Hl
      isplitl [HO]; · iexact HO
      isplitl [Hb1]; · iexact Hb1
      isplitl [Hb2]; · iexact Hb2
      isplitl [Hb3]; · iexact Hb3
      isplitl [HB]; · iexact HB
      isplitl [Hat0 Hc0]
      · isplitl [Hat0]; · iexact Hat0
        iexact Hc0
      isplitl [Hat1]; · iexact Hat1
      iexact Hc1
    isplitr; · iexact Hr
    isplitr; · iexact Hl
    isplitl [HR]; · iexact HR
    iexact HP
  rintro v59 hv
  -- the third
  refine (show _ ⊢ iprop((preSt m K c ∗ ∃ f, cPts (F := F) c Finset.univ fullShare f) ∗ (doneIn m c ∗ P)) from ?_).trans
    (chain_part c (fun _ => part3_run m K c h0 h1 h2 h3 h4 h5 h6 h7 (preSt_St m K c) _ _ _ _ _ hv) ?_)
  · unfold rest0 preSt doneIn
    iintro ⟨⟨HO, ⟨Hzb, HB⟩, Hd0, Hd1⟩, Hr, Hl, ⟨Hu, HR, Hc, HG, Ho⟩, HP⟩
    isplitr [Hzb Hd0 Hd1 HP]
    · isplitr [Hc]
      · isplitl [Hr]; · iexact Hr
        isplitl [Hl]; · iexact Hl
        isplitl [HO]; · iexact HO
        isplitl [Hu HB]
        · iapply (unsent_all c)
          isplitl [Hu]; · iexact Hu
          iexact HB
        isplitl [HR]; · iexact HR
        isplitl [HG]; · iexact HG
        iexact Ho
      iexact Hc
    isplitr [HP]
    · isplitl [Hzb]; · iexact Hzb
      isplitl [Hd0]; · iexact Hd0
      iexact Hd1
    iexact HP
  rintro ⟨v63, v64, v66, v84⟩
  -- the others
  refine chain_part c (fun _ => part4_run m K c _ _ _ _ _ _ _ _ _ _ _ _ _ _ _ _ _ _ _ _) ?_
  rintro ⟨v102, v120⟩
  refine chain_part_fact c (fun _ => part5_run m K c _ _ _ _ _ _ _ _ _ _ _ _ _ _ _ _ _ _ _ _) ?_
  rintro ⟨v147, v149⟩ hv
  refine chain_part c (fun _ => part6_run m K c _ _ _ _ _ _ _ _ _ _ _ _ _ _ _ _ _ _ _ _ hv) ?_
  rintro v157
  refine chain_part c (fun _ => part7_run m K c _ _ _ _ _ _ _ _ _ _ _ _ _ _ _ _ _ _) ?_
  rintro ⟨v194, v211⟩
  refine chain_part c (fun _ => part8_run m K c _ _ _ _ _ _ _ _ _ _ _ _ _ _ _ _ _ _ _ _) ?_
  rintro v231
  refine chain_part c (fun _ => part9_run m K c _ _ _ _ _ _ _ _ _ _ _ _ _ _ _ _ _ _) ?_
  rintro ⟨v268, v274⟩
  refine chain_part c (fun _ => part10_run m K c _ _ _ _ _ _ _ _ _ _ _ _ _ _ _ _ _ _ _ _) ?_
  rintro ⟨v305, v307⟩
  refine chain_part_fact c (fun _ => part11_run m K c _ _ _ _ _ _ _ _ _ _ _ _ _ _ _ _ _ _ _) ?_
  rintro v336 hv
  refine chain_part c (fun _ => part12_run m K c _ _ _ _ _ _ _ _ _ _ _ _ _ _ _ _ _ _ _ hv) ?_
  rintro v342
  refine chain_part c (fun _ => part13_run m K c _ _ _ _ _ _ _ _ _ _ _ _ _ _ _ _ _ _) ?_
  rintro ⟨v379, v399⟩
  refine chain_part c (fun _ => part14_run m K c _ _ _ _ _ _ _ _ _ _ _ _ _ _ _ _ _ _ _) ?_
  rintro v416
  refine chain_part c (fun _ => part15_run m K c _ _ _ _ _ _ _ _ _ _ _ _ _ _ _ _ _ _ _) ?_
  rintro ⟨v453, v461, v462⟩
  refine chain_part c (fun _ => part16_run m K c _ _ _ _ _ _ _ _ _ _ _ _ _ _ _ _ _ _ _) ?_
  rintro v490
  refine chain_part c (fun _ => part17_run m K c _ _ _ _ _ _ _ _ _ _ _ _ _ _ _ _ _) ?_
  rintro c1_i32_429
  refine chain_part_fact c (fun _ => part18_run m K c _ _ _ _ _ _ _ _ _ _ _ _ _ _ _ _ _ _ _ _) ?_
  rintro ⟨v527, v554, v556⟩ hv
  refine chain_part c (fun _ => part19_run m K c _ _ _ _ _ _ _ _ _ _ _ _ _ _ _ _ _ _ _ _ _ hv) ?_
  rintro v564
  refine chain_part c (fun _ => part20_run m K c _ _ _ _ _ _ _ _ _ _ _ _ _ _ _ _ _) ?_
  rintro _
  refine chain_part c (fun _ => part21_run m K c _ _ _ _ _ _ _ _ _ _ _ _ _ _ _ _ _) ?_
  rintro c8_i32_532
  refine chain_part_fact c (fun _ => part22_run m K c _ _ _ _ _ _ _ _ _ _ _ _ _ _ _ _ _ _ _ _) ?_
  rintro v684 hv
  refine chain_part c (fun _ => part23_run m K c _ _ _ _ _ _ _ _ _ _ _ _ _ _ _ _ _ _ _ _ _ hv) ?_
  rintro v714
  refine chain_part c (fun _ => part24_run m K c _ _ _ _ _ _ _ _ _ _ _ _ _ _ _ _ _ _) ?_
  rintro v746
  refine chain_part c (fun _ => part25_run m K c _ _ _ _ _ _ _ _ _ _ _ _ _ _ _ _ _ _ _ _ _ _) ?_
  rintro v756
  refine chain_part c (fun _ => part26_run m K c _ _ _ _ _ _ _ _ _ _ _ _ _ _ _ _ _ _ _ _) ?_
  rintro ⟨v782, v808⟩
  refine chain_part c (fun _ => part27_run m K c _ _ _ _ _ _ _ _ _ _ _ _ _ _ _ _ _ _ _ _ _) ?_
  rintro ⟨v834, v837, c0_i32_688⟩
  refine chain_part c (fun _ => part28_run m K c _ _ _ _ _ _ _ _ _ _ _ _ _ _ _ _ _ _ _ _ _ _) ?_
  rintro v860
  refine chain_part c (fun _ => part29_run m K c _ _ _ _ _ _ _ _ _ _ _ _ _ _ _ _ _ _ _) ?_
  rintro v886
  refine chain_part c (fun _ => part30_run m K c _ _ _ _ _ _ _ _ _ _ _ _ _ _ _ _ _ _ _ _) ?_
  rintro ⟨v912, v930⟩
  refine chain_part c (fun _ => part31_run m K c _ _ _ _ _ _ _ _ _ _ _ _ _ _ _ _ _ _ _ _) ?_
  rintro v938
  refine chain_part c (fun _ => part32_run m K c _ _ _ _ _ _ _ _ _ _ _ _ _ _ _ _ _ _ _ _ _) ?_
  rintro _
  refine chain_part c (fun _ => part33_run m K c _ _ _ _ _ _ _ _ _ _ _ _ _ _ _ _ _ _ _ _) ?_
  rintro ⟨v1020, v1021⟩
  refine chain_part c (fun _ => part34_run m K c _ _ _ _ _ _ _ _ _ _ _ _ _ _ _ _ _ _ _ _ _ _) ?_
  rintro _
  refine chain_part_fact c (fun _ => part35_run m K c _ _ _ _ _ _ _ _ _ _ _ _ _ _ _ _ _ _) ?_
  rintro v1081 hv
  refine chain_part c (fun _ => part36_run m K c _ _ _ _ _ _ _ _ _ _ _ _ _ _ _ _ _ _ hv) ?_
  rintro _
  refine chain_part c (fun _ => part37_run m K c _ _ _ _ _ _ _ _ _ _ _ _ _ ) ?_
  rintro _
  refine chain_part c (fun _ => part38_run m K c _ _ _ _ _ _ _ _ _ _ _ _ _ ) ?_
  rintro _
  refine chain_part c (fun _ => part39_run m K c _ _ _ _ _ _ _ _ _ _ _ _ _ ) ?_
  rintro _
  refine chain_part c (fun _ => part40_run m K c _ _ _ _ _ _ _ _ _ _ _ _ _ ) ?_
  rintro _
  refine chain_part c (fun _ => part41_run m K c _ _ _ _ _ _ _ _ _ _ _ _ _ ) ?_
  rintro _
  refine chain_part c (fun _ => part42_run m K c _ _ _ _ _ _ _ _ _ _ _ _ _ ) ?_
  rintro _
  simp only [Prog.lift, Prog.bind_op, Prog.bind_ret, Prog.pure_eq_ret]
  refine chain (drain_step m K c 28 rfl rfl rfl rfl (by decide)) ?_
  refine chain (drain_step m K c 29 rfl rfl rfl rfl (by decide)) ?_
  subst hP
  refine (show _ ⊢ iprop((St m K c 32 32 16 4 4 30 ∗ doneIn m c) ∗ _) from ?_).trans (chain_ret_fact (φ := fun r => r = c) c rfl)
  iintro ⟨Hs, Hd, HP⟩
  isplitr [HP]
  · isplitl [Hs]; · iexact Hs
    iexact Hd
  iexact HP

/-! ## The whole body -/

/-- The body's postcondition. -/
def bodyOut : sProp 𝕄 :=
  iprop((∃ W, owes (c : Thread nD τ) 0 W)
    ∗ (semVal (barC c) 0 ∗ semVal (inC 0 c) 0 ∗ semVal (inC 1 c) 0 ∗ bigSep Finset.univ (fun i : Fin 32 => semVal (sndC i c) 0) ∗ bigSep Finset.univ (fun i : Fin 32 => semVal (rcvC i c) 0))
    ∗ (arg0Pts m c ∗ arg1Pts m c)
    ∗ ((∃ f, aPts (F := F) c f) ∗ (∃ f, bPts (F := F) c f) ∗ (∃ f, cPts (F := F) c Finset.univ fullShare f) ∗ (∃ f, rPts (F := F) c Finset.univ fullShare f) ∗ (∃ f, gPts (F := F) c Finset.univ fullShare f))
    ∗ oPts c (outV m))

theorem lt_split (Φ : Fin 32 → sProp 𝕄) : bigSep (lt 32) Φ = iprop(bigSep (lt 16) Φ ∗ bigSep (ge 16) Φ) := by
  rw [show lt 32 = lt 16 ∪ ge 16 from by decide +kernel, BI.bigSep_union (by decide +kernel)]; rfl
theorem recvd_all : bigSep (lt 32) (recvd m c) ⊢ iprop(bigSep Finset.univ (fun i : Fin 32 => semVal (rcvC i c) 0) ∗ bigSep (lt 16) fun i => dstPay m i c) := by
  have h1 : bigSep (lt 32) (recvd m c) = iprop(bigSep (lt 32) (fun i => semVal (rcvC i c) 0) ∗ bigSep (lt 32) fun i => if i.val < 16 then dstPay m i c else iprop(emp)) := bigSep_sep' _ _ _
  rw [h1, lt_split fun i => if i.val < 16 then dstPay m i c else iprop(emp), show lt 32 = Finset.univ from by decide +kernel]
  iintro ⟨Hz, Hp, -⟩
  isplitl [Hz]; · iexact Hz
  ihave H := (bs_mono (T := lt 16) (Φ := fun i => if i.val < 16 then dstPay m i c else iprop(emp)) (Ψ := fun i => dstPay m i c)
    fun i hi => Entails.of_eq (if_pos (Finset.mem_filter.mp hi).2)) $$ Hp
  iexact H
theorem drained_all : bigSep (lt 32) (drained m c) ⊢ iprop(bigSep Finset.univ (fun i : Fin 32 => semVal (sndC i c) 0) ∗ (bigSep (lt 16) fun i => srcPay m i c) ∗ bigSep (ge 16) fun i => srcPay m i c) := by
  have h1 : bigSep (lt 32) (drained m c) = iprop(bigSep (lt 32) (fun i => semVal (sndC i c) 0) ∗ bigSep (lt 32) fun i => srcPay m i c) := bigSep_sep' _ _ _
  rw [h1, lt_split fun i => srcPay m i c, show lt 32 = Finset.univ from by decide +kernel]

theorem St_end : iprop(St m K c 32 32 16 4 4 32 ∗ doneIn m c) ⊢ bodyOut m c := by
  unfold St doneIn bodyOut outSt
  rw [owed_end]
  iintro ⟨⟨-, -, HO, -, -, HRd, -, HD, HA, HG, ⟨%f, %hf, Ho⟩⟩, Hzb, ⟨Hz0, Ha, Hg0⟩, ⟨Hz1, Hb, Hg1⟩⟩
  ihave HRd := (recvd_all m c) $$ HRd
  icases HRd with ⟨HzR, HR⟩
  ihave HD := (drained_all m c) $$ HD
  icases HD with ⟨HzS, HD1, HD2⟩
  isplitl [HO]; · iexact HO
  isplitl [Hzb Hz0 Hz1 HzR HzS]
  · isplitl [Hzb]; · iexact Hzb
    isplitl [Hz0]; · iexact Hz0
    isplitl [Hz1]; · iexact Hz1
    isplitl [HzS]; · iexact HzS
    iexact HzR
  isplitl [Hg0 Hg1]
  · isplitl [Hg0]; · iexact Hg0
    iexact Hg1
  isplitr [Ho]
  · isplitl [Ha]; · iexists _; iexact Ha
    isplitl [Hb]; · iexists _; iexact Hb
    isplitl [HA HD1]
    · iapply (c_join m c)
      isplitl [HA]; · iexact HA
      iexact HD1
    isplitl [HR]; · iapply (r_join m c); iexact HR
    iexists (red m)
    iapply (g_join m c)
    isplitl [HG]; · iexact HG
    iexact HD2
  have e : f = outV m := funext fun x => hf x (by have := col_lt x; omega)
  subst e
  iexact Ho

theorem body_run {Q : PUnit → sProp 𝕄}
    (h0 : (Memref.whole main_arg0 : Memref sig .tc .hbm S1024x4096 .f32).IsWhole) (h1 : (Memref.whole main_arg1 : Memref sig .tc .hbm S1024x4096 .f32).IsWhole)
    (h2 : oM.IsWhole) (h3 : aM.IsWhole) (h4 : bM.IsWhole) (h5 : cM.IsWhole) (h6 : rM.IsWhole) (h7 : gM.IsWhole) :
    bodyIn m K c ⊢ iprop((∀ r, bodyOut m c -∗ Q r)
      -∗ run (F := F) c (cc0_body (Memref.whole main_arg0) h0 (Memref.whole main_arg1) h1 oM h2 aM h3 bM h4 cM h5 rM h6 gM h7 cc0_scratch5 cc0_scratch6 cc0_scratch7) Q) := by
  simp only [cc0_body_eq_skeleton]; unfold cc0_body_skel
  refine chain0 ?_
  refine chain_part_fact c (fun _ => part43_run m K c h0 h1 h2 h3 h4 h5 h6 h7) ?_
  intro d0 e1
  have e1 : c = d0 := Eq.symm e1
  subst e1
  simp only [Prog.lift, Prog.bind_op, Prog.bind_ret, Prog.pure_eq_ret]
  refine sep_assoc.1.trans ?_
  refine chain (drain_step m K c 30 rfl rfl rfl rfl (by decide)) ?_
  refine chain (drain_step m K c 31 rfl rfl rfl rfl (by decide)) ?_
  refine (sep_assoc.2.trans (sep_mono_left (St_end m K c))).trans (chain_ret c _)

end Cert.KernelIdeal.AR

end
-- ==== Proof.KernelIdeal.Cells.lean ====
/-
# The cells at launch, and what their owners are credited
-/
module

public import proofs.«01_k».proof.Proof.KernelIdeal.Body
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## A family over the 67 cells -/

theorem kSnd_injective : Function.Injective kSnd := by decide +kernel
theorem kRcv_injective : Function.Injective kRcv := by decide +kernel

omit [FloatOps F] in
/-- The barrier's, the two input copies', the sends', the receives'. -/
theorem bs_cells (Φ : Fin 67 → sProp 𝕄) : bigSep Finset.univ Φ
    = iprop(Φ 0 ∗ Φ (kIn 0) ∗ Φ (kIn 1) ∗ bigSep Finset.univ (fun i => Φ (kSnd i)) ∗ bigSep Finset.univ fun i => Φ (kRcv i)) := by
  rw [show (Finset.univ : Finset (Fin 67)) = insert 0 (insert (kIn 0) (insert (kIn 1) (Finset.univ.map ⟨kSnd, kSnd_injective⟩ ∪ Finset.univ.map ⟨kRcv, kRcv_injective⟩))) from by decide +kernel,
    BI.bigSep_insert (by decide +kernel), BI.bigSep_insert (by decide +kernel), BI.bigSep_insert (by decide +kernel),
    BI.bigSep_union (by decide +kernel), BI.bigSep_map, BI.bigSep_map]
  rfl

omit [FloatOps F] in
/-- The barrier's, and the 66 that are the kernel's own. -/
theorem bs_succ (Φ : Fin 67 → sProp 𝕄) : bigSep Finset.univ Φ = iprop(Φ 0 ∗ bigSep Finset.univ fun k : Fin 66 => Φ k.succ) := by
  rw [show (Finset.univ : Finset (Fin 67)) = insert 0 (Finset.univ.map (Fin.succEmb 66)) from by decide +kernel,
    BI.bigSep_insert (by decide +kernel), BI.bigSep_map]
  rfl

theorem csem_injective : Function.Injective csem := by
  intro k k' h
  unfold csem at h
  split_ifs at h with h1 h2 h2
  · exact Fin.ext (h1.trans h2.symm)
  · exact SemLoc.dma.inj h

theorem kcell_injective : Function.Injective kcell := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## The kernel's own semaphores, and the runtime's -/

/-- The kernel's own semaphores. -/
def osem (k : Fin 66) : SemLoc sig := .dma (k.succ : Fin 67)

theorem ownSemFacts : Pipeline.OwnSemFacts cfg0.spec osem := by decide +kernel

omit [FloatOps F] in
theorem csem_succ (k : Fin 66) : csem k.succ = osem k := by
  unfold csem osem; exact if_neg (by rw [Fin.val_succ]; omega)

omit [FloatOps F] in
theorem unscopedSems0_eq (c : Dev nD) : (unscopedSems0 c : sProp 𝕄) = semVal (barC c) 0 := by
  unfold unscopedSems0; rw [bigSep_eq_bigSepL_of_eq [SemLoc.reg barS] (by decide +kernel) (by decide)]; rfl

omit [FloatOps F] in
/-- All of a device's counters at zero, cell by cell. -/
theorem sems0_eq (c : Dev nD) :
    iprop(Pipeline.ownSems0 (Ix := Unit) (Name := ℕ) (U := UU) (Lvl := ℕ) (Val := Elt F) (τ := τ) osem c ∗ unscopedSems0 c)
      = (iprop((bigSep Finset.univ fun k : Fin 66 => semVal (kcell (c, k.succ)) 0) ∗ semVal (barC c) 0) : sProp 𝕄) := by
  rw [unscopedSems0_eq]; unfold Pipeline.ownSems0
  congr 1

omit [FloatOps F] in
theorem sems0_cells (c : Dev nD) :
    iprop(Pipeline.ownSems0 (Ix := Unit) (Name := ℕ) (U := UU) (Lvl := ℕ) (Val := Elt F) (τ := τ) osem c ∗ unscopedSems0 c)
      ⊢ (bigSep Finset.univ fun k : Fin 67 => semVal (kcell (c, k)) 0 : sProp 𝕄) := by
  rw [sems0_eq, bs_succ]
  iintro ⟨H, HB⟩
  isplitl [HB]; · iexact HB
  iexact H

omit [FloatOps F] in
/-- They are returned, the barrier's and those of the copies. -/
theorem cells_sems0 (c : Dev nD) :
    (iprop(semVal (barC c) 0 ∗ semVal (inC 0 c) 0 ∗ semVal (inC 1 c) 0 ∗ bigSep Finset.univ (fun i : Fin 32 => semVal (sndC i c) 0) ∗ bigSep Finset.univ fun i : Fin 32 => semVal (rcvC i c) 0) : sProp 𝕄)
      ⊢ iprop(unscopedSems0 c ∗ Pipeline.ownSems0 (Ix := Unit) (Name := ℕ) (U := UU) (Lvl := ℕ) (Val := Elt F) (τ := τ) osem c) := by
  have e : (iprop(semVal (barC c) 0 ∗ semVal (inC 0 c) 0 ∗ semVal (inC 1 c) 0 ∗ bigSep Finset.univ (fun i : Fin 32 => semVal (sndC i c) 0) ∗ bigSep Finset.univ fun i : Fin 32 => semVal (rcvC i c) 0) : sProp 𝕄)
      = bigSep Finset.univ fun k : Fin 67 => semVal (kcell (c, k)) 0 := by
    rw [bs_cells]; simp only [kcell, csem_bar, csem_in, csem_snd, csem_rcv]
  rw [e, bs_succ]
  have e' := sems0_eq (F := F) c
  iintro ⟨HB, H⟩
  ihave HH := (Entails.of_eq e'.symm) $$ [HB H]
  · isplitl [H]; · iexact H
    iexact HB
  icases HH with ⟨H1, H2⟩
  isplitl [H2]; · iexact H2
  iexact H1

/-! ## The launch credit -/

theorem rcv_eq_iff {i k : Fin 32} {a b : Dev nD} : rcvC i a = rcvC k b ↔ i = k ∧ a = b := by
  constructor
  · intro h
    refine ⟨?_, congrArg (fun g : GSem nD τ sig => g.1.1) h⟩
    have h2 : (SemLoc.dma (rcvS i) : SemLoc sig) = .dma (rcvS k) := congrArg Prod.snd h
    have := congrArg role h2
    rw [role_rcv, role_rcv] at this
    exact Role.recv.inj this
  · rintro ⟨rfl, rfl⟩; rfl
theorem bar_eq_iff {a b : Dev nD} : barC a = barC b ↔ a = b :=
  ⟨fun h => congrArg (fun g : GSem nD τ sig => g.1.1) h, fun h => h ▸ rfl⟩
theorem rcv_ne_bar (i : Fin 32) (a b : Dev nD) : rcvC i a ≠ barC b := fun h => by
  have h2 : (SemLoc.dma (rcvS i) : SemLoc sig) = .reg barS := congrArg Prod.snd h
  cases h2

theorem owed_rcv (d c : Dev nD) (i : Fin 32) : owed d 0 (rcvC i c) () = if d = pk i c then Ntr i else 0 := by
  unfold owed
  rw [Finset.sum_apply, Finsupp.finset_sum_apply, Finset.filter_true_of_mem (fun i _ => Nat.zero_le _)]
  rw [Finset.sum_eq_single i]
  · rw [tallyAt_apply]
    by_cases h : d = pk i c
    · subst h; rw [pk_pk, if_pos ⟨rfl, rfl⟩, if_pos rfl]
    · rw [if_neg h, if_neg]
      rintro ⟨h1, -⟩
      exact h (by rw [(rcv_eq_iff.mp h1).2, pk_pk])
  · intro k _ hk
    rw [tallyAt_apply, if_neg]
    rintro ⟨h1, -⟩
    exact hk (rcv_eq_iff.mp h1).1.symm
  · intro h; exact absurd (Finset.mem_univ _) h

theorem owed_bar_zero (d c : Dev nD) : owed d 0 (barC c) () = 0 := by
  unfold owed
  rw [Finset.sum_apply, Finsupp.finset_sum_apply]
  exact Finset.sum_eq_zero fun k _ => by
    rw [tallyAt_apply, if_neg]
    rintro ⟨h1, -⟩
    exact rcv_ne_bar _ _ _ h1.symm

theorem bar_unit (b : ℕ) (hb : b < 4) (d c : Dev nD) : (tallyAt (barC (prt b d)) () 1 : CellTallies nD τ sig Unit) (barC c) () = if d = prt b c then 1 else 0 := by
  rw [tallyAt_apply]
  by_cases h : d = prt b c
  · subst h; rw [prt_prt b hb, if_pos ⟨rfl, rfl⟩, if_pos rfl]
  · rw [if_neg h, if_neg]
    rintro ⟨h1, -⟩
    exact h (by rw [bar_eq_iff.mp h1, prt_prt b hb])

theorem owed₀_rcv (d c : Dev nD) (i : Fin 32) : owed₀ d (rcvC i c) () = if d = pk i c then Ntr i else 0 := by
  unfold owed₀
  rw [Pi.add_apply, Finsupp.add_apply, Pi.add_apply, Finsupp.add_apply, Pi.add_apply, Finsupp.add_apply, Pi.add_apply, Finsupp.add_apply, owed_rcv,
    tallyAt_ne_cell (rcv_ne_bar _ _ _), tallyAt_ne_cell (rcv_ne_bar _ _ _), tallyAt_ne_cell (rcv_ne_bar _ _ _), tallyAt_ne_cell (rcv_ne_bar _ _ _)]
  rfl

theorem owed₀_bar (d c : Dev nD) : owed₀ d (barC c) () = (if d = prt 3 c then 1 else 0) + (if d = prt 2 c then 1 else 0) + (if d = prt 1 c then 1 else 0) + (if d = prt 0 c then 1 else 0) := by
  unfold owed₀
  rw [Pi.add_apply, Finsupp.add_apply, Pi.add_apply, Finsupp.add_apply, Pi.add_apply, Finsupp.add_apply, Pi.add_apply, Finsupp.add_apply, owed_bar_zero,
    bar_unit 3 (by decide), bar_unit 2 (by decide), bar_unit 1 (by decide), bar_unit 0 (by decide), Nat.zero_add]

theorem launch_bar (c : Dev nD) :
    tallyOn (barC c) (launchCredit (Pipeline.owing owed₀) 0 (barC c)) = (tallyAt (barC c) () 4 : CellTallies nD τ sig Unit) := by
  unfold tallyAt; refine congrArg _ (Finsupp.ext fun u => ?_); cases u
  rw [Pipeline.launchCredit_owing, Finsupp.single_eq_same, Finset.sum_congr rfl fun d _ => owed₀_bar d c, Finset.sum_add_distrib, Finset.sum_add_distrib, Finset.sum_add_distrib]
  simp only [Finset.sum_ite_eq', Finset.mem_univ, if_true]

theorem launch_rcv (c : Dev nD) (i : Fin 32) :
    tallyOn (rcvC i c) (launchCredit (Pipeline.owing owed₀) 0 (rcvC i c)) = (tallyAt (rcvC i c) () (Ntr i) : CellTallies nD τ sig Unit) := by
  unfold tallyAt; refine congrArg _ (Finsupp.ext fun u => ?_); cases u
  rw [Pipeline.launchCredit_owing, Finsupp.single_eq_same, Finset.sum_congr rfl fun d _ => owed₀_rcv d c i, Finset.sum_ite_eq', if_pos (Finset.mem_univ _)]

omit [FloatOps F] in
theorem creds (c : Dev nD) :
    (Pipeline.launchCred owed₀ c : sProp 𝕄) ⊢ iprop(cred (tallyAt (barC c) () 4) ∗ bigSep Finset.univ fun i : Fin 32 => cred (tallyAt (rcvC i c) () (Ntr i))) := by
  unfold Pipeline.launchCred
  refine (show _ ⊢ _ from BI.bigSep_subset (Finset.subset_univ (Finset.univ.map ⟨csem, csem_injective⟩))).trans ?_
  rw [BI.bigSep_map, bs_cells]
  simp only [Function.Embedding.coeFn_mk, csem_bar, csem_in, csem_snd, csem_rcv, launch_bar, launch_rcv]
  iintro ⟨HB, -, -, -, HR⟩
  isplitl [HB]; · iexact HB
  iexact HR

end Cert.KernelIdeal.AR

end
-- ==== Proof.KernelIdeal.Fund.lean ====
/-
# The cells set up: invariants, positions and tokens dealt to the devices
-/
module

public import proofs.«01_k».proof.Proof.KernelIdeal.Cells

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## What the launch element holds -/

def ringCells : Finset (GSem nD τ sig) := Finset.univ.map ⟨kcell, kcell_injective⟩

abbrev tokOf (x : (Dev nD × Fin 67) × Fin 4) : GSem nD τ sig × ℕ × Fin 4 := (kcell x.1, 0, x.2)
theorem tokOf_injective : Function.Injective tokOf := by
  rintro ⟨ck, d⟩ ⟨ck', d'⟩ h
  have h1 : ck = ck' := kcell_injective (congrArg Prod.fst h)
  have h2 : d = d' := congrArg (fun y : GSem nD τ sig × ℕ × Fin 4 => y.2.2) h
  rw [h1, h2]
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 := bigSep Finset.univ fun k : Fin 67 => bigSep Finset.univ fun d : Fin 4 => dutyTok ER (kcell (c, k)) 0 d

/-- What the launch element deals device `c`. -/
def G (c : Dev nD) : sProp 𝕄 :=
  iprop((bigSep Finset.univ fun k : Fin 67 => roundState ER (Rd m) (kcell (c, k)) 0)
    ∗ (bigSep Finset.univ fun k : Fin 67 => reached ER (kcell (c, k)) 0) ∗ (bigSep Finset.univ fun k : Fin 67 => atPos ER (kcell (c, k)) 0 ∅ 0) ∗ toks (F := F) c)

theorem fund_cells : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 67 => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks toks; rw [BI.bigSep_map, BI.bigSep_univ_prod, BI.bigSep_univ_prod]; rfl
  have hG : bigSep Finset.univ (G m) = iprop((bigSep Finset.univ fun c : Dev nD => bigSep Finset.univ fun k : Fin 67 => roundState ER (Rd m) (kcell (c, k)) 0)
      ∗ (bigSep Finset.univ fun c : Dev nD => bigSep Finset.univ fun k : Fin 67 => reached ER (kcell (c, k)) 0)
      ∗ (bigSep Finset.univ fun c : Dev nD => bigSep Finset.univ fun k : Fin 67 => atPos ER (kcell (c, k)) 0 ∅ 0) ∗ (bigSep Finset.univ fun c : Dev nD => toks (F := F) c)) := by
    unfold G; rw [bigSep_sep', bigSep_sep', bigSep_sep']
  rw [hG, ← hT, ← hX fun g => roundState ER (Rd m) g 0, ← hX fun g => reached ER g 0, ← hX fun g => atPos ER g 0 ∅ 0]
  exact Rounds.fund ER (Rd m) ringCells ringToks

/-! ## Every cell's invariant -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 67 => iprop(∃ κ : ℕ, cellInv ER (Rd m) κ (kcell (c, k))))
          ∗ (bigSep Finset.univ fun k : Fin 67 => reached ER (kcell (c, k)) 0) ∗ (bigSep Finset.univ fun k : Fin 67 => atPos ER (kcell (c, k)) 0 ∅ 0) ∗ toks (F := F) c) := by
  unfold G
  iintro ⟨Hos, Hus, Hst, Hrest⟩
  ihave Hv := (sems0_cells (F := F) c) $$ [Hos Hus]
  · isplitl [Hos] <;> iassumption
  imod (show iprop((bigSep Finset.univ fun k : Fin 67 => semVal (kcell (c, k)) 0) ∗ bigSep Finset.univ fun k : Fin 67 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bs_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  iexact Hrest

/-! ## The tokens, to the devices that pay -/

/-- A partner is taken once around the mesh. -/
def flip (b : ℕ) (hb : b < 4) : Dev nD ≃ Dev nD := ⟨prt b, prt b, prt_prt b hb, prt_prt b hb⟩

/-- The tokens of device `c`'s own cells' duties. -/
def keepToks (c : Dev nD) : sProp 𝕄 :=
  iprop((bigSep Finset.univ fun b : Fin 4 => dutyTok ER (barC c) 0 b) ∗ dutyTok ER (inC 0 c) 0 0 ∗ dutyTok ER (inC 1 c) 0 0
    ∗ (bigSep Finset.univ fun i : Fin 32 => dutyTok ER (sndC i c) 0 0) ∗ bigSep Finset.univ fun i : Fin 32 => dutyTok ER (rcvC i c) 0 0)
/-- The tokens of the duties device `c` pays. -/
def payToks (c : Dev nD) : sProp 𝕄 :=
  iprop((bigSep Finset.univ fun b : Fin 4 => dutyTok ER (barC (prt b.val c)) 0 b) ∗ dutyTok ER (inC 0 c) 0 0 ∗ dutyTok ER (inC 1 c) 0 0
    ∗ (bigSep Finset.univ fun i : Fin 32 => dutyTok ER (sndC i c) 0 0) ∗ bigSep Finset.univ fun i : Fin 32 => dutyTok ER (rcvC i (pk i c)) 0 0)

theorem toks_keep (c : Dev nD) : toks (F := F) c ⊢ keepToks c := by
  unfold toks keepToks
  rw [bs_cells]; simp only [kcell, csem_bar, csem_in, csem_snd, csem_rcv]
  have one (g : GSem nD τ sig) : (bigSep Finset.univ fun d : Fin 4 => (dutyTok ER g 0 d : sProp 𝕄)) ⊢ dutyTok ER g 0 0 := BI.bigSep_elim (Finset.mem_univ 0)
  iintro ⟨HB, H0, H1, HS, HR⟩
  isplitl [HB]; · iexact HB
  isplitl [H0]; · iapply (one (inC 0 c)); iexact H0
  isplitl [H1]; · iapply (one (inC 1 c)); iexact H1
  isplitl [HS]
  · ihave H := (bs_mono (T := Finset.univ) (Φ := fun i : Fin 32 => bigSep Finset.univ fun d : Fin 4 => dutyTok ER (sndC i c) 0 d) (Ψ := fun i => dutyTok ER (sndC i c) 0 0) fun i _ => one (sndC i c)) $$ HS
    iexact H
  · ihave H := (bs_mono (T := Finset.univ) (Φ := fun i : Fin 32 => bigSep Finset.univ fun d : Fin 4 => dutyTok ER (rcvC i c) 0 d) (Ψ := fun i => dutyTok ER (rcvC i c) 0 0) fun i _ => one (rcvC i c)) $$ HR
    iexact H

omit [FloatOps F] in
/-- A family over devices and duties, each duty's devices renamed by a permutation. -/
theorem bs_rename {I : Type} [Fintype I] [DecidableEq I] (e : I → (Dev nD ≃ Dev nD)) (Φ : Dev nD → I → sProp 𝕄) :
    (bigSep Finset.univ fun c : Dev nD => bigSep Finset.univ fun i : I => Φ c i) = bigSep Finset.univ fun c : Dev nD => bigSep Finset.univ fun i : I => Φ (e i c) i := by
  have sw (Ψ : Dev nD → I → sProp 𝕄) : (bigSep Finset.univ fun c : Dev nD => bigSep Finset.univ fun i : I => Ψ c i) = bigSep Finset.univ fun i : I => bigSep Finset.univ fun c : Dev nD => Ψ c i := by
    rw [← BI.bigSep_univ_prod (fun x : Dev nD × I => Ψ x.1 x.2), ← BI.bigSep_univ_prod (fun x : I × Dev nD => Ψ x.2 x.1), BI.bigSep_univ_equiv (Equiv.prodComm I (Dev nD))]
    rfl
  rw [sw, sw]
  exact BI.bigSep_congr fun i _ => BI.bigSep_univ_equiv (e i) fun c => Φ c i

theorem toks_around : (bigSep Finset.univ fun c : Dev nD => toks (F := F) c) ⊢ bigSep Finset.univ fun c : Dev nD => payToks (F := F) c := by
  refine (bs_mono fun c _ => toks_keep c).trans (Entails.of_eq ?_)
  unfold keepToks payToks
  rw [bigSep_sep', bigSep_sep', bigSep_sep', bigSep_sep', bigSep_sep', bigSep_sep', bigSep_sep', bigSep_sep',
    bs_rename (fun b : Fin 4 => flip b.val b.isLt) (fun c b => dutyTok ER (barC c) 0 b),
    bs_rename (fun i : Fin 32 => (⟨pk i, pk i, pk_pk i, pk_pk i⟩ : Dev nD ≃ Dev nD)) (fun c i => dutyTok ER (rcvC i c) 0 0)]
  first | done | rfl

/-! ## What every device starts from -/

/-- What stays with device `c`: its positions, and the tokens of the duties it pays. -/
def linear (c : Dev nD) : sProp 𝕄 := iprop((bigSep Finset.univ fun k : Fin 67 => atPos ER (kcell (c, k)) 0 ∅ 0) ∗ payToks (F := F) c)

/-- What the global step makes. -/
def G' (c : Dev nD) : sProp 𝕄 := iprop(∃ K, recs m K ∗ linear (F := F) c)

theorem regroup :
    (bigSep Finset.univ fun c : Dev nD => iprop((bigSep Finset.univ fun k : Fin 67 => iprop(∃ κ : ℕ, cellInv ER (Rd m) κ (kcell (c, k))))
          ∗ (bigSep Finset.univ fun k : Fin 67 => reached ER (kcell (c, k)) 0) ∗ (bigSep Finset.univ fun k : Fin 67 => atPos ER (kcell (c, k)) 0 ∅ 0) ∗ toks (F := F) c) : sProp 𝕄)
      ⊢ bigSep Finset.univ (G' m) := by
  rw [bigSep_sep', bigSep_sep', bigSep_sep', ← BI.bigSep_univ_prod (fun ck : Dev nD × Fin 67 => iprop(∃ κ : ℕ, cellInv ER (Rd m) κ (kcell ck))),
    ← BI.bigSep_univ_prod (fun ck : Dev nD × Fin 67 => (reached ER (kcell ck) 0 : sProp 𝕄))]
  iintro ⟨HI, HR, Hat, Htok⟩
  ihave HK := (BI.bigSep_exists_pi Finset.univ (fun (ck : Dev nD × Fin 67) (κ : ℕ) => (cellInv ER (Rd m) κ (kcell ck) : sProp 𝕄))) $$ HI
  icases HK with ⟨%K, HI⟩
  ihave Htk := (toks_around (F := F)) $$ Htok
  ihave HH := (show iprop((bigSep Finset.univ fun ck : Dev nD × Fin 67 => (cellInv ER (Rd m) (K ck) (kcell ck) : sProp 𝕄)) ∗ bigSep Finset.univ fun ck : Dev nD × Fin 67 => (reached ER (kcell ck) 0 : sProp 𝕄)) ⊢ recs m K
    from Entails.of_eq (bigSep_sep' _ _ _).symm) $$ [HI HR]
  · isplitl [HI]; · iexact HI
    iexact HR
  ihave HL := (show iprop((bigSep Finset.univ fun c : Dev nD => bigSep Finset.univ fun k : Fin 67 => (atPos ER (kcell (c, k)) 0 ∅ 0 : sProp 𝕄)) ∗ bigSep Finset.univ fun c : Dev nD => payToks (F := F) c)
    ⊢ bigSep Finset.univ fun c : Dev nD => linear (F := F) c from Entails.of_eq (bigSep_sep' _ _ _).symm) $$ [Hat Htk]
  · isplitl [Hat]; · iexact Hat
    iexact Htk
  iapply (show iprop(recs m K ∗ bigSep Finset.univ fun c : Dev nD => linear (F := F) c) ⊢ bigSep Finset.univ (G' m) from
    bigSep_with_persistent fun c _ => by unfold G'; iintro ⟨H1, H2⟩; iexists K; isplitl [H1] <;> iassumption)
  isplitl [HH]; · iexact HH
  iexact HL

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bs_mono fun c _ => core_alloc m c).trans (bigSep_fupd _ _)).trans (BI.fupd_mono (regroup m))

end Cert.KernelIdeal.AR

end
-- ==== Proof.KernelIdeal.Launch.lean ====
/-
# The launch: the run of the program, and what memory holds after it
-/
module

public import proofs.«01_k».proof.Proof.KernelIdeal.Fund
public import proofs.«01_k».proof.Proof.Gen.KernelIdeal.Points
public import Idealize.ShloMosaic.Lib.Pipeline.CollectiveSegs

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## What the body is handed, and what it leaves -/

/-- The arguments whole. -/
def args (c : Dev nD) : sProp 𝕄 :=
  iprop(((c : Thread nD τ).loc main_arg0 ↦{fullShare} m ((c : Thread nD τ).loc main_arg0)) ∗ ((c : Thread nD τ).loc main_arg1 ↦{fullShare} m ((c : Thread nD τ).loc main_arg1)))

/-- The arguments but for what the input copies read. -/
def argsRest (c : Dev nD) : sProp 𝕄 :=
  iprop(((c : Thread nD τ).loc main_arg0 ↦[Finset.univ \ argSet c]{fullShare} m ((c : Thread nD τ).loc main_arg0))
    ∗ ((c : Thread nD τ).loc main_arg1 ↦[Finset.univ \ argSet c]{fullShare} m ((c : Thread nD τ).loc main_arg1)))

omit [FloatOps F] in
theorem args_split : args m c ⊣⊢ iprop((arg0Pts m c ∗ arg1Pts m c) ∗ argsRest m c) := by
  have h0 := pointsTo_split_subset (nD := nD) (τ := τ) (sig := sig) (Ix := Unit) (Val := Elt F) (Name := ℕ) (U := UU) (Lvl := ℕ) (ℓ := (c : Thread nD τ).loc main_arg0) (q := fullShare)
    (f := m ((c : Thread nD τ).loc main_arg0)) (Finset.subset_univ (argSet c))
  have h1 := pointsTo_split_subset (nD := nD) (τ := τ) (sig := sig) (Ix := Unit) (Val := Elt F) (Name := ℕ) (U := UU) (Lvl := ℕ) (ℓ := (c : Thread nD τ).loc main_arg1) (q := fullShare)
    (f := m ((c : Thread nD τ).loc main_arg1)) (Finset.subset_univ (argSet c))
  unfold args arg0Pts arg1Pts argsRest
  constructor
  · iintro ⟨H0, H1⟩
    ihave H0 := h0.1 $$ H0
    ihave H1 := h1.1 $$ H1
    icases H0 with ⟨H0, R0⟩
    icases H1 with ⟨H1, R1⟩
    isplitl [H0 H1]
    · isplitl [H0] <;> iassumption
    isplitl [R0] <;> iassumption
  · iintro ⟨⟨H0, H1⟩, R0, R1⟩
    isplitl [H0 R0]
    · iapply h0.2
      isplitl [H0] <;> iassumption
    · iapply h1.2
      isplitl [H1] <;> iassumption

/-- The scratch buffers, holding anything. -/
def scratch (c : Dev nD) : sProp 𝕄 :=
  iprop((∃ f, aPts (F := F) c f) ∗ (∃ f, bPts (F := F) c f) ∗ (∃ f, cPts (F := F) c Finset.univ fullShare f)
    ∗ (∃ f, rPts (F := F) c Finset.univ fullShare f) ∗ (∃ f, gPts (F := F) c Finset.univ fullShare f))

/-- What the launch hands device `c`. -/
def start (c : Dev nD) : sProp 𝕄 :=
  iprop(G' m c ∗ levAts L lv ∗ (cred (tallyAt (barC c) () 4) ∗ bigSep Finset.univ fun i : Fin 32 => cred (tallyAt (rcvC i c) () (Ntr i))) ∗ args m c)

def Φ₀ (c : Dev nD) : sProp 𝕄 := iprop(start m c ∗ scratch (F := F) c)
def Φ₁ (c : Dev nD) : sProp 𝕄 :=
  iprop((semVal (barC c) 0 ∗ semVal (inC 0 c) 0 ∗ semVal (inC 1 c) 0 ∗ bigSep Finset.univ (fun i : Fin 32 => semVal (sndC i c) 0) ∗ bigSep Finset.univ fun i : Fin 32 => semVal (rcvC i c) 0)
    ∗ args m c ∗ scratch (F := F) c)

omit [FloatOps F] in
theorem bs_four (Φ : Fin 4 → sProp 𝕄) : bigSep Finset.univ Φ = iprop(Φ 0 ∗ Φ 1 ∗ Φ 2 ∗ Φ 3) := bigSep_univ_eq_bigSepL [0, 1, 2, 3] (by decide) (by decide) Φ

/-- The landing regions, and what of the gathering buffer stays. -/
theorem landing (f : S960x1024.Idx → Elt F .bf16) (g : S1024x1024.Idx → Elt F .bf16) :
    iprop(rPts c Finset.univ fullShare f ∗ gPts c Finset.univ fullShare g)
      ⊢ iprop((bigSep Finset.univ fun b : Fin 4 => barPay (F := F) b (prt b.val c)) ∗ bigSep Finset.univ fun j : Fin 4 => agSt m c (j.val < 0) (ag j.val 0) (ag j.val 0) j) := by
  rw [← regions_bar, show (Finset.univ : Finset (Fin 32)) = lt 32 from by decide +kernel, lt_split]
  iintro ⟨HR, HG⟩
  ihave HR := (r_cut c f) $$ HR
  ihave HG := (g_cut m c g) $$ HG
  icases HG with ⟨H1, H2⟩
  isplitl [HR H2]
  · isplitl [HR]; · iexact HR
    iexact H2
  iexact H1

theorem body_pre : iprop(Φ₀ m c ∗ (∃ W, owes (c : Thread nD τ) (owed₀ c) W) ∗ ∃ f, oPts (F := F) c f) ⊢ iprop(∃ K, bodyIn m K c ∗ argsRest m c) := by
  unfold Φ₀ start scratch G' linear payToks
  rw [bs_cells]
  simp only [kcell, csem_bar, csem_in, csem_snd, csem_rcv]
  iintro ⟨⟨⟨⟨%K, Hrec, ⟨HaB, Ha0, Ha1, HaS, HaR⟩, HtB, Ht0, Ht1, HtS, HtR⟩, Hlev, ⟨HcB, HcR⟩, Hargs⟩, HA, HB, HC, ⟨%fr, Hr⟩, ⟨%fg, Hg⟩⟩, HO, Ho⟩
  iexists K
  ihave Hargs := (args_split m c).1 $$ Hargs
  icases Hargs with ⟨⟨Hg0, Hg1⟩, Hrest⟩
  ihave Hl := (landing m c fr fg) $$ [Hr Hg]
  · isplitl [Hr] <;> iassumption
  icases Hl with ⟨Hbp, Hag⟩
  ihave Hbt := (show iprop((bigSep Finset.univ fun b : Fin 4 => dutyTok ER (barC (prt b.val c)) 0 b) ∗ bigSep Finset.univ fun b : Fin 4 => barPay (F := F) b (prt b.val c))
      ⊢ iprop(barTok (F := F) c 0 ∗ barTok c 1 ∗ barTok c 2 ∗ barTok c 3) from by
    rw [← bigSep_sep', bs_four]; exact BI.Entails.refl _) $$ [HtB Hbp]
  · isplitl [HtB]; · iexact HtB
    iexact Hbp
  ihave Hun := (show iprop((bigSep Finset.univ fun i : Fin 32 => dutyTok ER (sndC i c) 0 0) ∗ (bigSep Finset.univ fun i : Fin 32 => dutyTok ER (rcvC i (pk i c)) 0 0) ∗ bigSep Finset.univ fun i : Fin 32 => atPos ER (sndC i c) 0 ∅ 0)
      ⊢ (bigSep Finset.univ (fun i : Fin 32 => iprop(dutyTok ER (sndC i c) 0 0 ∗ dutyTok ER (rcvC i (pk i c)) 0 0 ∗ atPos ER (sndC i c) 0 ∅ 0)) : sProp 𝕄) from by
    rw [bigSep_sep', bigSep_sep']) $$ [HtS HtR HaS]
  · isplitl [HtS]; · iexact HtS
    isplitl [HtR]; · iexact HtR
    iexact HaS
  ihave Hur := (show iprop((bigSep Finset.univ fun i : Fin 32 => atPos ER (rcvC i c) 0 ∅ 0) ∗ bigSep Finset.univ fun i : Fin 32 => cred (tallyAt (rcvC i c) () (Ntr i)))
      ⊢ (bigSep Finset.univ (unrecv (F := F) c) : sProp 𝕄) from Entails.of_eq (bigSep_sep' _ _ _).symm) $$ [HaR HcR]
  · isplitl [HaR]; · iexact HaR
    iexact HcR
  isplitr [Hrest]
  · unfold bodyIn rest0
    isplitl [Hrec]; · iexact Hrec
    isplitl [Hlev]; · iexact Hlev
    isplitl [HO]; · iexact HO
    isplitl [Ht0 Ht1 Hg0 Hg1 HA HB]
    · isplitl [Ht0 Hg0 HA]
      · isplitl [Ht0]; · iexact Ht0
        isplitl [Hg0] <;> iassumption
      · isplitl [Ht1]; · iexact Ht1
        isplitl [Hg1] <;> iassumption
    isplitl [Ha0 Ha1]
    · isplitl [Ha0] <;> iassumption
    isplitl [Hbt]; · iexact Hbt
    isplitl [HaB HcB]
    · isplitl [HaB] <;> iassumption
    isplitl [Hun]; · iexact Hun
    isplitl [Hur]; · iexact Hur
    isplitl [HC]; · iexact HC
    isplitl [Hag]; · iexact Hag
    iexact Ho
  iexact Hrest

theorem body_post : iprop(bodyOut m c ∗ argsRest m c) ⊢ iprop(Φ₁ m c ∗ (∃ W, owes (c : Thread nD τ) 0 W) ∗ oPts c (outV m)) := by
  unfold bodyOut Φ₁ scratch
  iintro ⟨⟨HO, Hz, Hg, Hs, Ho⟩, Hrest⟩
  isplitr [HO Ho]
  · isplitl [Hz]; · iexact Hz
    isplitr [Hs]
    · iapply (args_split m c).2
      isplitl [Hg]; · iexact Hg
      iexact Hrest
    iexact Hs
  isplitl [HO]; · iexact HO
  iexact Ho

/-! ## The pipeline's data -/

variable (ρ : Dev nD → PrngReg)

def dats (_ : Fin 1) (c : Dev nD) : Dat τ (Elt F) Unit ℕ UU ℕ cfg0 c where
  A w := m ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => owed₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the body is run from and to, as the pipeline states it. -/
theorem body_point (c : Dev nD) : iprop((dats m 0 c).Φ t0_0.castSucc ∗ (dats m 0 c).owesAt () t0_0.castSucc
      ∗ ∃ d, owns (c : Thread nD τ) oM fullShare ((dats m 0 c).before (0 : Fin 1) t0_0 d))
    ⊢ wp frame (wpE (defs₀ (F := F)) 𝒱₀ c none) Set.univ (bodyAt0 t0_0) fun _ =>
      iprop((dats m 0 c).Φ t0_0.succ ∗ (dats m 0 c).owesAt () t0_0.succ ∗ owns (c : Thread nD τ) oM fullShare (outV m)) := by
  simp only [owns_whole_eq]
  rw [show (dats m 0 c).Φ t0_0.castSucc = Φ₀ m c from rfl, show (dats m 0 c).Φ t0_0.succ = Φ₁ m c from rfl]
  iintro ⟨HΦ, HO, ⟨%d, %f, %hf, Ho⟩⟩
  icases HO with ⟨%W, %hW, HO⟩
  ihave H := (body_pre m c) $$ [HΦ HO Ho]
  · isplitl [HΦ]; · iexact HΦ
    isplitl [HO]; · iexists W; iexact HO
    iexists f; iexact Ho
  icases H with ⟨%K, H, Hrest⟩
  iapply (body_run m K c (Memref.isWhole_whole _) (Memref.isWhole_whole _) (Memref.isWhole_whole _) (Memref.isWhole_whole _) (Memref.isWhole_whole _) (Memref.isWhole_whole _) (Memref.isWhole_whole _) (Memref.isWhole_whole _)) $$ H
  iintro %r H
  ihave H := (body_post m c) $$ [H Hrest]
  · isplitl [H] <;> iassumption
  icases H with ⟨HΦ, ⟨%W', HO⟩, Ho⟩
  isplitl [HΦ]; · iexact HΦ
  isplitl [HO]
  · iexists W'
    isplitr; · ipureintro; exact fun _ _ => Or.inl trivial
    iexact HO
  iexists (outV m); isplitr; · (ipureintro; rfl)
  iexact Ho

theorem body_obligation (c : Dev nD) : BodyObligation (dats (F := F) m 0 c) (defs₀ (F := F)) 𝒱₀ () Set.univ := fun t => by
  rw [fin_N0 t, bigSep_W0, bigSep_W0]
  exact body_point m c

/-! ## The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  rw [Pipeline.unscopedRestP_none, unscopedRest0_eq]
  iintro ⟨Hargs, Hlev, Hcr, -, HG⟩
  ihave Hc := (creds (F := F) c) $$ Hcr
  imodintro
  unfold start args
  isplitl
  · isplitl [HG]; · iexact HG
    isplitl [Hlev]; · iexact Hlev
    isplitl [Hc]; · iexact Hc
    iexact Hargs
  · iempintro

omit [FloatOps F] in
theorem scratch_eq (c : Dev nD) : (Pipeline.scopedRest (Ix := Unit) (Name := ℕ) (U := UU) (Lvl := ℕ) (Val := Elt F) cfg0.spec c : sProp 𝕄) = scratch (F := F) c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl, scratch_eq]
  unfold Φ₁
  iintro ⟨Hz, Hargs, Hs⟩
  ihave Hz := (cells_sems0 c) $$ Hz
  icases Hz with ⟨Hu, Ho⟩
  isplitl [Hu Hargs]
  · isplitl [Hu] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by revert s; revert w; decide +kernel) _ (by
      rcases t with ⟨_ | _, ht⟩
      · exact Or.inl rfl
      · exact Or.inr rfl)

/-- What is read of a device at the end: its barrier's counter, and the arguments. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_arg1) = m ((c : Thread nD τ).loc main_arg1)

theorem exit_read (c : Dev nD) (s' : Phys nD τ sig (Elt F)) :
    iprop((unscopedSems0 c ∗ args m c) ∗ emp ∗ SI s') ⊢ (|={Set.univ}=> iprop(⌜QY m c s'.mem⌝ ∗ SI s') : sProp 𝕄) := by
  unfold args
  iintro ⟨⟨Hu, H0, H1⟩, -, HSI⟩
  ihave %h0 := (SI_pointsTo_agree (I := Finset.univ) (ℓ := (c : Thread nD τ).loc main_arg0) (q := fullShare) (f := m ((c : Thread nD τ).loc main_arg0))) $$ [HSI H0]
  · isplitl [HSI] <;> iassumption
  ihave %h1 := (SI_pointsTo_agree (I := Finset.univ) (ℓ := (c : Thread nD τ).loc main_arg1) (q := fullShare) (f := m ((c : Thread nD τ).loc main_arg1))) $$ [HSI H1]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => h0 i (Finset.mem_univ i), funext fun i => h1 i (Finset.mem_univ i)⟩
  iexact HSI

/-! ## The run -/

/-- A result array at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxRecDepth 8000 in
/-- On the compiled mesh, for any float values, from any memory with zero counters: the kernel terminates, and at the end
    every device has the computed result, its arguments unchanged and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := QY m) (hY := exit_read m)
    (hQ := fun _ h hs => ⟨fun c => ⟨fun w => (h c).1 w, (h c).2.2⟩, sem_eq_zero hs fun c => (h c).2.2.1⟩)

end Cert.KernelIdeal.AR

end
-- ==== Proof.KernelIdeal.Result.lean ====
/-
# What the run leaves: the result and the arguments
-/
module

public import proofs.«01_k».proof.Proof.KernelIdeal.Launch

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

variable (ρ : Dev nD → PrngReg)

/-- The result window's one block is the whole array: it ends holding what the body left. -/
theorem finalA_eq (c : Dev nD) : finalA m c (0 : Fin 1) = outV m := by
  have h : (win0_0.blk (0 : Fin 1)).view.read (Elt F) (finalA m c (0 : Fin 1)) = outV m := by
    unfold finalA
    rw [show cfg0.N = ((0 : Fin 1) : Fin cfg0.N).val + 1 from rfl, (dats m 0 c).arrAt_succ (0 : Fin 1) (0 : Fin 1)]
    rw [show (cfg0.win (0 : Fin 1)).flush (0 : Fin 1) = true from by decide, if_pos rfl]
    exact View.read_write_univ _ _
  refine Eq.trans (Eq.symm ?_) h
  exact Memref.read_access_unit_zero (Elt F) main_v1 (funext fun a => by fin_cases a <;> rfl) _ _

/-- Termination, the arguments unchanged, every counter at zero. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2.2, h.2⟩) (run_main m ρ)

/-- Every device ends with the same result. -/
theorem value_run : θ_run defs (onTc (τ := τ) (main (F := F))) ⟨m, fun _ => 0, ρ⟩ (fun r => ∀ c : Dev nD,
    r.2.mem ((c.tc : Thread nD τ).loc main_v1) = outV m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 (0 : Fin 1)).trans (finalA_eq m c), (h.1 c).2.2⟩) (run_main m ρ)

end Cert.KernelIdeal.AR

end
-- ==== Proof.KernelIdeal.Ideal.lean ====
/-
# The value over the extended reals

The sixteen devices' slabs are the sixteen blocks of 512 columns of the whole arrays, each once (`blk`). Over the
extended reals a device's partial product is the contraction over its slab, four exchanges add up the partial products
of all sixteen devices (`orbit_perm`), and so every element of the kernel's result is the contraction over all 8192
columns: the reference's product.
-/
module

public import proofs.«01_k».proof.Proof.KernelIdeal.Result
public import proofs.«01_k».proof.Proof.Gen.ReferenceIdeal
public import Idealize.ShloMosaic.Lib.Pointwise
public import Idealize.ShloMosaic.Lib.Layout

@[expose] public section

set_option maxRecDepth 16384

noncomputable section

namespace Cert.KernelIdeal.AR

open Cert.KernelIdeal Cert.KernelIdeal.Gen
open Idealize.ShloMosaic Idealize.ShloMosaic.TcCoe

/-! ## Every device is added up once -/

/-- The devices whose partial products device `c` has added up of column block `j` before step `s`. -/
def orbit (j : ℕ) : ℕ → Dev nD → List (Dev nD)
  | 0, c => [c]
  | s + 1, c => orbit j s c ++ orbit j s (prt (mk j s) c)

/-- After the four steps these are all devices, each once. -/
theorem orbit_perm : ∀ (j : Fin 4) (c : Dev nD), (orbit j.val 4 c).Perm (List.finRange nD) := by decide +kernel

variable (m : (ℓ : Loc nD τ sig) → Buf (Elt Ideal) ℓ)

theorem acc_orbit (j s : ℕ) (c : Dev nD) (x : S1024x1024.Idx) :
    (acc (F := Ideal) m j s c x : EReal) = ((orbit j s c).map fun d => (part (F := Ideal) m d x : EReal)).sum := by
  induction s generalizing c with
  | zero => exact (by simp [acc, orbit])
  | succ s ih =>
    rw [orbit, List.map_append, List.sum_append, ← ih, ← ih]
    rfl

theorem acc_all (j : ℕ) (hj : j < 4) (c : Dev nD) (x : S1024x1024.Idx) :
    (acc (F := Ideal) m j 4 c x : EReal) = ∑ d : Dev nD, (part (F := Ideal) m d x : EReal) := by
  rw [acc_orbit, ((orbit_perm ⟨j, hj⟩ c).map _).sum_eq, Fin.sum_univ_def]

/-! ## The slabs tile the whole arrays -/

/-- The block of 512 columns of the whole arrays that device `c`'s slab is. -/
def blk (c : Dev nD) : Fin 16 := ⟨(c.val / 4 % 2 * 8 + (c.val / 8 % 2 * 4 + c.val % 4)) % 16, Nat.mod_lt _ (by decide)⟩

theorem blk_bij : Function.Bijective blk :=
  (Fintype.bijective_iff_injective_and_card blk).2 ⟨by decide +kernel, rfl⟩

/-- Column `k` of block `d` in the whole arrays. -/
def col (d : Fin 16) (k : Fin 512) : Fin 8192 := ⟨512 * d.val + k.val, by omega⟩

theorem off_row : ∀ c : Dev nD, k0_off1 c 0 = 0 := by decide +kernel

theorem off_col : ∀ c : Dev nD,
    ((Layout.meshBlock (r := 2) [2, 2, 4] ![[], [1]] c) 1).val * 4096 + k0_off1 c 1 = 512 * (blk c).val := by decide +kernel

private theorem arith0 {o v : ℕ} (h : o = 0) : 0 * 1024 + (o + 1 * v) = v := by omega

private theorem arith1 {b o t v : ℕ} (h : b + o = t) : b + (o + 1 * v) = t + v := by omega

/-- A slab is a block of 512 columns of the whole array. -/
theorem aSlab_eq (A : (⟨2, ![1024, 8192]⟩ : Shape).Idx → EReal) (c : Dev nD)
    (hA : m ((c : Thread nD τ).loc main_arg0) = Layout.blockN ⟨2, ![1024, 4096]⟩ ⟨2, ![1024, 8192]⟩ (Layout.meshBlock [2, 2, 4] ![[], [1]] c) A)
    (x : S1024x512.Idx) : aSlab (F := Ideal) m c x = A (ix2 (x 0) (col (blk c) (x 1))) := by
  unfold aSlab
  rw [hA]
  show A _ = A _
  congr 1
  funext a
  apply Fin.ext
  have h0 := off_row c
  have h1 := off_col c
  fin_cases a
  · show 0 * 1024 + (k0_off1 c 0 + 1 * (x 0).val) = (x 0).val
    exact arith0 h0
  · show ((Layout.meshBlock (r := 2) [2, 2, 4] ![[], [1]] c) 1).val * 4096 + (k0_off1 c 1 + 1 * (x 1).val) = 512 * (blk c).val + (x 1).val
    exact arith1 h1

theorem bSlab_eq (B : (⟨2, ![1024, 8192]⟩ : Shape).Idx → EReal) (c : Dev nD)
    (hA : m ((c : Thread nD τ).loc main_arg1) = Layout.blockN ⟨2, ![1024, 4096]⟩ ⟨2, ![1024, 8192]⟩ (Layout.meshBlock [2, 2, 4] ![[], [1]] c) B)
    (x : S1024x512.Idx) : bSlab (F := Ideal) m c x = B (ix2 (x 0) (col (blk c) (x 1))) := by
  unfold bSlab
  rw [hA]
  show B _ = B _
  congr 1
  funext a
  apply Fin.ext
  have h0 := off_row c
  have h1 := off_col c
  fin_cases a
  · show 0 * 1024 + (k0_off1 c 0 + 1 * (x 0).val) = (x 0).val
    exact arith0 h0
  · show ((Layout.meshBlock (r := 2) [2, 2, 4] ![[], [1]] c) 1).val * 4096 + (k0_off1 c 1 + 1 * (x 1).val) = 512 * (blk c).val + (x 1).val
    exact arith1 h1

/-! ## The contractions -/

/-- A device's partial product, element by element: the contraction over its 512 columns. -/
theorem pay_eq (a b : S1024x512.Idx → EReal) (x : S1024x1024.Idx) :
    (k0_pay1 (F := Ideal) a b x : EReal) = ∑ k : Fin 512, a (ix2 (x 0) k) * b (ix2 (x 1) k) := by
  unfold k0_pay1
  pointwise

/-- The reference's product, element by element: the contraction over all 8192 columns. -/
theorem ref_eq (A B : (⟨2, ![1024, 8192]⟩ : Shape).Idx → EReal) (x : S1024x1024.Idx) :
    (Host.dotGeneral (F := Ideal) (φ₁ := .f32) (φ₂ := .f32) Cert.ReferenceIdeal.dot_S1024x8192_S8192x1024_S1024x1024_1_0_0_1_n_n none A
        (transpose Cert.ReferenceIdeal.S8192x1024 [1, 0] B Cert.ReferenceIdeal.Gen.facts.transposes_S1024x8192_S8192x1024_1_0) x : EReal)
      = ∑ k : Fin 8192, A (ix2 (x 0) k) * B (ix2 (x 1) k) := by
  pointwise

/-- A sum over all columns, by blocks of 512, each device's block once. -/
theorem sum_blk (f : Fin 8192 → EReal) : ∑ k, f k = ∑ d : Dev nD, ∑ k : Fin 512, f (col (blk d) k) := by
  rw [blk_bij.sum_comp fun d => ∑ k : Fin 512, f (col d k), ← Fintype.sum_prod_type',
    ← (finProdFinEquiv (m := 16) (n := 512)).sum_comp f]
  refine Finset.sum_congr rfl fun p _ => congrArg f (Fin.ext ?_)
  show p.2.val + 512 * p.1.val = 512 * p.1.val + p.2.val
  omega

/-- The kernel's result is the reference's product of the whole arrays. -/
theorem out_eq (A B : (⟨2, ![1024, 8192]⟩ : Shape).Idx → EReal)
    (h : ∀ c : Dev nD,
      m ((c : Thread nD τ).loc main_arg0) = Layout.blockN ⟨2, ![1024, 4096]⟩ ⟨2, ![1024, 8192]⟩ (Layout.meshBlock [2, 2, 4] ![[], [1]] c) A
      ∧ m ((c : Thread nD τ).loc main_arg1) = Layout.blockN ⟨2, ![1024, 4096]⟩ ⟨2, ![1024, 8192]⟩ (Layout.meshBlock [2, 2, 4] ![[], [1]] c) B) :
    outV (F := Ideal) m = Host.dotGeneral (F := Ideal) (φ₁ := .f32) (φ₂ := .f32) Cert.ReferenceIdeal.dot_S1024x8192_S8192x1024_S1024x1024_1_0_0_1_n_n none A
        (transpose Cert.ReferenceIdeal.S8192x1024 [1, 0] B Cert.ReferenceIdeal.Gen.facts.transposes_S1024x8192_S8192x1024_1_0) := by
  funext x
  refine Eq.trans ?_ (ref_eq A B x).symm
  have hx : (x 1).val < 1024 := (x 1).isLt
  show (acc (F := Ideal) m ((x 1).val / 256) 4 (owner ((x 1).val / 256) ((x 0).val / 64)) x : EReal) = _
  rw [acc_all m _ (by omega), sum_blk]
  refine Finset.sum_congr rfl fun d _ => (pay_eq _ _ x).trans (Finset.sum_congr rfl fun k _ => ?_)
  rw [aSlab_eq m A d (h d).1, bSlab_eq m B d (h d).2]
  rfl

end Cert.KernelIdeal.AR

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Result
public import proofs.«01_k».proof.Proof.KernelIdeal.Result
public import proofs.«01_k».proof.Proof.KernelIdeal.Ideal
public import Idealize.ShloMosaic.Adequacy
public import Idealize.ShloMosaic.Init

@[expose] public section

noncomputable section

namespace Cert.Proof

open Idealize.ShloMosaic Idealize.SL.Sem Cert.Kernel

/-- The kernel runs, its arguments end unchanged, and every counter ends at zero. -/
theorem frame_kernel : Cert.quiescent_Kernel (hKernel := Cert.Kernel.Gen.facts) := fun m g _ => Cert.Kernel.AR.frame_run (F := Bits) m g

/-- So does the ideal program. -/
theorem frame_ideal : Cert.quiescent_KernelIdeal (hKernelIdeal := Cert.KernelIdeal.Gen.facts) := fun m g _ => Cert.KernelIdeal.AR.frame_run (F := Ideal) m g

/-- The kernel's result on every device is the reference's: the product of the whole arrays. -/
theorem algebraic : Cert.algebraic_KernelIdeal_ReferenceIdeal (hKernelIdeal := Cert.KernelIdeal.Gen.facts)
    (hReferenceIdeal := Cert.ReferenceIdeal.Gen.facts) := fun m g m' g' _ h =>
  ⟨_, (θ_run Cert.KernelIdeal.defs _ _).mono
      (fun _ hr c => ⟨(hr c).1.trans (Cert.KernelIdeal.AR.out_eq m _ _ h), (hr c).2⟩)
      (Cert.KernelIdeal.AR.value_run (F := Ideal) m g),
    (θ_run Cert.ReferenceIdeal.defs _ _).mono (fun _ hr => hr 0) (Cert.ReferenceIdeal.Value.run (F := Ideal) m' g')⟩

/-- So does the reference, which has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- All the claims: the three frames, `preserves` (no operation was rewritten) and `algebraic`. -/
theorem claim : Cert.Claim := ⟨Cert.Kernel.Gen.facts, Cert.KernelIdeal.Gen.facts, Cert.ReferenceIdeal.Gen.facts,
  frame_kernel, frame_ideal, frame_reference, trivial, algebraic⟩

end Cert.Proof

end
